-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Rw (m : (ℓ : Loc Cert.Rw.nD Cert.Rw.τ Cert.Rw.sig) → Buf (Elt Bits) ℓ) : Prop :=
  True

def Pre_RwIdeal (m : (ℓ : Loc Cert.RwIdeal.nD Cert.RwIdeal.τ Cert.RwIdeal.sig) → Buf (Elt Ideal) ℓ) : Prop :=
  True

def Pre_RwRefIdeal (m : (ℓ : Loc Cert.RwRefIdeal.nD Cert.RwRefIdeal.τ Cert.RwRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_ReadoutRefIdeal (m : (ℓ : Loc Cert.ReadoutRefIdeal.nD Cert.ReadoutRefIdeal.τ Cert.ReadoutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_ctx [hPre_finite_ctx : Cert.Pre_finite_ctx.Facts] (m : (ℓ : Loc Cert.CtxIdeal.nD Cert.CtxIdeal.τ Cert.CtxIdeal.sig) → Buf (Elt Ideal) ℓ) : Prop :=
  ∀ c : Dev Cert.CtxIdeal.nD,
    (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_ctx [hPre_finite_ctx : Cert.Pre_finite_ctx.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))) = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsIdeal_finite_heads [hPre_finite_heads : Cert.Pre_finite_heads.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6)) (m ((c.tc : Thread Cert.HeadsIdeal.nD Cert.HeadsIdeal.τ).loc Cert.HeadsIdeal.main_arg7))) = (fun _ => 1#1)

def Pre_HeadsRefIdeal (m : (ℓ : Loc Cert.HeadsRefIdeal.nD Cert.HeadsRefIdeal.τ Cert.HeadsRefIdeal.sig) → Buf (Elt Ideal) ℓ) : Prop :=
  True

def Pre_HeadsRefIdeal_finite_heads [hPre_finite_heads : Cert.Pre_finite_heads.Facts] (m : (ℓ : Loc Cert.HeadsRefIdeal.nD Cert.HeadsRefIdeal.τ Cert.HeadsRefIdeal.sig) → Buf (Elt Ideal) ℓ) : Prop :=
  ∀ c : Dev Cert.HeadsRefIdeal.nD,
    (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6)) (m ((c.tc : Thread Cert.HeadsRefIdeal.nD Cert.HeadsRefIdeal.τ).loc Cert.HeadsRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Rw [hRw : Cert.Rw.Facts] : Prop :=
  ∀ (m : (ℓ : Loc Cert.Rw.nD Cert.Rw.τ Cert.Rw.sig) → Buf (Elt Bits) ℓ) (g : Dev Cert.Rw.nD → PrngReg), Pre_Rw m →
    θ_run (Cert.Rw.defs (F := Bits)) (onTc (τ := Cert.Rw.τ) (Cert.Rw.main (F := Bits))) ⟨m, fun _ => 0, g⟩ (fun r => (∀ c : Dev Cert.Rw.nD,
      r.2.mem ((c.tc : Thread Cert.Rw.nD Cert.Rw.τ).loc Cert.Rw.main_arg0) = m ((c.tc : Thread Cert.Rw.nD Cert.Rw.τ).loc Cert.Rw.main_arg0)
      ∧ r.2.mem ((c.tc : Thread Cert.Rw.nD Cert.Rw.τ).loc Cert.Rw.main_arg1) = m ((c.tc : Thread Cert.Rw.nD Cert.Rw.τ).loc Cert.Rw.main_arg1))
      ∧ r.2.sem = fun _ => 0)

def quiescent_RwIdeal [hRwIdeal : Cert.RwIdeal.Facts] : Prop :=
  ∀ (m : (ℓ : Loc Cert.RwIdeal.nD Cert.RwIdeal.τ Cert.RwIdeal.sig) → Buf (Elt Ideal) ℓ) (g : Dev Cert.RwIdeal.nD → PrngReg), Pre_RwIdeal m →
    θ_run (Cert.RwIdeal.defs (F := Ideal)) (onTc (τ := Cert.RwIdeal.τ) (Cert.RwIdeal.main (F := Ideal))) ⟨m, fun _ => 0, g⟩ (fun r => (∀ c : Dev Cert.RwIdeal.nD,
      r.2.mem ((c.tc : Thread Cert.RwIdeal.nD Cert.RwIdeal.τ).loc Cert.RwIdeal.main_arg0) = m ((c.tc : Thread Cert.RwIdeal.nD Cert.RwIdeal.τ).loc Cert.RwIdeal.main_arg0)
      ∧ r.2.mem ((c.tc : Thread Cert.RwIdeal.nD Cert.RwIdeal.τ).loc Cert.RwIdeal.main_arg1) = m ((c.tc : Thread Cert.RwIdeal.nD Cert.RwIdeal.τ).loc Cert.RwIdeal.main_arg1))
      ∧ r.2.sem = fun _ => 0)

def quiescent_RwRefIdeal [hRwRefIdeal : Cert.RwRefIdeal.Facts] : Prop :=
  ∀ (m : (ℓ : Loc Cert.RwRefIdeal.nD Cert.RwRefIdeal.τ Cert.RwRefIdeal.sig) → Buf (Elt Ideal) ℓ) (g : Dev Cert.RwRefIdeal.nD → PrngReg), Pre_RwRefIdeal m →
    θ_run (Cert.RwRefIdeal.defs (F := Ideal)) (onTc (τ := Cert.RwRefIdeal.τ) (Cert.RwRefIdeal.main (F := Ideal))) ⟨m, fun _ => 0, g⟩ (fun r => (∀ c : Dev Cert.RwRefIdeal.nD,
      r.2.mem ((c.tc : Thread Cert.RwRefIdeal.nD Cert.RwRefIdeal.τ).loc Cert.RwRefIdeal.main_arg0) = m ((c.tc : Thread Cert.RwRefIdeal.nD Cert.RwRefIdeal.τ).loc Cert.RwRefIdeal.main_arg0)
      ∧ r.2.mem ((c.tc : Thread Cert.RwRefIdeal.nD Cert.RwRefIdeal.τ).loc Cert.RwRefIdeal.main_arg1) = m ((c.tc : Thread Cert.RwRefIdeal.nD Cert.RwRefIdeal.τ).loc Cert.RwRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2)
      ∧ r.2.mem ((c.tc : Thread Cert.Mods.nD Cert.Mods.τ).loc Cert.Mods.main_arg3) = m ((c.tc : Thread Cert.Mods.nD Cert.Mods.τ).loc Cert.Mods.main_arg3))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
      ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2)
      ∧ r.2.mem ((c.tc : Thread Cert.ModsRefIdeal.nD Cert.ModsRefIdeal.τ).loc Cert.ModsRefIdeal.main_arg3) = m ((c.tc : Thread Cert.ModsRefIdeal.nD Cert.ModsRefIdeal.τ).loc Cert.ModsRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3)
      ∧ r.2.mem ((c.tc : Thread Cert.Readout.nD Cert.Readout.τ).loc Cert.Readout.main_arg4) = m ((c.tc : Thread Cert.Readout.nD Cert.Readout.τ).loc Cert.Readout.main_arg4)
      ∧ r.2.mem ((c.tc : Thread Cert.Readout.nD Cert.Readout.τ).loc Cert.Readout.main_arg5) = m ((c.tc : Thread Cert.Readout.nD Cert.Readout.τ).loc Cert.Readout.main_arg5)
      ∧ r.2.mem ((c.tc : Thread Cert.Readout.nD Cert.Readout.τ).loc Cert.Readout.main_arg6) = m ((c.tc : Thread Cert.Readout.nD Cert.Readout.τ).loc Cert.Readout.main_arg6)
      ∧ r.2.mem ((c.tc : Thread Cert.Readout.nD Cert.Readout.τ).loc Cert.Readout.main_arg7) = m ((c.tc : Thread Cert.Readout.nD Cert.Readout.τ).loc Cert.Readout.main_arg7))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
      ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6)
      ∧ r.2.mem ((c.tc : Thread Cert.ReadoutIdeal.nD Cert.ReadoutIdeal.τ).loc Cert.ReadoutIdeal.main_arg7) = m ((c.tc : Thread Cert.ReadoutIdeal.nD Cert.ReadoutIdeal.τ).loc Cert.ReadoutIdeal.main_arg7))
      ∧ r.2.sem = fun _ => 0)

def quiescent_ReadoutRefIdeal [hReadoutRefIdeal : Cert.ReadoutRefIdeal.Facts] : Prop :=
  ∀ (m : (ℓ : Loc Cert.ReadoutRefIdeal.nD Cert.ReadoutRefIdeal.τ Cert.ReadoutRefIdeal.sig) → Buf (Elt Ideal) ℓ) (g : Dev Cert.ReadoutRefIdeal.nD → PrngReg), Pre_ReadoutRefIdeal m →
    θ_run (Cert.ReadoutRefIdeal.defs (F := Ideal)) (onTc (τ := Cert.ReadoutRefIdeal.τ) (Cert.ReadoutRefIdeal.main (F := Ideal))) ⟨m, fun _ => 0, g⟩ (fun r => (∀ c : Dev Cert.ReadoutRefIdeal.nD,
      r.2.mem ((c.tc : Thread Cert.ReadoutRefIdeal.nD Cert.ReadoutRefIdeal.τ).loc Cert.ReadoutRefIdeal.main_arg0) = m ((c.tc : Thread Cert.ReadoutRefIdeal.nD Cert.ReadoutRefIdeal.τ).loc Cert.ReadoutRefIdeal.main_arg0)
      ∧ r.2.mem ((c.tc : Thread Cert.ReadoutRefIdeal.nD Cert.ReadoutRefIdeal.τ).loc Cert.ReadoutRefIdeal.main_arg1) = m ((c.tc : Thread Cert.ReadoutRefIdeal.nD Cert.ReadoutRefIdeal.τ).loc Cert.ReadoutRefIdeal.main_arg1)
      ∧ r.2.mem ((c.tc : Thread Cert.ReadoutRefIdeal.nD Cert.ReadoutRefIdeal.τ).loc Cert.ReadoutRefIdeal.main_arg2) = m ((c.tc : Thread Cert.ReadoutRefIdeal.nD Cert.ReadoutRefIdeal.τ).loc Cert.ReadoutRefIdeal.main_arg2)
      ∧ r.2.mem ((c.tc : Thread Cert.ReadoutRefIdeal.nD Cert.ReadoutRefIdeal.τ).loc Cert.ReadoutRefIdeal.main_arg3) = m ((c.tc : Thread Cert.ReadoutRefIdeal.nD Cert.ReadoutRefIdeal.τ).loc Cert.ReadoutRefIdeal.main_arg3)
      ∧ r.2.mem ((c.tc : Thread Cert.ReadoutRefIdeal.nD Cert.ReadoutRefIdeal.τ).loc Cert.ReadoutRefIdeal.main_arg4) = m ((c.tc : Thread Cert.ReadoutRefIdeal.nD Cert.ReadoutRefIdeal.τ).loc Cert.ReadoutRefIdeal.main_arg4)
      ∧ r.2.mem ((c.tc : Thread Cert.ReadoutRefIdeal.nD Cert.ReadoutRefIdeal.τ).loc Cert.ReadoutRefIdeal.main_arg5) = m ((c.tc : Thread Cert.ReadoutRefIdeal.nD Cert.ReadoutRefIdeal.τ).loc Cert.ReadoutRefIdeal.main_arg5)
      ∧ r.2.mem ((c.tc : Thread Cert.ReadoutRefIdeal.nD Cert.ReadoutRefIdeal.τ).loc Cert.ReadoutRefIdeal.main_arg6) = m ((c.tc : Thread Cert.ReadoutRefIdeal.nD Cert.ReadoutRefIdeal.τ).loc Cert.ReadoutRefIdeal.main_arg6)
      ∧ r.2.mem ((c.tc : Thread Cert.ReadoutRefIdeal.nD Cert.ReadoutRefIdeal.τ).loc Cert.ReadoutRefIdeal.main_arg7) = m ((c.tc : Thread Cert.ReadoutRefIdeal.nD Cert.ReadoutRefIdeal.τ).loc Cert.ReadoutRefIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxIdeal_pre_finite_ctx [hCtxIdeal : Cert.CtxIdeal.Facts] [hPre_finite_ctx : Cert.Pre_finite_ctx.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_ctx m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_CtxRefIdeal_pre_finite_ctx [hCtxRefIdeal : Cert.CtxRefIdeal.Facts] [hPre_finite_ctx : Cert.Pre_finite_ctx.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_ctx m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ r.2.sem = fun _ => 0)

def quiescent_HeadsIdeal_pre_finite_heads [hHeadsIdeal : Cert.HeadsIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal_finite_heads m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6)
      ∧ r.2.mem ((c.tc : Thread Cert.HeadsRefIdeal.nD Cert.HeadsRefIdeal.τ).loc Cert.HeadsRefIdeal.main_arg7) = m ((c.tc : Thread Cert.HeadsRefIdeal.nD Cert.HeadsRefIdeal.τ).loc Cert.HeadsRefIdeal.main_arg7))
      ∧ r.2.sem = fun _ => 0)

def quiescent_HeadsRefIdeal_pre_finite_heads [hHeadsRefIdeal : Cert.HeadsRefIdeal.Facts] [hPre_finite_heads : Cert.Pre_finite_heads.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal_finite_heads m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6)
      ∧ r.2.mem ((c.tc : Thread Cert.HeadsRefIdeal.nD Cert.HeadsRefIdeal.τ).loc Cert.HeadsRefIdeal.main_arg7) = m ((c.tc : Thread Cert.HeadsRefIdeal.nD Cert.HeadsRefIdeal.τ).loc Cert.HeadsRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Rw_RwIdeal : Prop :=
  True

def algebraic_RwIdeal_RwRefIdeal [hRwIdeal : Cert.RwIdeal.Facts] [hRwRefIdeal : Cert.RwRefIdeal.Facts] : Prop :=
  ∀ (m : (ℓ : Loc Cert.RwIdeal.nD Cert.RwIdeal.τ Cert.RwIdeal.sig) → Buf (Elt Ideal) ℓ) (g : Dev Cert.RwIdeal.nD → PrngReg)
    (m' : (ℓ : Loc Cert.RwRefIdeal.nD Cert.RwRefIdeal.τ Cert.RwRefIdeal.sig) → Buf (Elt Ideal) ℓ) (g' : Dev Cert.RwRefIdeal.nD → PrngReg), Pre_RwIdeal m →
    (∀ c : Dev Cert.RwIdeal.nD,
      m' ((c.tc : Thread Cert.RwRefIdeal.nD Cert.RwRefIdeal.τ).loc Cert.RwRefIdeal.main_arg0) = m ((c.tc : Thread Cert.RwIdeal.nD Cert.RwIdeal.τ).loc Cert.RwIdeal.main_arg0)
      ∧ m' ((c.tc : Thread Cert.RwRefIdeal.nD Cert.RwRefIdeal.τ).loc Cert.RwRefIdeal.main_arg1) = m ((c.tc : Thread Cert.RwIdeal.nD Cert.RwIdeal.τ).loc Cert.RwIdeal.main_arg1)) →
    ∃ (v0 : (c : Dev Cert.RwIdeal.nD) → Buf (Elt Ideal) ((c.tc : Thread Cert.RwIdeal.nD Cert.RwIdeal.τ).loc Cert.RwIdeal.main_v3)),
      θ_run (Cert.RwIdeal.defs (F := Ideal)) (onTc (τ := Cert.RwIdeal.τ) (Cert.RwIdeal.main (F := Ideal))) ⟨m, fun _ => 0, g⟩ (fun r => ∀ c : Dev Cert.RwIdeal.nD,
          r.2.mem ((c.tc : Thread Cert.RwIdeal.nD Cert.RwIdeal.τ).loc Cert.RwIdeal.main_v3) = v0 c
          ∧ r.2.mem ((c.tc : Thread Cert.RwIdeal.nD Cert.RwIdeal.τ).loc Cert.RwIdeal.main_arg0) = m ((c.tc : Thread Cert.RwIdeal.nD Cert.RwIdeal.τ).loc Cert.RwIdeal.main_arg0)
          ∧ r.2.mem ((c.tc : Thread Cert.RwIdeal.nD Cert.RwIdeal.τ).loc Cert.RwIdeal.main_arg1) = m ((c.tc : Thread Cert.RwIdeal.nD Cert.RwIdeal.τ).loc Cert.RwIdeal.main_arg1))
      ∧ θ_run (Cert.RwRefIdeal.defs (F := Ideal)) (onTc (τ := Cert.RwRefIdeal.τ) (Cert.RwRefIdeal.main (F := Ideal))) ⟨m', fun _ => 0, g'⟩ (fun r => ∀ c : Dev Cert.RwRefIdeal.nD,
          r.2.mem ((c.tc : Thread Cert.RwRefIdeal.nD Cert.RwRefIdeal.τ).loc Cert.RwRefIdeal.main_v3) = v0 c
          ∧ r.2.mem ((c.tc : Thread Cert.RwRefIdeal.nD Cert.RwRefIdeal.τ).loc Cert.RwRefIdeal.main_arg0) = m' ((c.tc : Thread Cert.RwRefIdeal.nD Cert.RwRefIdeal.τ).loc Cert.RwRefIdeal.main_arg0)
          ∧ r.2.mem ((c.tc : Thread Cert.RwRefIdeal.nD Cert.RwRefIdeal.τ).loc Cert.RwRefIdeal.main_arg1) = m' ((c.tc : Thread Cert.RwRefIdeal.nD Cert.RwRefIdeal.τ).loc Cert.RwRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v2) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v1) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)
      ∧ m' ((c.tc : Thread Cert.ModsRefIdeal.nD Cert.ModsRefIdeal.τ).loc Cert.ModsRefIdeal.main_arg3) = m ((c.tc : Thread Cert.ModsIdeal.nD Cert.ModsIdeal.τ).loc Cert.ModsIdeal.main_arg3)) →
    ∃ (v0 : (c : Dev Cert.ModsIdeal.nD) → Buf (Elt Ideal) ((c.tc : Thread Cert.ModsIdeal.nD Cert.ModsIdeal.τ).loc Cert.ModsIdeal.main_v8)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v8) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
          ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v7) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2)
          ∧ r.2.mem ((c.tc : Thread Cert.ModsRefIdeal.nD Cert.ModsRefIdeal.τ).loc Cert.ModsRefIdeal.main_arg3) = m' ((c.tc : Thread Cert.ModsRefIdeal.nD Cert.ModsRefIdeal.τ).loc Cert.ModsRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)) →
    ∃ (v0 : (c : Dev Cert.ResidIdeal.nD) → Buf (Elt Ideal) ((c.tc : Thread Cert.ResidIdeal.nD Cert.ResidIdeal.τ).loc Cert.ResidIdeal.main_v1_0)) (v1 : (c : Dev Cert.ResidIdeal.nD) → Buf (Elt Ideal) ((c.tc : Thread Cert.ResidIdeal.nD Cert.ResidIdeal.τ).loc Cert.ResidIdeal.main_v1_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1_0) = v0 c
          ∧ r.2.mem ((c.tc : Thread Cert.ResidIdeal.nD Cert.ResidIdeal.τ).loc Cert.ResidIdeal.main_v1_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v14) = v0 c
          ∧ r.2.mem ((c.tc : Thread Cert.ResidRefIdeal.nD Cert.ResidRefIdeal.τ).loc Cert.ResidRefIdeal.main_v52) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4))

def preserves_Readout_ReadoutIdeal : Prop :=
  True

def algebraic_ReadoutIdeal_ReadoutRefIdeal [hReadoutIdeal : Cert.ReadoutIdeal.Facts] [hReadoutRefIdeal : Cert.ReadoutRefIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.ReadoutRefIdeal.nD Cert.ReadoutRefIdeal.τ Cert.ReadoutRefIdeal.sig) → Buf (Elt Ideal) ℓ) (g' : Dev Cert.ReadoutRefIdeal.nD → PrngReg), Pre_ReadoutIdeal m →
    (∀ c : Dev Cert.ReadoutIdeal.nD,
      m' ((c.tc : Thread Cert.ReadoutRefIdeal.nD Cert.ReadoutRefIdeal.τ).loc Cert.ReadoutRefIdeal.main_arg0) = m ((c.tc : Thread Cert.ReadoutIdeal.nD Cert.ReadoutIdeal.τ).loc Cert.ReadoutIdeal.main_arg0)
      ∧ m' ((c.tc : Thread Cert.ReadoutRefIdeal.nD Cert.ReadoutRefIdeal.τ).loc Cert.ReadoutRefIdeal.main_arg1) = m ((c.tc : Thread Cert.ReadoutIdeal.nD Cert.ReadoutIdeal.τ).loc Cert.ReadoutIdeal.main_arg1)
      ∧ m' ((c.tc : Thread Cert.ReadoutRefIdeal.nD Cert.ReadoutRefIdeal.τ).loc Cert.ReadoutRefIdeal.main_arg2) = m ((c.tc : Thread Cert.ReadoutIdeal.nD Cert.ReadoutIdeal.τ).loc Cert.ReadoutIdeal.main_arg2)
      ∧ m' ((c.tc : Thread Cert.ReadoutRefIdeal.nD Cert.ReadoutRefIdeal.τ).loc Cert.ReadoutRefIdeal.main_arg3) = m ((c.tc : Thread Cert.ReadoutIdeal.nD Cert.ReadoutIdeal.τ).loc Cert.ReadoutIdeal.main_arg3)
      ∧ m' ((c.tc : Thread Cert.ReadoutRefIdeal.nD Cert.ReadoutRefIdeal.τ).loc Cert.ReadoutRefIdeal.main_arg4) = m ((c.tc : Thread Cert.ReadoutIdeal.nD Cert.ReadoutIdeal.τ).loc Cert.ReadoutIdeal.main_arg4)
      ∧ m' ((c.tc : Thread Cert.ReadoutRefIdeal.nD Cert.ReadoutRefIdeal.τ).loc Cert.ReadoutRefIdeal.main_arg5) = m ((c.tc : Thread Cert.ReadoutIdeal.nD Cert.ReadoutIdeal.τ).loc Cert.ReadoutIdeal.main_arg5)
      ∧ m' ((c.tc : Thread Cert.ReadoutRefIdeal.nD Cert.ReadoutRefIdeal.τ).loc Cert.ReadoutRefIdeal.main_arg6) = m ((c.tc : Thread Cert.ReadoutIdeal.nD Cert.ReadoutIdeal.τ).loc Cert.ReadoutIdeal.main_arg6)
      ∧ m' ((c.tc : Thread Cert.ReadoutRefIdeal.nD Cert.ReadoutRefIdeal.τ).loc Cert.ReadoutRefIdeal.main_arg7) = m ((c.tc : Thread Cert.ReadoutIdeal.nD Cert.ReadoutIdeal.τ).loc Cert.ReadoutIdeal.main_arg7)) →
    ∃ (v0 : (c : Dev Cert.ReadoutIdeal.nD) → Buf (Elt Ideal) ((c.tc : Thread Cert.ReadoutIdeal.nD Cert.ReadoutIdeal.τ).loc Cert.ReadoutIdeal.main_v2)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v2) = v0 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
          ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
          ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
          ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6)
          ∧ r.2.mem ((c.tc : Thread Cert.ReadoutIdeal.nD Cert.ReadoutIdeal.τ).loc Cert.ReadoutIdeal.main_arg7) = m ((c.tc : Thread Cert.ReadoutIdeal.nD Cert.ReadoutIdeal.τ).loc Cert.ReadoutIdeal.main_arg7))
      ∧ θ_run (Cert.ReadoutRefIdeal.defs (F := Ideal)) (onTc (τ := Cert.ReadoutRefIdeal.τ) (Cert.ReadoutRefIdeal.main (F := Ideal))) ⟨m', fun _ => 0, g'⟩ (fun r => ∀ c : Dev Cert.ReadoutRefIdeal.nD,
          r.2.mem ((c.tc : Thread Cert.ReadoutRefIdeal.nD Cert.ReadoutRefIdeal.τ).loc Cert.ReadoutRefIdeal.main_v17) = v0 c
          ∧ r.2.mem ((c.tc : Thread Cert.ReadoutRefIdeal.nD Cert.ReadoutRefIdeal.τ).loc Cert.ReadoutRefIdeal.main_arg0) = m' ((c.tc : Thread Cert.ReadoutRefIdeal.nD Cert.ReadoutRefIdeal.τ).loc Cert.ReadoutRefIdeal.main_arg0)
          ∧ r.2.mem ((c.tc : Thread Cert.ReadoutRefIdeal.nD Cert.ReadoutRefIdeal.τ).loc Cert.ReadoutRefIdeal.main_arg1) = m' ((c.tc : Thread Cert.ReadoutRefIdeal.nD Cert.ReadoutRefIdeal.τ).loc Cert.ReadoutRefIdeal.main_arg1)
          ∧ r.2.mem ((c.tc : Thread Cert.ReadoutRefIdeal.nD Cert.ReadoutRefIdeal.τ).loc Cert.ReadoutRefIdeal.main_arg2) = m' ((c.tc : Thread Cert.ReadoutRefIdeal.nD Cert.ReadoutRefIdeal.τ).loc Cert.ReadoutRefIdeal.main_arg2)
          ∧ r.2.mem ((c.tc : Thread Cert.ReadoutRefIdeal.nD Cert.ReadoutRefIdeal.τ).loc Cert.ReadoutRefIdeal.main_arg3) = m' ((c.tc : Thread Cert.ReadoutRefIdeal.nD Cert.ReadoutRefIdeal.τ).loc Cert.ReadoutRefIdeal.main_arg3)
          ∧ r.2.mem ((c.tc : Thread Cert.ReadoutRefIdeal.nD Cert.ReadoutRefIdeal.τ).loc Cert.ReadoutRefIdeal.main_arg4) = m' ((c.tc : Thread Cert.ReadoutRefIdeal.nD Cert.ReadoutRefIdeal.τ).loc Cert.ReadoutRefIdeal.main_arg4)
          ∧ r.2.mem ((c.tc : Thread Cert.ReadoutRefIdeal.nD Cert.ReadoutRefIdeal.τ).loc Cert.ReadoutRefIdeal.main_arg5) = m' ((c.tc : Thread Cert.ReadoutRefIdeal.nD Cert.ReadoutRefIdeal.τ).loc Cert.ReadoutRefIdeal.main_arg5)
          ∧ r.2.mem ((c.tc : Thread Cert.ReadoutRefIdeal.nD Cert.ReadoutRefIdeal.τ).loc Cert.ReadoutRefIdeal.main_arg6) = m' ((c.tc : Thread Cert.ReadoutRefIdeal.nD Cert.ReadoutRefIdeal.τ).loc Cert.ReadoutRefIdeal.main_arg6)
          ∧ r.2.mem ((c.tc : Thread Cert.ReadoutRefIdeal.nD Cert.ReadoutRefIdeal.τ).loc Cert.ReadoutRefIdeal.main_arg7) = m' ((c.tc : Thread Cert.ReadoutRefIdeal.nD Cert.ReadoutRefIdeal.τ).loc Cert.ReadoutRefIdeal.main_arg7))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v21) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Ctx_CtxIdeal : Prop :=
  True

def algebraic_CtxIdeal_CtxRefIdeal_pre_finite_ctx [hCtxIdeal : Cert.CtxIdeal.Facts] [hCtxRefIdeal : Cert.CtxRefIdeal.Facts] [hPre_finite_ctx : Cert.Pre_finite_ctx.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_ctx m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v26) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3))

def preserves_Heads_HeadsIdeal : Prop :=
  True

def algebraic_HeadsIdeal_HeadsRefIdeal_pre_finite_heads [hHeadsIdeal : Cert.HeadsIdeal.Facts] [hHeadsRefIdeal : Cert.HeadsRefIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal_finite_heads m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)
      ∧ m' ((c.tc : Thread Cert.HeadsRefIdeal.nD Cert.HeadsRefIdeal.τ).loc Cert.HeadsRefIdeal.main_arg6) = m ((c.tc : Thread Cert.HeadsIdeal.nD Cert.HeadsIdeal.τ).loc Cert.HeadsIdeal.main_arg6)
      ∧ m' ((c.tc : Thread Cert.HeadsRefIdeal.nD Cert.HeadsRefIdeal.τ).loc Cert.HeadsRefIdeal.main_arg7) = m ((c.tc : Thread Cert.HeadsIdeal.nD Cert.HeadsIdeal.τ).loc Cert.HeadsIdeal.main_arg7)) →
    ∃ (v0 : (c : Dev Cert.HeadsIdeal.nD) → Buf (Elt Ideal) ((c.tc : Thread Cert.HeadsIdeal.nD Cert.HeadsIdeal.τ).loc Cert.HeadsIdeal.main_v45_0)) (v1 : (c : Dev Cert.HeadsIdeal.nD) → Buf (Elt Ideal) ((c.tc : Thread Cert.HeadsIdeal.nD Cert.HeadsIdeal.τ).loc Cert.HeadsIdeal.main_v45_1)) (v2 : (c : Dev Cert.HeadsIdeal.nD) → Buf (Elt Ideal) ((c.tc : Thread Cert.HeadsIdeal.nD Cert.HeadsIdeal.τ).loc Cert.HeadsIdeal.main_v45_2)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v45_0) = v0 c
          ∧ r.2.mem ((c.tc : Thread Cert.HeadsIdeal.nD Cert.HeadsIdeal.τ).loc Cert.HeadsIdeal.main_v45_1) = v1 c
          ∧ r.2.mem ((c.tc : Thread Cert.HeadsIdeal.nD Cert.HeadsIdeal.τ).loc Cert.HeadsIdeal.main_v45_2) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v90) = v0 c
          ∧ r.2.mem ((c.tc : Thread Cert.HeadsRefIdeal.nD Cert.HeadsRefIdeal.τ).loc Cert.HeadsRefIdeal.main_v93) = v1 c
          ∧ r.2.mem ((c.tc : Thread Cert.HeadsRefIdeal.nD Cert.HeadsRefIdeal.τ).loc Cert.HeadsRefIdeal.main_v96) = v2 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5)
          ∧ r.2.mem ((c.tc : Thread Cert.HeadsRefIdeal.nD Cert.HeadsRefIdeal.τ).loc Cert.HeadsRefIdeal.main_arg6) = m' ((c.tc : Thread Cert.HeadsRefIdeal.nD Cert.HeadsRefIdeal.τ).loc Cert.HeadsRefIdeal.main_arg6)
          ∧ r.2.mem ((c.tc : Thread Cert.HeadsRefIdeal.nD Cert.HeadsRefIdeal.τ).loc Cert.HeadsRefIdeal.main_arg7) = m' ((c.tc : Thread Cert.HeadsRefIdeal.nD Cert.HeadsRefIdeal.τ).loc Cert.HeadsRefIdeal.main_arg7))

def Claim : Prop :=
  ∃ (hKernel : Cert.Kernel.Facts) (hKernelIdeal : Cert.KernelIdeal.Facts) (hReferenceIdeal : Cert.ReferenceIdeal.Facts) (hRw : Cert.Rw.Facts) (hRwIdeal : Cert.RwIdeal.Facts) (hRwRefIdeal : Cert.RwRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hQuery : Cert.Query.Facts) (hQueryIdeal : Cert.QueryIdeal.Facts) (hQueryRefIdeal : Cert.QueryRefIdeal.Facts) (hMods : Cert.Mods.Facts) (hModsIdeal : Cert.ModsIdeal.Facts) (hModsRefIdeal : Cert.ModsRefIdeal.Facts) (hNorm : Cert.Norm.Facts) (hNormIdeal : Cert.NormIdeal.Facts) (hNormRefIdeal : Cert.NormRefIdeal.Facts) (hResid : Cert.Resid.Facts) (hResidIdeal : Cert.ResidIdeal.Facts) (hResidRefIdeal : Cert.ResidRefIdeal.Facts) (hReadout : Cert.Readout.Facts) (hReadoutIdeal : Cert.ReadoutIdeal.Facts) (hReadoutRefIdeal : Cert.ReadoutRefIdeal.Facts) (hFinal : Cert.Final.Facts) (hFinalIdeal : Cert.FinalIdeal.Facts) (hFinalRefIdeal : Cert.FinalRefIdeal.Facts) (hCtx : Cert.Ctx.Facts) (hCtxIdeal : Cert.CtxIdeal.Facts) (hCtxRefIdeal : Cert.CtxRefIdeal.Facts) (hHeads : Cert.Heads.Facts) (hHeadsIdeal : Cert.HeadsIdeal.Facts) (hHeadsRefIdeal : Cert.HeadsRefIdeal.Facts) (hPre_finite : Cert.Pre_finite.Facts) (hPre_finite_ctx : Cert.Pre_finite_ctx.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Rw (hRw := hRw)
    ∧ quiescent_RwIdeal (hRwIdeal := hRwIdeal)
    ∧ quiescent_RwRefIdeal (hRwRefIdeal := hRwRefIdeal)
    ∧ quiescent_Gate (hGate := hGate)
    ∧ quiescent_GateIdeal (hGateIdeal := hGateIdeal)
    ∧ quiescent_GateRefIdeal (hGateRefIdeal := hGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Query (hQuery := hQuery)
    ∧ quiescent_QueryIdeal (hQueryIdeal := hQueryIdeal)
    ∧ quiescent_QueryRefIdeal (hQueryRefIdeal := hQueryRefIdeal)
    ∧ quiescent_Mods (hMods := hMods)
    ∧ quiescent_ModsIdeal (hModsIdeal := hModsIdeal)
    ∧ quiescent_ModsRefIdeal (hModsRefIdeal := hModsRefIdeal)
    ∧ quiescent_Norm (hNorm := hNorm)
    ∧ quiescent_NormIdeal (hNormIdeal := hNormIdeal)
    ∧ quiescent_NormRefIdeal (hNormRefIdeal := hNormRefIdeal)
    ∧ quiescent_Resid (hResid := hResid)
    ∧ quiescent_ResidIdeal (hResidIdeal := hResidIdeal)
    ∧ quiescent_ResidRefIdeal (hResidRefIdeal := hResidRefIdeal)
    ∧ quiescent_Readout (hReadout := hReadout)
    ∧ quiescent_ReadoutIdeal (hReadoutIdeal := hReadoutIdeal)
    ∧ quiescent_ReadoutRefIdeal (hReadoutRefIdeal := hReadoutRefIdeal)
    ∧ quiescent_Final (hFinal := hFinal)
    ∧ quiescent_FinalIdeal (hFinalIdeal := hFinalIdeal)
    ∧ quiescent_FinalRefIdeal (hFinalRefIdeal := hFinalRefIdeal)
    ∧ quiescent_Ctx (hCtx := hCtx)
    ∧ quiescent_CtxIdeal (hCtxIdeal := hCtxIdeal)
    ∧ quiescent_CtxIdeal_pre_finite_ctx (hCtxIdeal := hCtxIdeal) (hPre_finite_ctx := hPre_finite_ctx)
    ∧ quiescent_CtxRefIdeal (hCtxRefIdeal := hCtxRefIdeal)
    ∧ quiescent_CtxRefIdeal_pre_finite_ctx (hCtxRefIdeal := hCtxRefIdeal) (hPre_finite_ctx := hPre_finite_ctx)
    ∧ quiescent_Heads (hHeads := hHeads)
    ∧ quiescent_HeadsIdeal (hHeadsIdeal := hHeadsIdeal)
    ∧ quiescent_HeadsIdeal_pre_finite_heads (hHeadsIdeal := hHeadsIdeal) (hPre_finite_heads := hPre_finite_heads)
    ∧ quiescent_HeadsRefIdeal (hHeadsRefIdeal := hHeadsRefIdeal)
    ∧ quiescent_HeadsRefIdeal_pre_finite_heads (hHeadsRefIdeal := hHeadsRefIdeal) (hPre_finite_heads := hPre_finite_heads)
    ∧ preserves_Kernel_KernelIdeal
    ∧ algebraic_KernelIdeal_ReferenceIdeal_pre_finite (hKernelIdeal := hKernelIdeal) (hReferenceIdeal := hReferenceIdeal) (hPre_finite := hPre_finite)
    ∧ preserves_Rw_RwIdeal
    ∧ algebraic_RwIdeal_RwRefIdeal (hRwIdeal := hRwIdeal) (hRwRefIdeal := hRwRefIdeal)
    ∧ preserves_Gate_GateIdeal
    ∧ algebraic_GateIdeal_GateRefIdeal (hGateIdeal := hGateIdeal) (hGateRefIdeal := hGateRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Query_QueryIdeal
    ∧ algebraic_QueryIdeal_QueryRefIdeal (hQueryIdeal := hQueryIdeal) (hQueryRefIdeal := hQueryRefIdeal)
    ∧ preserves_Mods_ModsIdeal
    ∧ algebraic_ModsIdeal_ModsRefIdeal (hModsIdeal := hModsIdeal) (hModsRefIdeal := hModsRefIdeal)
    ∧ preserves_Norm_NormIdeal
    ∧ algebraic_NormIdeal_NormRefIdeal (hNormIdeal := hNormIdeal) (hNormRefIdeal := hNormRefIdeal)
    ∧ preserves_Resid_ResidIdeal
    ∧ algebraic_ResidIdeal_ResidRefIdeal (hResidIdeal := hResidIdeal) (hResidRefIdeal := hResidRefIdeal)
    ∧ preserves_Readout_ReadoutIdeal
    ∧ algebraic_ReadoutIdeal_ReadoutRefIdeal (hReadoutIdeal := hReadoutIdeal) (hReadoutRefIdeal := hReadoutRefIdeal)
    ∧ preserves_Final_FinalIdeal
    ∧ algebraic_FinalIdeal_FinalRefIdeal (hFinalIdeal := hFinalIdeal) (hFinalRefIdeal := hFinalRefIdeal)
    ∧ preserves_Ctx_CtxIdeal
    ∧ algebraic_CtxIdeal_CtxRefIdeal_pre_finite_ctx (hCtxIdeal := hCtxIdeal) (hCtxRefIdeal := hCtxRefIdeal) (hPre_finite_ctx := hPre_finite_ctx)
    ∧ preserves_Heads_HeadsIdeal
    ∧ algebraic_HeadsIdeal_HeadsRefIdeal_pre_finite_heads (hHeadsIdeal := hHeadsIdeal) (hHeadsRefIdeal := hHeadsRefIdeal) (hPre_finite_heads := hPre_finite_heads)
-- ==== Pre_finite.lean ====
abbrev S2x8448x2048 : Shape := ⟨3, ![2, 8448, 2048]⟩
abbrev S2x8448x1024 : Shape := ⟨3, ![2, 8448, 1024]⟩
abbrev S_ : Shape := ⟨0, ![]⟩

class Facts : Prop where
  bcast_S_S2x8448x2048 : S_.BroadcastsInDim S2x8448x2048 (![] : Fin 0 → Fin S2x8448x2048.rank)

variable [Facts]

def fn {F : FTy → Type} [FloatOps F] (main_arg0 : FVec F S2x8448x2048 .bf16) (main_arg1 : FVec F S2x8448x2048 .bf16) (main_arg2 : FVec F S2x8448x1024 .bf16) : IVec S2x8448x2048 1 :=
  let main_v0 : FVec F S2x8448x2048 .bf16 := Host.absf main_arg0
  let main_cst : FVec F S_ .bf16 := constant S_ .bf16 0x7F80#16
  let main_v1 : FVec F S2x8448x2048 .bf16 := broadcastInDim S2x8448x2048 ![] bcast_S_S2x8448x2048 main_cst
  let main_v2 : IVec S2x8448x2048 1 := cmpf .olt main_v0 main_v1
  let main_v3 : FVec F S2x8448x2048 .bf16 := Host.absf main_arg1
  let main_cst_0 : FVec F S_ .bf16 := constant S_ .bf16 0x7F80#16
  let main_v4 : FVec F S2x8448x2048 .bf16 := broadcastInDim S2x8448x2048 ![] bcast_S_S2x8448x2048 main_cst_0
  let main_v5 : IVec S2x8448x2048 1 := cmpf .olt main_v3 main_v4
  let main_v6 : IVec S2x8448x2048 1 := andi main_v2 main_v5
  main_v6
-- ==== Pre_finite_ctx.lean ====
abbrev S2x8448x2048 : Shape := ⟨3, ![2, 8448, 2048]⟩
abbrev S2x8448x1024 : Shape := ⟨3, ![2, 8448, 1024]⟩
abbrev S2x256x2048 : Shape := ⟨3, ![2, 256, 2048]⟩
abbrev S_ : Shape := ⟨0, ![]⟩

class Facts : Prop where
  slices_S2x8448x2048_S2x256x2048_0_8192_0 : S2x8448x2048.Slices ![0, 8192, 0] S2x256x2048
  bcast_S_S2x256x2048 : S_.BroadcastsInDim S2x256x2048 (![] : Fin 0 → Fin S2x256x2048.rank)

variable [Facts]

def fn {F : FTy → Type} [FloatOps F] (main_arg0 : FVec F S2x8448x2048 .bf16) (main_arg1 : FVec F S2x8448x2048 .bf16) (main_arg2 : FVec F S2x8448x1024 .bf16) (main_arg3 : FVec F S2x8448x1024 .bf16) : IVec S2x256x2048 1 :=
  let main_v0 : FVec F S2x256x2048 .bf16 := (extractStridedSlice S2x256x2048 ![0, 8192, 0] · slices_S2x8448x2048_S2x256x2048_0_8192_0) main_arg0
  let main_v1 : FVec F S2x256x2048 .bf16 := Host.absf main_v0
  let main_cst : FVec F S_ .bf16 := constant S_ .bf16 0x7F80#16
  let main_v2 : FVec F S2x256x2048 .bf16 := broadcastInDim S2x256x2048 ![] bcast_S_S2x256x2048 main_cst
  let main_v3 : IVec S2x256x2048 1 := cmpf .olt main_v1 main_v2
  let main_v4 : FVec F S2x256x2048 .bf16 := (extractStridedSlice S2x256x2048 ![0, 8192, 0] · slices_S2x8448x2048_S2x256x2048_0_8192_0) main_arg1
  let main_v5 : FVec F S2x256x2048 .bf16 := Host.absf main_v4
  let main_cst_0 : FVec F S_ .bf16 := constant S_ .bf16 0x7F80#16
  let main_v6 : FVec F S2x256x2048 .bf16 := broadcastInDim S2x256x2048 ![] bcast_S_S2x256x2048 main_cst_0
  let main_v7 : IVec S2x256x2048 1 := cmpf .olt main_v5 main_v6
  let main_v8 : IVec S2x256x2048 1 := andi main_v3 main_v7
  main_v8
-- ==== Pre_finite_heads.lean ====
abbrev S16896x2048 : Shape := ⟨2, ![16896, 2048]⟩
abbrev S2048x8288 : Shape := ⟨2, ![2048, 8288]⟩
abbrev S8192x16 : Shape := ⟨2, ![8192, 16]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S_ : Shape := ⟨0, ![]⟩

class Facts : Prop where
  bitsLt_bf16_f32 : FTy.bits .bf16 < FTy.bits .f32
  bcast_S_S16896x2048 : S_.BroadcastsInDim S16896x2048 (![] : Fin 0 → Fin S16896x2048.rank)
  reducesTo_S16896x2048_S_d0_1 : S16896x2048.ReducesTo [0, 1] S_
  h_S_ : 0 < S_.numel
  bcast_S_S2048x8288 : S_.BroadcastsInDim S2048x8288 (![] : Fin 0 → Fin S2048x8288.rank)
  reducesTo_S2048x8288_S_d0_1 : S2048x8288.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_

variable [Facts]

def fn_part1 {F : FTy → Type} [FloatOps F] (main_v14 : IVec S_ 1) (main_v15 : FVec F S512x1536 .f32) (main_v16 : FVec F S512x1536 .f32) : IVec S_ 1 :=
  let main_v17 : IVec S512x1536 1 := cmpf .olt main_v15 main_v16
  let main_c_5 : IVec S_ 1 := constantI S_ 1 1#1
  let main_v18 : IVec S_ 1 := (fun x v => Host.reduce IntOp.andi x v reducesTo_S512x1536_S_d0_1 h_S_) main_v17 main_c_5
  let main_v19 : IVec S_ 1 := andi main_v14 main_v18
  main_v19

def fn {F : FTy → Type} [FloatOps F] (main_arg0 : FVec F S16896x2048 .bf16) (main_arg1 : FVec F S2048x8288 .f32) (main_arg2 : FVec F S8192x16 .f32) (main_arg3 : FVec F S8192x16 .f32) (main_arg4 : FVec F S512 .f32) (main_arg5 : FVec F S256 .f32) (main_arg6 : FVec F S512x1536 .f32) (main_arg7 : FVec F S256x2048 .f32) : IVec S_ 1 :=
  let main_v0 : FVec F S16896x2048 .f32 := (extf .f32 · bitsLt_bf16_f32) main_arg0
  let main_v1 : FVec F S16896x2048 .f32 := Host.absf main_v0
  let main_cst : FVec F S_ .f32 := constant S_ .f32 0x7F800000#32
  let main_v2 : FVec F S16896x2048 .f32 := broadcastInDim S16896x2048 ![] bcast_S_S16896x2048 main_cst
  let main_v3 : IVec S16896x2048 1 := cmpf .olt main_v1 main_v2
  let main_c : IVec S_ 1 := constantI S_ 1 1#1
  let main_v4 : IVec S_ 1 := (fun x v => Host.reduce IntOp.andi x v reducesTo_S16896x2048_S_d0_1 h_S_) main_v3 main_c
  let main_v5 : FVec F S2048x8288 .f32 := Host.absf main_arg1
  let main_cst_0 : FVec F S_ .f32 := constant S_ .f32 0x7F800000#32
  let main_v6 : FVec F S2048x8288 .f32 := broadcastInDim S2048x8288 ![] bcast_S_S2048x8288 main_cst_0
  let main_v7 : IVec S2048x8288 1 := cmpf .olt main_v5 main_v6
  let main_c_1 : IVec S_ 1 := constantI S_ 1 1#1
  let main_v8 : IVec S_ 1 := (fun x v => Host.reduce IntOp.andi x v reducesTo_S2048x8288_S_d0_1 h_S_) main_v7 main_c_1
  let main_v9 : IVec S_ 1 := andi main_v4 main_v8
  let main_v10 : FVec F S512 .f32 := Host.absf main_arg4
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  let main_v15 : FVec F S512x1536 .f32 := Host.absf main_arg6
  let main_cst_4 : FVec F S_ .f32 := constant S_ .f32 0x7F800000#32
  let main_v16 : FVec F S512x1536 .f32 := broadcastInDim S512x1536 ![] bcast_S_S512x1536 main_cst_4
  fn_part1 (F := F) main_v14 main_v15 main_v16
-- ==== Kernel.lean ====
abbrev S2x8448x2048 : Shape := ⟨3, ![2, 8448, 2048]⟩
abbrev S2x8448x1024 : Shape := ⟨3, ![2, 8448, 1024]⟩
abbrev S1x512x256 : Shape := ⟨3, ![1, 512, 256]⟩
abbrev S1x2816x256 : Shape := ⟨3, ![1, 2816, 256]⟩
abbrev S1x2816x128 : Shape := ⟨3, ![1, 2816, 128]⟩
abbrev S1x512x128 : Shape := ⟨3, ![1, 512, 128]⟩
abbrev S512x1 : Shape := ⟨2, ![512, 1]⟩
abbrev S512x128 : Shape := ⟨2, ![512, 128]⟩
abbrev S2816x128 : Shape := ⟨2, ![2816, 128]⟩
abbrev S512x2816 : Shape := ⟨2, ![512, 2816]⟩
abbrev S512 : Shape := ⟨1, ![512]⟩
abbrev S2x8192x1024 : Shape := ⟨3, ![2, 8192, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x1024, .bf16⟩
  | .hbm, ⟨3, _⟩ => ⟨S2x8448x1024, .bf16⟩
  | .hbm, ⟨4, _⟩ => ⟨S2x8192x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x2816x256, .bf16⟩
  | .local _ .vmem, ⟨3, _⟩ => ⟨S1x2816x256, .bf16⟩
  | .local _ .vmem, ⟨4, _⟩ => ⟨S1x2816x128, .bf16⟩
  | .local _ .vmem, ⟨5, _⟩ => ⟨S1x2816x128, .bf16⟩
  | .local _ .vmem, ⟨6, _⟩ => ⟨S1x512x128, .bf16⟩
  | .local _ .vmem, ⟨7, _⟩ => ⟨S1x512x128, .bf16⟩
  | .local _ .vmem, ⟨8, _⟩ => ⟨S512x1, .f32⟩
  | .local _ .vmem, ⟨9, _⟩ => ⟨S512x128, .f32⟩
  | .local _ .vmem, ⟨10, _⟩ => ⟨S512x1, .f32⟩
  | .local _ .vmem, ⟨11, _⟩ => ⟨S512x128, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 16, 3], ![false, false, false, false]⟩

def k0_cond2 (i : grid0.Coords) : BitVec 1 :=
  let arg3 : BitVec 32 := BitVec.ofNat 32 (i 3).val
  let c2_i32 : BitVec 32 := 2#32
  let v65 : BitVec 1 := Scalar.cmpi .eq arg3 c2_i32
  let v66 : BitVec 32 := Scalar.extui v65
  let c0_i32_37 : BitVec 32 := 0#32
  let v67 : BitVec 1 := Scalar.cmpi .ne v66 c0_i32_37
  v67

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  ![arg0.toNat, v0.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S2x8448x2048 : Shape := ⟨3, ![2, 8448, 2048]⟩
abbrev S2x8448x1024 : Shape := ⟨3, ![2, 8448, 1024]⟩
abbrev S2x8448x16x128 : Shape := ⟨4, ![2, 8448, 16, 128]⟩
abbrev S2x8192x16x128 : Shape := ⟨4, ![2, 8192, 16, 128]⟩
abbrev S2x8448x16x64 : Shape := ⟨4, ![2, 8448, 16, 64]⟩
abbrev S2x16x8192x8448 : Shape := ⟨4, ![2, 16, 8192, 8448]⟩
abbrev S_ : Shape := ⟨0, ![]⟩
abbrev S2x16x8192 : Shape := ⟨3, ![2, 16, 8192]⟩
abbrev S2x16x8192x1 : Shape := ⟨4, ![2, 16, 8192, 1]⟩
abbrev S2x16x64x8192 : Shape := ⟨4, ![2, 16, 64, 8192]⟩
abbrev S2x8192x16x64 : Shape := ⟨4, ![2, 8192, 16, 64]⟩
abbrev S2x8192x1024 : Shape := ⟨3, ![2, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x1024, .bf16⟩
  | .hbm, ⟨3, _⟩ => ⟨S2x8448x2048, .f32⟩
  | .hbm, ⟨4, _⟩ => ⟨S2x8448x16x128, .f32⟩
  | .hbm, ⟨5, _⟩ => ⟨S2x8192x16x128, .f32⟩
  | .hbm, ⟨6, _⟩ => ⟨S2x8448x2048, .f32⟩
  | .hbm, ⟨7, _⟩ => ⟨S2x8448x16x128, .f32⟩
  | .hbm, ⟨8, _⟩ => ⟨S2x8448x1024, .f32⟩
  | .hbm, ⟨9, _⟩ => ⟨S2x8448x16x64, .f32⟩
  | .hbm, ⟨10, _⟩ => ⟨S2x16x8192x8448, .f32⟩
  | .hbm, ⟨11, _⟩ => ⟨S_, .f32⟩
  | .hbm, ⟨12, _⟩ => ⟨S2x16x8192, .f32⟩
  | .hbm, ⟨13, _⟩ => ⟨S_, .f32⟩
  | .hbm, ⟨14, _⟩ => ⟨S2x16x8192, .f32⟩
  | .hbm, ⟨15, _⟩ => ⟨S2x16x8192, .f32⟩
  | .hbm, ⟨16, _⟩ => ⟨S2x16x8192x1, .f32⟩
  | .hbm, ⟨17, _⟩ => ⟨S2x16x8192x8448, .f32⟩
  | .hbm, ⟨18, _⟩ => ⟨S2x16x8192x8448, .f32⟩
  | .hbm, ⟨19, _⟩ => ⟨S2x16x8192x8448, .f32⟩
  | .hbm, ⟨20, _⟩ => ⟨S_, .f32⟩
  | .hbm, ⟨21, _⟩ => ⟨S2x16x8192, .f32⟩
  | .hbm, ⟨22, _⟩ => ⟨S2x16x8192x1, .f32⟩
  | .hbm, ⟨23, _⟩ => ⟨S2x16x8192x8448, .f32⟩
  | .hbm, ⟨24, _⟩ => ⟨S2x16x8192x8448, .f32⟩
  | .hbm, ⟨25, _⟩ => ⟨S2x16x64x8192, .f32⟩
  | .hbm, ⟨26, _⟩ => ⟨S2x8192x16x64, .f32⟩
  | .hbm, ⟨27, _⟩ => ⟨S2x8192x1024, .f32⟩
  | .hbm, ⟨28, _⟩ => ⟨S2x8192x1024, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Rw.lean ====
abbrev S16896x2048 : Shape := ⟨2, ![16896, 2048]⟩
abbrev S2048x8288 : Shape := ⟨2, ![2048, 8288]⟩
abbrev S2048x3392 : Shape := ⟨2, ![2048, 3392]⟩
abbrev S_ : Shape := ⟨0, ![]⟩
abbrev S2048x3456 : Shape := ⟨2, ![2048, 3456]⟩
abbrev S16896x3456 : Shape := ⟨2, ![16896, 3456]⟩
abbrev S256x2048 : Shape := ⟨2, ![256, 2048]⟩
abbrev S2048x1152 : Shape := ⟨2, ![2048, 1152]⟩
abbrev S256x1152 : Shape := ⟨2, ![256, 1152]⟩

abbrev nBuf : Space → Nat
  | .hbm => 8
  | .vmem => 6
  | .smem => 0
  | _ => 0

abbrev bufTy : (tb : Table) → Fin (tcTables nBuf tb) → BufTy
  | .hbm, ⟨0, _⟩ => ⟨S16896x2048, .bf16⟩
  | .hbm, ⟨1, _⟩ => ⟨S2048x8288, .f32⟩
  | .hbm, ⟨2, _⟩ => ⟨S2048x3392, .f32⟩
  | .hbm, ⟨3, _⟩ => ⟨S_, .i32⟩
  | .hbm, ⟨4, _⟩ => ⟨S_, .f32⟩
  | .hbm, ⟨5, _⟩ => ⟨S2048x3456, .f32⟩
  | .hbm, ⟨6, _⟩ => ⟨S2048x3456, .bf16⟩
  | .hbm, ⟨7, _⟩ => ⟨S16896x3456, .f32⟩
  | .local _ .vmem, ⟨0, _⟩ => ⟨S256x2048, .bf16⟩
  | .local _ .vmem, ⟨1, _⟩ => ⟨S256x2048, .bf16⟩
  | .local _ .vmem, ⟨2, _⟩ => ⟨S2048x1152, .bf16⟩
  | .local _ .vmem, ⟨3, _⟩ => ⟨S2048x1152, .bf16⟩
  | .local _ .vmem, ⟨4, _⟩ => ⟨S256x1152, .f32⟩
  | .local _ .vmem, ⟨5, _⟩ => ⟨S256x1152, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwRefIdeal.lean ====
abbrev S16896x2048 : Shape := ⟨2, ![16896, 2048]⟩
abbrev S2048x8288 : Shape := ⟨2, ![2048, 8288]⟩
abbrev S2048x3392 : Shape := ⟨2, ![2048, 3392]⟩
abbrev S16896x3392 : Shape := ⟨2, ![16896, 3392]⟩
abbrev S_ : Shape := ⟨0, ![]⟩
abbrev S16896x3456 : Shape := ⟨2, ![16896, 3456]⟩

abbrev nBuf : Space → Nat
  | .hbm => 8
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x8288, .f32⟩
  | .hbm, ⟨2, _⟩ => ⟨S16896x2048, .f32⟩
  | .hbm, ⟨3, _⟩ => ⟨S2048x3392, .f32⟩
  | .hbm, ⟨4, _⟩ => ⟨S16896x3392, .f32⟩
  | .hbm, ⟨5, _⟩ => ⟨S_, .i32⟩
  | .hbm, ⟨6, _⟩ => ⟨S_, .f32⟩
  | .hbm, ⟨7, _⟩ => ⟨S16896x3456, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Gate.lean ====
abbrev S16896x2048 : Shape := ⟨2, ![16896, 2048]⟩
abbrev S2048x8288 : Shape := ⟨2, ![2048, 8288]⟩
abbrev S2048x4096 : Shape := ⟨2, ![2048, 4096]⟩
abbrev S16896x4096 : Shape := ⟨2, ![16896, 4096]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16896x2048, .bf16⟩
  | .hbm, ⟨1, _⟩ => ⟨S2048x8288, .f32⟩
  | .hbm, ⟨2, _⟩ => ⟨S2048x4096, .f32⟩
  | .hbm, ⟨3, _⟩ => ⟨S2048x4096, .bf16⟩
  | .hbm, ⟨4, _⟩ => ⟨S16896x4096, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S16896x2048 : Shape := ⟨2, ![16896, 2048]⟩
abbrev S2048x8288 : Shape := ⟨2, ![2048, 8288]⟩
abbrev S16896x8288 : Shape := ⟨2, ![16896, 8288]⟩
abbrev S16896x4096 : Shape := ⟨2, ![16896, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x8288, .f32⟩
  | .hbm, ⟨2, _⟩ => ⟨S16896x2048, .f32⟩
  | .hbm, ⟨3, _⟩ => ⟨S16896x8288, .f32⟩
  | .hbm, ⟨4, _⟩ => ⟨S16896x4096, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S16896x1024 : Shape := ⟨2, ![16896, 1024]⟩
abbrev S16896x4096 : Shape := ⟨2, ![16896, 4096]⟩
abbrev S2x2048 : Shape := ⟨2, ![2, 2048]⟩
abbrev S1024x2048 : Shape := ⟨2, ![1024, 2048]⟩
abbrev S16896x2048 : Shape := ⟨2, ![16896, 2048]⟩
abbrev S256x1024 : Shape := ⟨2, ![256, 1024]⟩
abbrev S1024x1024 : Shape := ⟨2, ![1024, 1024]⟩
abbrev S1x2048 : Shape := ⟨2, ![1, 2048]⟩
abbrev S2048 : Shape := ⟨1, ![2048]⟩
abbrev S1x1024 : Shape := ⟨2, ![1, 1024]⟩

abbrev nBuf : Space → Nat
  | .hbm => 16
  | .vmem => 22
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x4096, .f32⟩
  | .hbm, ⟨3, _⟩ => ⟨S2x2048, .f32⟩
  | .hbm, ⟨4, _⟩ => ⟨S1024x2048, .f32⟩
  | .hbm, ⟨5, _⟩ => ⟨S1024x2048, .f32⟩
  | .hbm, ⟨6, _⟩ => ⟨S1024x2048, .bf16⟩
  | .hbm, ⟨7, _⟩ => ⟨S16896x2048, .f32⟩
  | .hbm, ⟨8, _⟩ => ⟨S1024x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16896x2048, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 66], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== MergeRefIdeal.lean ====
abbrev S16896x1024 : Shape := ⟨2, ![16896, 1024]⟩
abbrev S16896x4096 : Shape := ⟨2, ![16896, 4096]⟩
abbrev S2x2048 : Shape := ⟨2, ![2, 2048]⟩
abbrev S1024x2048 : Shape := ⟨2, ![1024, 2048]⟩
abbrev S16896x2x2048 : Shape := ⟨3, ![16896, 2, 2048]⟩
abbrev S1x2x2048 : Shape := ⟨3, ![1, 2, 2048]⟩
abbrev S16896x1x2048 : Shape := ⟨3, ![16896, 1, 2048]⟩
abbrev S16896x2048 : Shape := ⟨2, ![16896, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x4096, .f32⟩
  | .hbm, ⟨3, _⟩ => ⟨S2x2048, .f32⟩
  | .hbm, ⟨4, _⟩ => ⟨S1024x2048, .f32⟩
  | .hbm, ⟨5, _⟩ => ⟨S1024x2048, .f32⟩
  | .hbm, ⟨6, _⟩ => ⟨S16896x2x2048, .f32⟩
  | .hbm, ⟨7, _⟩ => ⟨S1x2x2048, .f32⟩
  | .hbm, ⟨8, _⟩ => ⟨S16896x2x2048, .f32⟩
  | .hbm, ⟨9, _⟩ => ⟨S16896x2x2048, .f32⟩
  | .hbm, ⟨10, _⟩ => ⟨S16896x1x2048, .f32⟩
  | .hbm, ⟨11, _⟩ => ⟨S16896x2048, .f32⟩
  | .hbm, ⟨12, _⟩ => ⟨S16896x2048, .f32⟩
  | .hbm, ⟨13, _⟩ => ⟨S16896x2048, .f32⟩
  | .hbm, ⟨14, _⟩ => ⟨S_, .f32⟩
  | .hbm, ⟨15, _⟩ => ⟨S16896x2048, .f32⟩
  | .hbm, ⟨16, _⟩ => ⟨S16896x2048, .f32⟩
  | .hbm, ⟨17, _⟩ => ⟨S_, .f32⟩
  | .hbm, ⟨18, _⟩ => ⟨S16896x2048, .f32⟩
  | .hbm, ⟨19, _⟩ => ⟨S16896x2048, .f32⟩
  | .hbm, ⟨20, _⟩ => ⟨S16896x1x2048, .f32⟩
  | .hbm, ⟨21, _⟩ => ⟨S16896x2048, .f32⟩
  | .hbm, ⟨22, _⟩ => ⟨S16896x2048, .f32⟩
  | .hbm, ⟨23, _⟩ => ⟨S16896x2048, .f32⟩
  | .hbm, ⟨24, _⟩ => ⟨S_, .f32⟩
  | .hbm, ⟨25, _⟩ => ⟨S16896x2048, .f32⟩
  | .hbm, ⟨26, _⟩ => ⟨S16896x2048, .f32⟩
  | .hbm, ⟨27, _⟩ => ⟨S_, .f32⟩
  | .hbm, ⟨28, _⟩ => ⟨S16896x2048, .f32⟩
  | .hbm, ⟨29, _⟩ => ⟨S16896x2048, .f32⟩
  | .hbm, ⟨30, _⟩ => ⟨S16896x1024, .f32⟩
  | .hbm, ⟨31, _⟩ => ⟨S16896x2048, .f32⟩
  | .hbm, ⟨32, _⟩ => ⟨S16896x2048, .f32⟩
  | .hbm, ⟨33, _⟩ => ⟨S16896x1024, .f32⟩
  | .hbm, ⟨34, _⟩ => ⟨S16896x2048, .f32⟩
  | .hbm, ⟨35, _⟩ => ⟨S16896x2048, .f32⟩
  | .hbm, ⟨36, _⟩ => ⟨S16896x2048, .f32⟩
  | .hbm, ⟨37, _⟩ => ⟨S16896x2048, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Out.lean ====
abbrev S16896x2048 : Shape := ⟨2, ![16896, 2048]⟩
abbrev S2048x2048 : Shape := ⟨2, ![2048, 2048]⟩
abbrev S18x1x2048 : Shape := ⟨3, ![18, 1, 2048]⟩
abbrev S256x2048 : Shape := ⟨2, ![256, 2048]⟩
abbrev S2048x1024 : Shape := ⟨2, ![2048, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S18x1x2048, .f32⟩
  | .hbm, ⟨4, _⟩ => ⟨S2048x2048, .bf16⟩
  | .hbm, ⟨5, _⟩ => ⟨S16896x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .sge v9 c32_i32
  let c33_i32_3 : BitVec 32 := 33#32
  let v11 : BitVec 32 := Scalar.divsi arg1 c33_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg1 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c2_i32_10 : BitVec 32 := 2#32
  let v30 : BitVec 32 := Scalar.addi v29 c2_i32_10
  let c0_i32_11 : BitVec 32 := 0#32
  let c0_i32_12 : BitVec 32 := 0#32
  ![v30.toNat, c0_i32_11.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S16896x2048 : Shape := ⟨2, ![16896, 2048]⟩
abbrev S2048x2048 : Shape := ⟨2, ![2048, 2048]⟩
abbrev S18x1x2048 : Shape := ⟨3, ![18, 1, 2048]⟩
abbrev S2x8448x2048 : Shape := ⟨3, ![2, 8448, 2048]⟩
abbrev S3x6x2048 : Shape := ⟨3, ![3, 6, 2048]⟩
abbrev S3x1x2048 : Shape := ⟨3, ![3, 1, 2048]⟩
abbrev S3x2048 : Shape := ⟨2, ![3, 2048]⟩
abbrev S2x2048 : Shape := ⟨2, ![2, 2048]⟩
abbrev S2x1x2048 : Shape := ⟨3, ![2, 1, 2048]⟩
abbrev S2x8192x2048 : Shape := ⟨3, ![2, 8192, 2048]⟩
abbrev S1x2048 : Shape := ⟨2, ![1, 2048]⟩
abbrev S2048 : Shape := ⟨1, ![2048]⟩
abbrev S2x256x2048 : Shape := ⟨3, ![2, 256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S18x1x2048, .f32⟩
  | .hbm, ⟨4, _⟩ => ⟨S16896x2048, .f32⟩
  | .hbm, ⟨5, _⟩ => ⟨S16896x2048, .f32⟩
  | .hbm, ⟨6, _⟩ => ⟨S2x8448x2048, .f32⟩
  | .hbm, ⟨7, _⟩ => ⟨S3x6x2048, .f32⟩
  | .hbm, ⟨8, _⟩ => ⟨S3x1x2048, .f32⟩
  | .hbm, ⟨9, _⟩ => ⟨S3x2048, .f32⟩
  | .hbm, ⟨10, _⟩ => ⟨S2x2048, .f32⟩
  | .hbm, ⟨11, _⟩ => ⟨S2x1x2048, .f32⟩
  | .hbm, ⟨12, _⟩ => ⟨S2x8192x2048, .f32⟩
  | .hbm, ⟨13, _⟩ => ⟨S1x2048, .f32⟩
  | .hbm, ⟨14, _⟩ => ⟨S2048, .f32⟩
  | .hbm, ⟨15, _⟩ => ⟨S2x256x2048, .f32⟩
  | .hbm, ⟨16, _⟩ => ⟨S2x8448x2048, .f32⟩
  | .hbm, ⟨17, _⟩ => ⟨S2x8448x2048, .f32⟩
  | .hbm, ⟨18, _⟩ => ⟨S2x8448x2048, .f32⟩
  | .hbm, ⟨19, _⟩ => ⟨S2x8448x2048, .f32⟩
  | .hbm, ⟨20, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Query.lean ====
abbrev S16896x2048 : Shape := ⟨2, ![16896, 2048]⟩
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S2048x2048, .bf16⟩
  | .hbm, ⟨3, _⟩ => ⟨S16896x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S16896x2048 : Shape := ⟨2, ![16896, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mods.lean ====
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1 : Shape := ⟨1, ![1]⟩
abbrev S1x12288 : Shape := ⟨2, ![1, 12288]⟩
abbrev S8x12288 : Shape := ⟨2, ![8, 12288]⟩
abbrev S2048x768 : Shape := ⟨2, ![2048, 768]⟩
abbrev S1x768 : Shape := ⟨2, ![1, 768]⟩
abbrev S8x768 : Shape := ⟨2, ![8, 768]⟩

abbrev nBuf : Space → Nat
  | .hbm => 32
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S_, .f32⟩
  | .hbm, ⟨5, _⟩ => ⟨S8x2048, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .i32⟩
  | .hbm, ⟨16, _⟩ => ⟨S1, .i32⟩
  | .hbm, ⟨17, _⟩ => ⟨S8x2048, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S_, .i32⟩
  | .hbm, ⟨28, _⟩ => ⟨S1, .i32⟩
  | .hbm, ⟨29, _⟩ => ⟨S8x2048, .f32⟩
  | .hbm, ⟨30, _⟩ => ⟨S1x12288, .f32⟩
  | .hbm, ⟨31, _⟩ => ⟨S8x12288, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S8x12288 : Shape := ⟨2, ![8, 12288]⟩
abbrev S1x12288 : Shape := ⟨2, ![1, 12288]⟩

abbrev nBuf : Space → Nat
  | .hbm => 21
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x12288, .f32⟩
  | .hbm, ⟨18, _⟩ => ⟨S1x12288, .f32⟩
  | .hbm, ⟨19, _⟩ => ⟨S8x12288, .f32⟩
  | .hbm, ⟨20, _⟩ => ⟨S8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Norm.lean ====
abbrev S16896x2048 : Shape := ⟨2, ![16896, 2048]⟩
abbrev S2048 : Shape := ⟨1, ![2048]⟩
abbrev S18x1x2048 : Shape := ⟨3, ![18, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S18x1x2048, .f32⟩
  | .hbm, ⟨3, _⟩ => ⟨S1x2048, .f32⟩
  | .hbm, ⟨4, _⟩ => ⟨S16896x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .sge v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c0_i32_10 : BitVec 32 := 0#32
  let v30 : BitVec 32 := Scalar.addi v29 c0_i32_10
  let c0_i32_11 : BitVec 32 := 0#32
  let c0_i32_12 : BitVec 32 := 0#32
  let c0_i32_13 : BitVec 32 := 0#32
  ![v30.toNat, c0_i32_11.toNat, c0_i32_12.toNat]

def cc0_transform_3 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .sge v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c1_i32_10 : BitVec 32 := 1#32
  let v30 : BitVec 32 := Scalar.addi v29 c1_i32_10
  let c0_i32_11 : BitVec 32 := 0#32
  let c0_i32_12 : BitVec 32 := 0#32
  let c0_i32_13 : BitVec 32 := 0#32
  ![v30.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16896x2048 : Shape := ⟨2, ![16896, 2048]⟩
abbrev S2048 : Shape := ⟨1, ![2048]⟩
abbrev S18x1x2048 : Shape := ⟨3, ![18, 1, 2048]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S2x8448x2048 : Shape := ⟨3, ![2, 8448, 2048]⟩
abbrev S3x6x2048 : Shape := ⟨3, ![3, 6, 2048]⟩
abbrev S3x1x2048 : Shape := ⟨3, ![3, 1, 2048]⟩
abbrev S3x2048 : Shape := ⟨2, ![3, 2048]⟩
abbrev S2x2048 : Shape := ⟨2, ![2, 2048]⟩
abbrev S2x1x2048 : Shape := ⟨3, ![2, 1, 2048]⟩
abbrev S2x8192x2048 : Shape := ⟨3, ![2, 8192, 2048]⟩
abbrev S2x256x2048 : Shape := ⟨3, ![2, 256, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S18x1x2048, .f32⟩
  | .hbm, ⟨3, _⟩ => ⟨S16896x2048, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x2048, .f32⟩
  | .hbm, ⟨15, _⟩ => ⟨S16896x2048, .f32⟩
  | .hbm, ⟨16, _⟩ => ⟨S1x2048, .f32⟩
  | .hbm, ⟨17, _⟩ => ⟨S16896x2048, .f32⟩
  | .hbm, ⟨18, _⟩ => ⟨S16896x2048, .f32⟩
  | .hbm, ⟨19, _⟩ => ⟨S2x8448x2048, .f32⟩
  | .hbm, ⟨20, _⟩ => ⟨S3x6x2048, .f32⟩
  | .hbm, ⟨21, _⟩ => ⟨S3x1x2048, .f32⟩
  | .hbm, ⟨22, _⟩ => ⟨S3x2048, .f32⟩
  | .hbm, ⟨23, _⟩ => ⟨S2x2048, .f32⟩
  | .hbm, ⟨24, _⟩ => ⟨S2x1x2048, .f32⟩
  | .hbm, ⟨25, _⟩ => ⟨S2x8192x2048, .f32⟩
  | .hbm, ⟨26, _⟩ => ⟨S1x2048, .f32⟩
  | .hbm, ⟨27, _⟩ => ⟨S2048, .f32⟩
  | .hbm, ⟨28, _⟩ => ⟨S2x256x2048, .f32⟩
  | .hbm, ⟨29, _⟩ => ⟨S2x8448x2048, .f32⟩
  | .hbm, ⟨30, _⟩ => ⟨S_, .f32⟩
  | .hbm, ⟨31, _⟩ => ⟨S2x8448x2048, .f32⟩
  | .hbm, ⟨32, _⟩ => ⟨S2x8448x2048, .f32⟩
  | .hbm, ⟨33, _⟩ => ⟨S2x8448x2048, .f32⟩
  | .hbm, ⟨34, _⟩ => ⟨S3x1x2048, .f32⟩
  | .hbm, ⟨35, _⟩ => ⟨S3x2048, .f32⟩
  | .hbm, ⟨36, _⟩ => ⟨S2x2048, .f32⟩
  | .hbm, ⟨37, _⟩ => ⟨S2x1x2048, .f32⟩
  | .hbm, ⟨38, _⟩ => ⟨S2x8192x2048, .f32⟩
  | .hbm, ⟨39, _⟩ => ⟨S1x2048, .f32⟩
  | .hbm, ⟨40, _⟩ => ⟨S2048, .f32⟩
  | .hbm, ⟨41, _⟩ => ⟨S2x256x2048, .f32⟩
  | .hbm, ⟨42, _⟩ => ⟨S2x8448x2048, .f32⟩
  | .hbm, ⟨43, _⟩ => ⟨S2x8448x2048, .f32⟩
  | .hbm, ⟨44, _⟩ => ⟨S16896x2048, .f32⟩
  | .hbm, ⟨45, _⟩ => ⟨S16896x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Resid.lean ====
abbrev S16896x2048 : Shape := ⟨2, ![16896, 2048]⟩
abbrev S18x1x2048 : Shape := ⟨3, ![18, 1, 2048]⟩
abbrev S2048 : Shape := ⟨1, ![2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 15
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S18x1x2048, .f32⟩
  | .hbm, ⟨3, _⟩ => ⟨S2048, .f32⟩
  | .hbm, ⟨4, _⟩ => ⟨S18x1x2048, .f32⟩
  | .hbm, ⟨5, _⟩ => ⟨S1x2048, .f32⟩
  | .hbm, ⟨6, _⟩ => ⟨S16896x2048, .f32⟩
  | .hbm, ⟨7, _⟩ => ⟨S16896x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .sge v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c5_i32 : BitVec 32 := 5#32
  let v30 : BitVec 32 := Scalar.addi v29 c5_i32
  let c0_i32_10 : BitVec 32 := 0#32
  let c0_i32_11 : BitVec 32 := 0#32
  let c0_i32_12 : BitVec 32 := 0#32
  ![v30.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .sge v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c0_i32_10 : BitVec 32 := 0#32
  let v30 : BitVec 32 := Scalar.addi v29 c0_i32_10
  let c0_i32_11 : BitVec 32 := 0#32
  let c0_i32_12 : BitVec 32 := 0#32
  let c0_i32_13 : BitVec 32 := 0#32
  ![v30.toNat, c0_i32_11.toNat, c0_i32_12.toNat]

def cc0_transform_5 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32 : BitVec 32 := 32#32
  let v10 : BitVec 1 := Scalar.cmpi .sge v9 c32_i32
  let c33_i32_3 : BitVec 32 := 33#32
  let v11 : BitVec 32 := Scalar.divsi arg0 c33_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c33_i32_3 c0_i32_6
  let v18 : BitVec 32 := Scalar.extui v17
  let c0_i32_7 : BitVec 32 := 0#32
  let v19 : BitVec 1 := Scalar.cmpi .slt c33_i32_3 c0_i32_7
  let v20 : BitVec 32 := Scalar.extui v19
  let v21 : BitVec 32 := Scalar.subi v18 v20
  let v22 : BitVec 1 := Scalar.cmpi .ne v16 v21
  let v23 : BitVec 32 := Scalar.remsi arg0 c33_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c1_i32_10 : BitVec 32 := 1#32
  let v30 : BitVec 32 := Scalar.addi v29 c1_i32_10
  let c0_i32_11 : BitVec 32 := 0#32
  let c0_i32_12 : BitVec 32 := 0#32
  let c0_i32_13 : BitVec 32 := 0#32
  ![v30.toNat, c0_i32_11.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidRefIdeal.lean ====
abbrev S16896x2048 : Shape := ⟨2, ![16896, 2048]⟩
abbrev S18x1x2048 : Shape := ⟨3, ![18, 1, 2048]⟩
abbrev S2048 : Shape := ⟨1, ![2048]⟩
abbrev S3x6x2048 : Shape := ⟨3, ![3, 6, 2048]⟩
abbrev S3x1x2048 : Shape := ⟨3, ![3, 1, 2048]⟩
abbrev S3x2048 : Shape := ⟨2, ![3, 2048]⟩
abbrev S2x2048 : Shape := ⟨2, ![2, 2048]⟩
abbrev S2x1x2048 : Shape := ⟨3, ![2, 1, 2048]⟩
abbrev S2x8192x2048 : Shape := ⟨3, ![2, 8192, 2048]⟩
abbrev S1x2048 : Shape := ⟨2, ![1, 2048]⟩
abbrev S2x256x2048 : Shape := ⟨3, ![2, 256, 2048]⟩
abbrev S2x8448x2048 : Shape := ⟨3, ![2, 8448, 2048]⟩
abbrev S_ : Shape := ⟨0, ![]⟩
abbrev S16896 : Shape := ⟨1, ![16896]⟩
abbrev S16896x1 : Shape := ⟨2, ![16896, 1]⟩

abbrev nBuf : Space → Nat
  | .hbm => 62
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S18x1x2048, .f32⟩
  | .hbm, ⟨3, _⟩ => ⟨S2048, .f32⟩
  | .hbm, ⟨4, _⟩ => ⟨S18x1x2048, .f32⟩
  | .hbm, ⟨5, _⟩ => ⟨S3x6x2048, .f32⟩
  | .hbm, ⟨6, _⟩ => ⟨S3x6x2048, .f32⟩
  | .hbm, ⟨7, _⟩ => ⟨S3x1x2048, .f32⟩
  | .hbm, ⟨8, _⟩ => ⟨S3x2048, .f32⟩
  | .hbm, ⟨9, _⟩ => ⟨S2x2048, .f32⟩
  | .hbm, ⟨10, _⟩ => ⟨S2x1x2048, .f32⟩
  | .hbm, ⟨11, _⟩ => ⟨S2x8192x2048, .f32⟩
  | .hbm, ⟨12, _⟩ => ⟨S1x2048, .f32⟩
  | .hbm, ⟨13, _⟩ => ⟨S2048, .f32⟩
  | .hbm, ⟨14, _⟩ => ⟨S2x256x2048, .f32⟩
  | .hbm, ⟨15, _⟩ => ⟨S2x8448x2048, .f32⟩
  | .hbm, ⟨16, _⟩ => ⟨S2x8448x2048, .f32⟩
  | .hbm, ⟨17, _⟩ => ⟨S2x8448x2048, .f32⟩
  | .hbm, ⟨18, _⟩ => ⟨S16896x2048, .f32⟩
  | .hbm, ⟨19, _⟩ => ⟨S16896x2048, .f32⟩
  | .hbm, ⟨20, _⟩ => ⟨S16896x2048, .f32⟩
  | .hbm, ⟨21, _⟩ => ⟨S_, .f32⟩
  | .hbm, ⟨22, _⟩ => ⟨S16896, .f32⟩
  | .hbm, ⟨23, _⟩ => ⟨S16896x1, .f32⟩
  | .hbm, ⟨24, _⟩ => ⟨S_, .f32⟩
  | .hbm, ⟨25, _⟩ => ⟨S16896x1, .f32⟩
  | .hbm, ⟨26, _⟩ => ⟨S16896x1, .f32⟩
  | .hbm, ⟨27, _⟩ => ⟨S_, .f32⟩
  | .hbm, ⟨28, _⟩ => ⟨S16896x1, .f32⟩
  | .hbm, ⟨29, _⟩ => ⟨S16896x1, .f32⟩
  | .hbm, ⟨30, _⟩ => ⟨S16896x1, .f32⟩
  | .hbm, ⟨31, _⟩ => ⟨S16896x2048, .f32⟩
  | .hbm, ⟨32, _⟩ => ⟨S16896x2048, .f32⟩
  | .hbm, ⟨33, _⟩ => ⟨S1x2048, .f32⟩
  | .hbm, ⟨34, _⟩ => ⟨S16896x2048, .f32⟩
  | .hbm, ⟨35, _⟩ => ⟨S16896x2048, .f32⟩
  | .hbm, ⟨36, _⟩ => ⟨S2x8448x2048, .f32⟩
  | .hbm, ⟨37, _⟩ => ⟨S3x1x2048, .f32⟩
  | .hbm, ⟨38, _⟩ => ⟨S3x2048, .f32⟩
  | .hbm, ⟨39, _⟩ => ⟨S2x2048, .f32⟩
  | .hbm, ⟨40, _⟩ => ⟨S2x1x2048, .f32⟩
  | .hbm, ⟨41, _⟩ => ⟨S2x8192x2048, .f32⟩
  | .hbm, ⟨42, _⟩ => ⟨S1x2048, .f32⟩
  | .hbm, ⟨43, _⟩ => ⟨S2048, .f32⟩
  | .hbm, ⟨44, _⟩ => ⟨S2x256x2048, .f32⟩
  | .hbm, ⟨45, _⟩ => ⟨S2x8448x2048, .f32⟩
  | .hbm, ⟨46, _⟩ => ⟨S_, .f32⟩
  | .hbm, ⟨47, _⟩ => ⟨S2x8448x2048, .f32⟩
  | .hbm, ⟨48, _⟩ => ⟨S2x8448x2048, .f32⟩
  | .hbm, ⟨49, _⟩ => ⟨S2x8448x2048, .f32⟩
  | .hbm, ⟨50, _⟩ => ⟨S3x1x2048, .f32⟩
  | .hbm, ⟨51, _⟩ => ⟨S3x2048, .f32⟩
  | .hbm, ⟨52, _⟩ => ⟨S2x2048, .f32⟩
  | .hbm, ⟨53, _⟩ => ⟨S2x1x2048, .f32⟩
  | .hbm, ⟨54, _⟩ => ⟨S2x8192x2048, .f32⟩
  | .hbm, ⟨55, _⟩ => ⟨S1x2048, .f32⟩
  | .hbm, ⟨56, _⟩ => ⟨S2048, .f32⟩
  | .hbm, ⟨57, _⟩ => ⟨S2x256x2048, .f32⟩
  | .hbm, ⟨58, _⟩ => ⟨S2x8448x2048, .f32⟩
  | .hbm, ⟨59, _⟩ => ⟨S2x8448x2048, .f32⟩
  | .hbm, ⟨60, _⟩ => ⟨S16896x2048, .f32⟩
  | .hbm, ⟨61, _⟩ => ⟨S16896x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]
-- ==== Readout.lean ====
abbrev S16896x1024 : Shape := ⟨2, ![16896, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16896x1024, .f32⟩
  | .hbm, ⟨3, _⟩ => ⟨S16896x1024, .f32⟩
  | .hbm, ⟨4, _⟩ => ⟨S16896x1024, .f32⟩
  | .hbm, ⟨5, _⟩ => ⟨S16896x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16896x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReadoutRefIdeal.lean ====
abbrev S16896x1024 : Shape := ⟨2, ![16896, 1024]⟩
abbrev S1024 : Shape := ⟨1, ![1024]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16896x1024, .f32⟩
  | .hbm, ⟨3, _⟩ => ⟨S16896x1024, .f32⟩
  | .hbm, ⟨4, _⟩ => ⟨S16896x1024, .f32⟩
  | .hbm, ⟨5, _⟩ => ⟨S16896x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S16896x1024, .f32⟩
  | .hbm, ⟨10, _⟩ => ⟨S16896x1024, .f32⟩
  | .hbm, ⟨11, _⟩ => ⟨S1x1024, .f32⟩
  | .hbm, ⟨12, _⟩ => ⟨S16896x1024, .f32⟩
  | .hbm, ⟨13, _⟩ => ⟨S16896x1024, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S16896x1024, .f32⟩
  | .hbm, ⟨25, _⟩ => ⟨S16896x1024, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Final.lean ====
abbrev S2x8448x2048 : Shape := ⟨3, ![2, 8448, 2048]⟩
abbrev S18x1x2048 : Shape := ⟨3, ![18, 1, 2048]⟩
abbrev S2048 : Shape := ⟨1, ![2048]⟩
abbrev S1x2048 : Shape := ⟨2, ![1, 2048]⟩
abbrev S2x8192x2048 : Shape := ⟨3, ![2, 8192, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x8448x2048, .f32⟩
  | .hbm, ⟨1, _⟩ => ⟨S2x8448x2048, .f32⟩
  | .hbm, ⟨2, _⟩ => ⟨S18x1x2048, .f32⟩
  | .hbm, ⟨3, _⟩ => ⟨S2048, .f32⟩
  | .hbm, ⟨4, _⟩ => ⟨S1x2048, .f32⟩
  | .hbm, ⟨5, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x256x2048, .f32⟩
  | .local _ .vmem, ⟨8, _⟩ => ⟨S1x256x2048, .f32⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S2x8448x2048 : Shape := ⟨3, ![2, 8448, 2048]⟩
abbrev S18x1x2048 : Shape := ⟨3, ![18, 1, 2048]⟩
abbrev S2048 : Shape := ⟨1, ![2048]⟩
abbrev S3x6x2048 : Shape := ⟨3, ![3, 6, 2048]⟩
abbrev S2x1x2048 : Shape := ⟨3, ![2, 1, 2048]⟩
abbrev S2x2048 : Shape := ⟨2, ![2, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2x8448x2048, .f32⟩
  | .hbm, ⟨2, _⟩ => ⟨S18x1x2048, .f32⟩
  | .hbm, ⟨3, _⟩ => ⟨S2048, .f32⟩
  | .hbm, ⟨4, _⟩ => ⟨S3x6x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Ctx.lean ====
abbrev S2x8448x2048 : Shape := ⟨3, ![2, 8448, 2048]⟩
abbrev S2x8448x1024 : Shape := ⟨3, ![2, 8448, 1024]⟩
abbrev S1x256x256 : Shape := ⟨3, ![1, 256, 256]⟩
abbrev S1x256x128 : Shape := ⟨3, ![1, 256, 128]⟩
abbrev S256x1 : Shape := ⟨2, ![256, 1]⟩
abbrev S256x128 : Shape := ⟨2, ![256, 128]⟩
abbrev S256x256 : Shape := ⟨2, ![256, 256]⟩
abbrev S256 : Shape := ⟨1, ![256]⟩

abbrev nBuf : Space → Nat
  | .hbm => 5
  | .vmem => 12
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x1024, .bf16⟩
  | .hbm, ⟨3, _⟩ => ⟨S2x8448x1024, .bf16⟩
  | .hbm, ⟨4, _⟩ => ⟨S2x8448x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S256x1, .f32⟩
  | .local _ .vmem, ⟨9, _⟩ => ⟨S256x128, .f32⟩
  | .local _ .vmem, ⟨10, _⟩ => ⟨S256x1, .f32⟩
  | .local _ .vmem, ⟨11, _⟩ => ⟨S256x128, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 1, 1], ![false, false, false, false]⟩

def k0_cond2 (i : grid0.Coords) : BitVec 1 :=
  let arg3 : BitVec 32 := BitVec.ofNat 32 (i 3).val
  let c0_i32_37 : BitVec 32 := 0#32
  let v65 : BitVec 1 := Scalar.cmpi .eq arg3 c0_i32_37
  let v66 : BitVec 32 := Scalar.extui v65
  let c0_i32_38 : BitVec 32 := 0#32
  let v67 : BitVec 1 := Scalar.cmpi .ne v66 c0_i32_38
  v67

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.addi c32_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.addi c32_i32 arg3
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.addi c32_i32 arg3
  let c0_i32 : BitVec 32 := 0#32
  ![arg0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.addi c32_i32 arg2
  let c0_i32 : BitVec 32 := 0#32
  ![arg0.toNat, v0.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== CtxRefIdeal.lean ====
abbrev S2x8448x2048 : Shape := ⟨3, ![2, 8448, 2048]⟩
abbrev S2x8448x1024 : Shape := ⟨3, ![2, 8448, 1024]⟩
abbrev S2x256x2048 : Shape := ⟨3, ![2, 256, 2048]⟩
abbrev S2x256x16x128 : Shape := ⟨4, ![2, 256, 16, 128]⟩
abbrev S2x256x1024 : Shape := ⟨3, ![2, 256, 1024]⟩
abbrev S2x256x16x64 : Shape := ⟨4, ![2, 256, 16, 64]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩
abbrev S2x8192x1024 : Shape := ⟨3, ![2, 8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x1024, .bf16⟩
  | .hbm, ⟨3, _⟩ => ⟨S2x8448x1024, .bf16⟩
  | .hbm, ⟨4, _⟩ => ⟨S2x8448x2048, .f32⟩
  | .hbm, ⟨5, _⟩ => ⟨S2x256x2048, .f32⟩
  | .hbm, ⟨6, _⟩ => ⟨S2x256x16x128, .f32⟩
  | .hbm, ⟨7, _⟩ => ⟨S2x8448x2048, .f32⟩
  | .hbm, ⟨8, _⟩ => ⟨S2x256x2048, .f32⟩
  | .hbm, ⟨9, _⟩ => ⟨S2x256x16x128, .f32⟩
  | .hbm, ⟨10, _⟩ => ⟨S2x8448x1024, .f32⟩
  | .hbm, ⟨11, _⟩ => ⟨S2x256x1024, .f32⟩
  | .hbm, ⟨12, _⟩ => ⟨S2x256x16x64, .f32⟩
  | .hbm, ⟨13, _⟩ => ⟨S2x16x256x256, .f32⟩
  | .hbm, ⟨14, _⟩ => ⟨S_, .f32⟩
  | .hbm, ⟨15, _⟩ => ⟨S2x16x256, .f32⟩
  | .hbm, ⟨16, _⟩ => ⟨S_, .f32⟩
  | .hbm, ⟨17, _⟩ => ⟨S2x16x256, .f32⟩
  | .hbm, ⟨18, _⟩ => ⟨S2x16x256, .f32⟩
  | .hbm, ⟨19, _⟩ => ⟨S2x16x256x1, .f32⟩
  | .hbm, ⟨20, _⟩ => ⟨S2x16x256x256, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256, .f32⟩
  | .hbm, ⟨25, _⟩ => ⟨S2x16x256x1, .f32⟩
  | .hbm, ⟨26, _⟩ => ⟨S2x16x256x256, .f32⟩
  | .hbm, ⟨27, _⟩ => ⟨S2x16x256x256, .f32⟩
  | .hbm, ⟨28, _⟩ => ⟨S2x16x64x256, .f32⟩
  | .hbm, ⟨29, _⟩ => ⟨S2x256x16x64, .f32⟩
  | .hbm, ⟨30, _⟩ => ⟨S2x256x1024, .f32⟩
  | .hbm, ⟨31, _⟩ => ⟨S2x256x1024, .bf16⟩
  | .hbm, ⟨32, _⟩ => ⟨S2x8192x1024, .bf16⟩
  | .hbm, ⟨33, _⟩ => ⟨S2x8448x1024, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Heads.lean ====
abbrev S16896x2048 : Shape := ⟨2, ![16896, 2048]⟩
abbrev S2048x8288 : Shape := ⟨2, ![2048, 8288]⟩
abbrev S8192x16 : Shape := ⟨2, ![8192, 16]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S2048x32 : Shape := ⟨2, ![2048, 32]⟩
abbrev S2048x768 : Shape := ⟨2, ![2048, 768]⟩
abbrev S_ : Shape := ⟨0, ![]⟩
abbrev S2048x128 : Shape := ⟨2, ![2048, 128]⟩
abbrev S2048x16 : Shape := ⟨2, ![2048, 16]⟩
abbrev S2048x1024 : Shape := ⟨2, ![2048, 1024]⟩
abbrev S512x16x96 : Shape := ⟨3, ![512, 16, 96]⟩
abbrev S512x16x32 : Shape := ⟨3, ![512, 16, 32]⟩
abbrev S512x16x128 : Shape := ⟨3, ![512, 16, 128]⟩
abbrev S512x2048 : Shape := ⟨2, ![512, 2048]⟩
abbrev S512x16x64 : Shape := ⟨3, ![512, 16, 64]⟩
abbrev S512x16x16 : Shape := ⟨3, ![512, 16, 16]⟩
abbrev S256x16x128 : Shape := ⟨3, ![256, 16, 128]⟩
abbrev S256x16x64 : Shape := ⟨3, ![256, 16, 64]⟩
abbrev S256x1024 : Shape := ⟨2, ![256, 1024]⟩
abbrev S8192x64 : Shape := ⟨2, ![8192, 64]⟩
abbrev S8192x32 : Shape := ⟨2, ![8192, 32]⟩
abbrev S8192x128 : Shape := ⟨2, ![8192, 128]⟩
abbrev S256x128 : Shape := ⟨2, ![256, 128]⟩
abbrev S8448x128 : Shape := ⟨2, ![8448, 128]⟩
abbrev S16896x1024 : Shape := ⟨2, ![16896, 1024]⟩
abbrev S1x512 : Shape := ⟨2, ![1, 512]⟩
abbrev S1x256 : Shape := ⟨2, ![1, 256]⟩
abbrev S256x512 : Shape := ⟨2, ![256, 512]⟩
abbrev S256x1 : Shape := ⟨2, ![256, 1]⟩
abbrev S256x256 : Shape := ⟨2, ![256, 256]⟩

abbrev nBuf : Space → Nat
  | .hbm => 70
  | .vmem => 23
  | .smem => 0
  | _ => 0

abbrev bufTy : (tb : Table) → Fin (tcTables nBuf tb) → BufTy
  | .hbm, ⟨0, _⟩ => ⟨S16896x2048, .bf16⟩
  | .hbm, ⟨1, _⟩ => ⟨S2048x8288, .f32⟩
  | .hbm, ⟨2, _⟩ => ⟨S8192x16, .f32⟩
  | .hbm, ⟨3, _⟩ => ⟨S8192x16, .f32⟩
  | .hbm, ⟨4, _⟩ => ⟨S512, .f32⟩
  | .hbm, ⟨5, _⟩ => ⟨S256, .f32⟩
  | .hbm, ⟨6, _⟩ => ⟨S512x1536, .f32⟩
  | .hbm, ⟨7, _⟩ => ⟨S256x2048, .f32⟩
  | .hbm, ⟨8, _⟩ => ⟨S2048x32, .f32⟩
  | .hbm, ⟨9, _⟩ => ⟨S2048x768, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x32, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S2048x1024, .f32⟩
  | .hbm, ⟨21, _⟩ => ⟨S2048x1024, .bf16⟩
  | .hbm, ⟨22, _⟩ => ⟨S512x16x96, .f32⟩
  | .hbm, ⟨23, _⟩ => ⟨S_, .f32⟩
  | .hbm, ⟨24, _⟩ => ⟨S512x16x32, .f32⟩
  | .hbm, ⟨25, _⟩ => ⟨S512x16x128, .f32⟩
  | .hbm, ⟨26, _⟩ => ⟨S512x2048, .f32⟩
  | .hbm, ⟨27, _⟩ => ⟨S512x2048, .bf16⟩
  | .hbm, ⟨28, _⟩ => ⟨S_, .f32⟩
  | .hbm, ⟨29, _⟩ => ⟨S512x16x64, .f32⟩
  | .hbm, ⟨30, _⟩ => ⟨S512x16x32, .f32⟩
  | .hbm, ⟨31, _⟩ => ⟨S512x16x16, .f32⟩
  | .hbm, ⟨32, _⟩ => ⟨S512x16x16, .f32⟩
  | .hbm, ⟨33, _⟩ => ⟨S512x16x16, .f32⟩
  | .hbm, ⟨34, _⟩ => ⟨S512x16x32, .f32⟩
  | .hbm, ⟨35, _⟩ => ⟨S512x16x128, .f32⟩
  | .hbm, ⟨36, _⟩ => ⟨S512x2048, .f32⟩
  | .hbm, ⟨37, _⟩ => ⟨S512x2048, .bf16⟩
  | .hbm, ⟨38, _⟩ => ⟨S256x16x128, .f32⟩
  | .hbm, ⟨39, _⟩ => ⟨S256x16x64, .f32⟩
  | .hbm, ⟨40, _⟩ => ⟨S_, .i32⟩
  | .hbm, ⟨41, _⟩ => ⟨S_, .f32⟩
  | .hbm, ⟨42, _⟩ => ⟨S256x16x128, .f32⟩
  | .hbm, ⟨43, _⟩ => ⟨S256x2048, .f32⟩
  | .hbm, ⟨44, _⟩ => ⟨S256x2048, .bf16⟩
  | .hbm, ⟨45, _⟩ => ⟨S256x16x64, .f32⟩
  | .hbm, ⟨46, _⟩ => ⟨S256x1024, .f32⟩
  | .hbm, ⟨47, _⟩ => ⟨S256x1024, .bf16⟩
  | .hbm, ⟨48, _⟩ => ⟨S_, .f32⟩
  | .hbm, ⟨49, _⟩ => ⟨S8192x64, .f32⟩
  | .hbm, ⟨50, _⟩ => ⟨S_, .f32⟩
  | .hbm, ⟨51, _⟩ => ⟨S8192x32, .f32⟩
  | .hbm, ⟨52, _⟩ => ⟨S8192x128, .f32⟩
  | .hbm, ⟨53, _⟩ => ⟨S_, .f32⟩
  | .hbm, ⟨54, _⟩ => ⟨S8192x64, .f32⟩
  | .hbm, ⟨55, _⟩ => ⟨S_, .f32⟩
  | .hbm, ⟨56, _⟩ => ⟨S8192x32, .f32⟩
  | .hbm, ⟨57, _⟩ => ⟨S8192x128, .f32⟩
  | .hbm, ⟨58, _⟩ => ⟨S_, .f32⟩
  | .hbm, ⟨59, _⟩ => ⟨S256x128, .f32⟩
  | .hbm, ⟨60, _⟩ => ⟨S8448x128, .f32⟩
  | .hbm, ⟨61, _⟩ => ⟨S_, .f32⟩
  | .hbm, ⟨62, _⟩ => ⟨S256x128, .f32⟩
  | .hbm, ⟨63, _⟩ => ⟨S8448x128, .f32⟩
  | .hbm, ⟨64, _⟩ => ⟨S16896x1024, .f32⟩
  | .hbm, ⟨65, _⟩ => ⟨S1x512, .f32⟩
  | .hbm, ⟨66, _⟩ => ⟨S1x256, .f32⟩
  | .hbm, ⟨67, _⟩ => ⟨S16896x2048, .bf16⟩
  | .hbm, ⟨68, _⟩ => ⟨S16896x2048, .bf16⟩
  | .hbm, ⟨69, _⟩ => ⟨S16896x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x512, .f32⟩
  | .local _ .vmem, ⟨12, _⟩ => ⟨S1x256, .f32⟩
  | .local _ .vmem, ⟨13, _⟩ => ⟨S512x2048, .bf16⟩
  | .local _ .vmem, ⟨14, _⟩ => ⟨S512x2048, .bf16⟩
  | .local _ .vmem, ⟨15, _⟩ => ⟨S256x2048, .bf16⟩
  | .local _ .vmem, ⟨16, _⟩ => ⟨S256x1024, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x1024, .bf16⟩
  | .local _ .vmem, ⟨22, _⟩ => ⟨S256x1024, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_call2_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev main_v45_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22

abbrev nD : Nat := 1
abbrev τ : Topo := Topo.v7x

variable {F : FTy → Type} [FloatOps F]

abbrev grid0 : Pipeline.Grid := ⟨2, ![1, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![66], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_2 (i : grid1.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== HeadsRefIdeal.lean ====
abbrev S16896x2048 : Shape := ⟨2, ![16896, 2048]⟩
abbrev S2048x8288 : Shape := ⟨2, ![2048, 8288]⟩
abbrev S8192x16 : Shape := ⟨2, ![8192, 16]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S16896x8288 : Shape := ⟨2, ![16896, 8288]⟩
abbrev S16896x800 : Shape := ⟨2, ![16896, 800]⟩
abbrev S2x8448x800 : Shape := ⟨3, ![2, 8448, 800]⟩
abbrev S2x8448x512 : Shape := ⟨3, ![2, 8448, 512]⟩
abbrev S_ : Shape := ⟨0, ![]⟩
abbrev S2x8448 : Shape := ⟨2, ![2, 8448]⟩
abbrev S2x8448x1 : Shape := ⟨3, ![2, 8448, 1]⟩
abbrev S1x1x512 : Shape := ⟨3, ![1, 1, 512]⟩
abbrev S2x8448x1536 : Shape := ⟨3, ![2, 8448, 1536]⟩
abbrev S2x8448x16x96 : Shape := ⟨4, ![2, 8448, 16, 96]⟩
abbrev S2x8448x256 : Shape := ⟨3, ![2, 8448, 256]⟩
abbrev S1x1x256 : Shape := ⟨3, ![1, 1, 256]⟩
abbrev S2x8448x2048 : Shape := ⟨3, ![2, 8448, 2048]⟩
abbrev S2x8448x16x128 : Shape := ⟨4, ![2, 8448, 16, 128]⟩
abbrev S2x8448x16x32 : Shape := ⟨4, ![2, 8448, 16, 32]⟩
abbrev S2x8448x32 : Shape := ⟨3, ![2, 8448, 32]⟩
abbrev S2x8192x16x32 : Shape := ⟨4, ![2, 8192, 16, 32]⟩
abbrev S8192x1x16 : Shape := ⟨3, ![8192, 1, 16]⟩
abbrev S2x8192x16x16 : Shape := ⟨4, ![2, 8192, 16, 16]⟩
abbrev S1x8192x1x16 : Shape := ⟨4, ![1, 8192, 1, 16]⟩
abbrev S2x256x16x32 : Shape := ⟨4, ![2, 256, 16, 32]⟩
abbrev S2x8192x32 : Shape := ⟨3, ![2, 8192, 32]⟩
abbrev S2x8192x16 : Shape := ⟨3, ![2, 8192, 16]⟩
abbrev S1x8192x16 : Shape := ⟨3, ![1, 8192, 16]⟩
abbrev S2x256x32 : Shape := ⟨3, ![2, 256, 32]⟩
abbrev S2x8448x16x64 : Shape := ⟨4, ![2, 8448, 16, 64]⟩
abbrev S2x8448x1x32 : Shape := ⟨4, ![2, 8448, 1, 32]⟩
abbrev S16896x1024 : Shape := ⟨2, ![16896, 1024]⟩

abbrev nBuf : Space → Nat
  | .hbm => 116
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x8288, .f32⟩
  | .hbm, ⟨2, _⟩ => ⟨S8192x16, .f32⟩
  | .hbm, ⟨3, _⟩ => ⟨S8192x16, .f32⟩
  | .hbm, ⟨4, _⟩ => ⟨S512, .f32⟩
  | .hbm, ⟨5, _⟩ => ⟨S256, .f32⟩
  | .hbm, ⟨6, _⟩ => ⟨S512x1536, .f32⟩
  | .hbm, ⟨7, _⟩ => ⟨S256x2048, .f32⟩
  | .hbm, ⟨8, _⟩ => ⟨S16896x2048, .f32⟩
  | .hbm, ⟨9, _⟩ => ⟨S16896x8288, .f32⟩
  | .hbm, ⟨10, _⟩ => ⟨S16896x800, .f32⟩
  | .hbm, ⟨11, _⟩ => ⟨S2x8448x800, .f32⟩
  | .hbm, ⟨12, _⟩ => ⟨S2x8448x512, .f32⟩
  | .hbm, ⟨13, _⟩ => ⟨S2x8448x512, .f32⟩
  | .hbm, ⟨14, _⟩ => ⟨S_, .f32⟩
  | .hbm, ⟨15, _⟩ => ⟨S2x8448, .f32⟩
  | .hbm, ⟨16, _⟩ => ⟨S2x8448x1, .f32⟩
  | .hbm, ⟨17, _⟩ => ⟨S_, .f32⟩
  | .hbm, ⟨18, _⟩ => ⟨S2x8448x1, .f32⟩
  | .hbm, ⟨19, _⟩ => ⟨S2x8448x1, .f32⟩
  | .hbm, ⟨20, _⟩ => ⟨S_, .f32⟩
  | .hbm, ⟨21, _⟩ => ⟨S2x8448x1, .f32⟩
  | .hbm, ⟨22, _⟩ => ⟨S2x8448x1, .f32⟩
  | .hbm, ⟨23, _⟩ => ⟨S2x8448x1, .f32⟩
  | .hbm, ⟨24, _⟩ => ⟨S2x8448x512, .f32⟩
  | .hbm, ⟨25, _⟩ => ⟨S2x8448x512, .f32⟩
  | .hbm, ⟨26, _⟩ => ⟨S1x1x512, .f32⟩
  | .hbm, ⟨27, _⟩ => ⟨S2x8448x512, .f32⟩
  | .hbm, ⟨28, _⟩ => ⟨S2x8448x512, .f32⟩
  | .hbm, ⟨29, _⟩ => ⟨S2x8448x1536, .f32⟩
  | .hbm, ⟨30, _⟩ => ⟨S2x8448x16x96, .f32⟩
  | .hbm, ⟨31, _⟩ => ⟨S2x8448x256, .f32⟩
  | .hbm, ⟨32, _⟩ => ⟨S2x8448x256, .f32⟩
  | .hbm, ⟨33, _⟩ => ⟨S_, .f32⟩
  | .hbm, ⟨34, _⟩ => ⟨S2x8448, .f32⟩
  | .hbm, ⟨35, _⟩ => ⟨S2x8448x1, .f32⟩
  | .hbm, ⟨36, _⟩ => ⟨S_, .f32⟩
  | .hbm, ⟨37, _⟩ => ⟨S2x8448x1, .f32⟩
  | .hbm, ⟨38, _⟩ => ⟨S2x8448x1, .f32⟩
  | .hbm, ⟨39, _⟩ => ⟨S_, .f32⟩
  | .hbm, ⟨40, _⟩ => ⟨S2x8448x1, .f32⟩
  | .hbm, ⟨41, _⟩ => ⟨S2x8448x1, .f32⟩
  | .hbm, ⟨42, _⟩ => ⟨S2x8448x1, .f32⟩
  | .hbm, ⟨43, _⟩ => ⟨S2x8448x256, .f32⟩
  | .hbm, ⟨44, _⟩ => ⟨S2x8448x256, .f32⟩
  | .hbm, ⟨45, _⟩ => ⟨S1x1x256, .f32⟩
  | .hbm, ⟨46, _⟩ => ⟨S2x8448x256, .f32⟩
  | .hbm, ⟨47, _⟩ => ⟨S2x8448x256, .f32⟩
  | .hbm, ⟨48, _⟩ => ⟨S2x8448x2048, .f32⟩
  | .hbm, ⟨49, _⟩ => ⟨S2x8448x16x128, .f32⟩
  | .hbm, ⟨50, _⟩ => ⟨S2x8448x16x32, .f32⟩
  | .hbm, ⟨51, _⟩ => ⟨S2x8448x32, .f32⟩
  | .hbm, ⟨52, _⟩ => ⟨S2x8192x16x32, .f32⟩
  | .hbm, ⟨53, _⟩ => ⟨S8192x1x16, .f32⟩
  | .hbm, ⟨54, _⟩ => ⟨S8192x1x16, .f32⟩
  | .hbm, ⟨55, _⟩ => ⟨S2x8192x16x16, .f32⟩
  | .hbm, ⟨56, _⟩ => ⟨S2x8192x16x16, .f32⟩
  | .hbm, ⟨57, _⟩ => ⟨S1x8192x1x16, .f32⟩
  | .hbm, ⟨58, _⟩ => ⟨S2x8192x16x16, .f32⟩
  | .hbm, ⟨59, _⟩ => ⟨S2x8192x16x16, .f32⟩
  | .hbm, ⟨60, _⟩ => ⟨S1x8192x1x16, .f32⟩
  | .hbm, ⟨61, _⟩ => ⟨S2x8192x16x16, .f32⟩
  | .hbm, ⟨62, _⟩ => ⟨S2x8192x16x16, .f32⟩
  | .hbm, ⟨63, _⟩ => ⟨S2x8192x16x16, .f32⟩
  | .hbm, ⟨64, _⟩ => ⟨S1x8192x1x16, .f32⟩
  | .hbm, ⟨65, _⟩ => ⟨S2x8192x16x16, .f32⟩
  | .hbm, ⟨66, _⟩ => ⟨S2x8192x16x16, .f32⟩
  | .hbm, ⟨67, _⟩ => ⟨S1x8192x1x16, .f32⟩
  | .hbm, ⟨68, _⟩ => ⟨S2x8192x16x16, .f32⟩
  | .hbm, ⟨69, _⟩ => ⟨S2x8192x16x16, .f32⟩
  | .hbm, ⟨70, _⟩ => ⟨S2x8192x16x16, .f32⟩
  | .hbm, ⟨71, _⟩ => ⟨S2x8192x16x32, .f32⟩
  | .hbm, ⟨72, _⟩ => ⟨S2x256x16x32, .f32⟩
  | .hbm, ⟨73, _⟩ => ⟨S2x8448x16x32, .f32⟩
  | .hbm, ⟨74, _⟩ => ⟨S2x8192x32, .f32⟩
  | .hbm, ⟨75, _⟩ => ⟨S2x8192x16, .f32⟩
  | .hbm, ⟨76, _⟩ => ⟨S2x8192x16, .f32⟩
  | .hbm, ⟨77, _⟩ => ⟨S1x8192x16, .f32⟩
  | .hbm, ⟨78, _⟩ => ⟨S2x8192x16, .f32⟩
  | .hbm, ⟨79, _⟩ => ⟨S2x8192x16, .f32⟩
  | .hbm, ⟨80, _⟩ => ⟨S1x8192x16, .f32⟩
  | .hbm, ⟨81, _⟩ => ⟨S2x8192x16, .f32⟩
  | .hbm, ⟨82, _⟩ => ⟨S2x8192x16, .f32⟩
  | .hbm, ⟨83, _⟩ => ⟨S2x8192x16, .f32⟩
  | .hbm, ⟨84, _⟩ => ⟨S1x8192x16, .f32⟩
  | .hbm, ⟨85, _⟩ => ⟨S2x8192x16, .f32⟩
  | .hbm, ⟨86, _⟩ => ⟨S2x8192x16, .f32⟩
  | .hbm, ⟨87, _⟩ => ⟨S1x8192x16, .f32⟩
  | .hbm, ⟨88, _⟩ => ⟨S2x8192x16, .f32⟩
  | .hbm, ⟨89, _⟩ => ⟨S2x8192x16, .f32⟩
  | .hbm, ⟨90, _⟩ => ⟨S2x8192x16, .f32⟩
  | .hbm, ⟨91, _⟩ => ⟨S2x8192x32, .f32⟩
  | .hbm, ⟨92, _⟩ => ⟨S2x256x32, .f32⟩
  | .hbm, ⟨93, _⟩ => ⟨S2x8448x32, .f32⟩
  | .hbm, ⟨94, _⟩ => ⟨S2x8448x16x64, .f32⟩
  | .hbm, ⟨95, _⟩ => ⟨S2x8448x16x96, .f32⟩
  | .hbm, ⟨96, _⟩ => ⟨S_, .f32⟩
  | .hbm, ⟨97, _⟩ => ⟨S2x8448x16x96, .f32⟩
  | .hbm, ⟨98, _⟩ => ⟨S2x8448x16x96, .f32⟩
  | .hbm, ⟨99, _⟩ => ⟨S2x8448x16x64, .f32⟩
  | .hbm, ⟨100, _⟩ => ⟨S2x8448x1x32, .f32⟩
  | .hbm, ⟨101, _⟩ => ⟨S2x8448x16x32, .f32⟩
  | .hbm, ⟨102, _⟩ => ⟨S2x8448x16x96, .f32⟩
  | .hbm, ⟨103, _⟩ => ⟨S_, .i32⟩
  | .hbm, ⟨104, _⟩ => ⟨S_, .f32⟩
  | .hbm, ⟨105, _⟩ => ⟨S2x8448x16x128, .f32⟩
  | .hbm, ⟨106, _⟩ => ⟨S16896x2048, .f32⟩
  | .hbm, ⟨107, _⟩ => ⟨S16896x2048, .bf16⟩
  | .hbm, ⟨108, _⟩ => ⟨S_, .i32⟩
  | .hbm, ⟨109, _⟩ => ⟨S_, .f32⟩
  | .hbm, ⟨110, _⟩ => ⟨S2x8448x16x128, .f32⟩
  | .hbm, ⟨111, _⟩ => ⟨S16896x2048, .f32⟩
  | .hbm, ⟨112, _⟩ => ⟨S16896x2048, .bf16⟩
  | .hbm, ⟨113, _⟩ => ⟨S2x8448x16x64, .f32⟩
  | .hbm, ⟨114, _⟩ => ⟨S16896x1024, .f32⟩
  | .hbm, ⟨115, _⟩ => ⟨S16896x1024, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_5 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_c : Ref sig .tc := ⟨.hbm, 103, rfl⟩
abbrev main_call0_v0 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_c_6 : Ref sig .tc := ⟨.hbm, 108, rfl⟩
abbrev main_call1_v0 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩

abbrev nD : Nat := 1
abbrev τ : Topo := Topo.v7x

variable {F : FTy → Type} [FloatOps F]
-- ==== Proof.Online.lean ====
/- The mathematics of a softmax computed a tile of keys at a time, over the extended reals. A running maximum and a
   sum of exponentials taken relative to it are carried from tile to tile; when the maximum grows, the sum is multiplied by
   the exponential of the difference. -/
module

public import Idealize.ShloMosaic.PureOps.Ideal

@[expose] public section

noncomputable section

namespace Cert.Online

open Idealize.ShloMosaic

/-- An exponential is not negative. -/
theorem exp_nonneg (x : EReal) : 0 ≤ Ideal.exp x := by
  induction x with
  | bot => simp
  | top => simp
  | coe r => rw [Ideal.exp_coe]; exact_mod_cast (Real.exp_pos r).le

/-- Only `⊤` has the exponential `⊤`. -/
theorem exp_ne_top {x : EReal} (h : x ≠ ⊤) : Ideal.exp x ≠ ⊤ := by
  induction x with
  | bot => simp
  | top => exact absurd rfl h
  | coe r => rw [Ideal.exp_coe]; exact EReal.coe_ne_top _

/-- The difference of a smaller and a larger number is not `⊤`. -/
theorem sub_ne_top {a b : EReal} (h : a ≤ b) : a - b ≠ ⊤ := by
  induction b with
  | bot => rw [le_bot_iff.1 h]; simp
  | top => induction a with
    | bot => simp
    | top => simp
    | coe r => simp
  | coe s => induction a with
    | bot => simp
    | top => exact absurd (top_le_iff.1 h) (EReal.coe_ne_top s)
    | coe r => rw [← EReal.coe_sub]; exact EReal.coe_ne_top _

/-- Exponentials of differences compose along `s ≤ a ≤ b`, the infinities included. -/
theorem exp_mul_exp {s a b : EReal} (hs : s ≤ a) (h : a ≤ b) :
    Ideal.exp (a - b) * Ideal.exp (s - a) = Ideal.exp (s - b) := by
  induction b with
  | top => simp [EReal.sub_top]
  | bot => obtain rfl := le_bot_iff.1 h; obtain rfl := le_bot_iff.1 hs; simp
  | coe b => induction a with
    | top => exact absurd (top_le_iff.1 h) (EReal.coe_ne_top b)
    | bot => obtain rfl := le_bot_iff.1 hs; simp
    | coe a => induction s with
      | top => exact absurd (top_le_iff.1 hs) (EReal.coe_ne_top a)
      | bot => simp
      | coe s =>
        simp only [← EReal.coe_sub, Ideal.exp_coe, ← EReal.coe_mul, ← Real.exp_add]
        congr 2; ring

/-- A finite factor that is not negative distributes over a sum. -/
theorem mul_sum {ι : Type*} (S : Finset ι) {c : EReal} (h0 : 0 ≤ c) (ht : c ≠ ⊤) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

/-- RESCALING: a weighted sum of exponentials relative to the old maximum `a`, times the exponential of `a - b`, is the
    sum relative to the new maximum `b`. -/
theorem rescale {ι : Type*} (S : Finset ι) (s v : ι → EReal) {a b : EReal} (hs : ∀ i ∈ S, s i ≤ a) (h : a ≤ b) :
    Ideal.exp (a - b) * ∑ i ∈ S, Ideal.exp (s i - a) * v i = ∑ i ∈ S, Ideal.exp (s i - b) * v i := by
  rw [mul_sum S (exp_nonneg _) (exp_ne_top (sub_ne_top h))]
  exact Finset.sum_congr rfl fun i hi => by rw [← mul_assoc, exp_mul_exp (hs i hi) h]

/-- One tile's maximum, on top of the maximum so far. -/
def mx {n : ℕ} (a : EReal) (s : Fin n → EReal) : EReal := max a (Finset.univ.fold max ⊥ s)

theorem le_mx {n : ℕ} (a : EReal) (s : Fin n → EReal) : a ≤ mx a s := le_max_left _ _

theorem le_mx_tile {n : ℕ} (a : EReal) (s : Fin n → EReal) (i : Fin n) : s i ≤ mx a s :=
  le_max_of_le_right ((Finset.le_fold_max (s i)).2 (Or.inr ⟨i, Finset.mem_univ i, le_rfl⟩))

/-- One tile's weighted sum, on top of the sum so far rescaled to the new maximum. -/
def ac {n : ℕ} (a x : EReal) (s v : Fin n → EReal) : EReal :=
  Ideal.exp (a - mx a s) * x + ∑ i, Ideal.exp (s i - mx a s) * v i

/-- Three tiles, from the maximum `⊥` and the sum 0: the sum over the three tiles relative to the last maximum. -/
theorem three_tiles {n : ℕ} (s0 s1 s2 v0 v1 v2 : Fin n → EReal) :
    ac (mx (mx ⊥ s0) s1) (ac (mx ⊥ s0) (ac ⊥ 0 s0 v0) s1 v1) s2 v2
      = ∑ i, Ideal.exp (s0 i - mx (mx (mx ⊥ s0) s1) s2) * v0 i
        + ∑ i, Ideal.exp (s1 i - mx (mx (mx ⊥ s0) s1) s2) * v1 i
        + ∑ i, Ideal.exp (s2 i - mx (mx (mx ⊥ s0) s1) s2) * v2 i := by
  have e0 : ac ⊥ 0 s0 v0 = ∑ i, Ideal.exp (s0 i - mx ⊥ s0) * v0 i := by unfold ac; rw [mul_zero, zero_add]
  have e1 : ac (mx ⊥ s0) (ac ⊥ 0 s0 v0) s1 v1 = ∑ i, Ideal.exp (s0 i - mx (mx ⊥ s0) s1) * v0 i
      + ∑ i, Ideal.exp (s1 i - mx (mx ⊥ s0) s1) * v1 i := by
    rw [e0]; unfold ac; rw [rescale _ _ _ (fun i _ => le_mx_tile _ s0 i) (le_mx _ _)]
  rw [e1]; unfold ac
  rw [EReal.left_distrib_of_nonneg_of_ne_top (exp_nonneg _) (exp_ne_top (sub_ne_top (le_mx _ _))),
    rescale _ _ _ (fun i _ => (le_mx_tile _ s0 i).trans (le_mx _ _)) (le_mx _ _),
    rescale _ _ _ (fun i _ => le_mx_tile _ s1 i) (le_mx _ _)]

/-- Attention of one query: the average of `v`, weighted by the exponentials of the scores `s` relative to their maximum. -/
def attn {n : ℕ} (s v : Fin n → EReal) : EReal :=
  Ideal.div (∑ k, Ideal.exp (s k - Finset.univ.fold max ⊥ s) * v k) (∑ k, Ideal.exp (s k - Finset.univ.fold max ⊥ s) * 1)

/-- A sum over `n` keys is the sum over three tiles of `a`. -/
theorem sum_tiles_of (a b n : ℕ) (hb : b = a + a) (h : n = b + a) (f : Fin n → EReal) :
    ∑ k, f k = ∑ l : Fin a, f ⟨l.val, by omega⟩ + ∑ l : Fin a, f ⟨a + l.val, by omega⟩
      + ∑ l : Fin a, f ⟨b + l.val, by omega⟩ := by
  subst h; subst hb
  rw [Fin.sum_univ_add, Fin.sum_univ_add]; rfl

/-- A sum over 8448 keys is the sum over three tiles of 2816. -/
theorem sum_tiles (f : Fin 8448 → EReal) :
    ∑ k, f k = ∑ l : Fin 2816, f ⟨l.val, by omega⟩ + ∑ l : Fin 2816, f ⟨2816 + l.val, by omega⟩
      + ∑ l : Fin 2816, f ⟨5632 + l.val, by omega⟩ :=
  sum_tiles_of 2816 5632 8448 (by norm_num) (by norm_num) f

/-- The maximum over three tiles of 2816 keys is the maximum over 8448. -/
theorem max_tiles (s : Fin 8448 → EReal) (s0 s1 s2 : Fin 2816 → EReal) (h0 : ∀ l, s0 l = s ⟨l.val, by omega⟩)
    (h1 : ∀ l, s1 l = s ⟨2816 + l.val, by omega⟩) (h2 : ∀ l, s2 l = s ⟨5632 + l.val, by omega⟩) :
    mx (mx (mx ⊥ s0) s1) s2 = Finset.univ.fold max ⊥ s := by
  have hk : ∀ k, s k ≤ Finset.univ.fold max ⊥ s := fun k =>
    (Finset.le_fold_max _).2 (Or.inr ⟨k, Finset.mem_univ k, le_rfl⟩)
  refine le_antisymm ?_ ((Finset.fold_max_le _).2 ⟨bot_le, fun k _ => ?_⟩)
  · refine max_le (max_le (max_le bot_le ?_) ?_) ?_ <;> refine (Finset.fold_max_le _).2 ⟨bot_le, fun l _ => ?_⟩
    · rw [h0]; exact hk _
    · rw [h1]; exact hk _
    · rw [h2]; exact hk _
  · rcases Nat.lt_or_ge k.val 2816 with h | h
    · have := h0 ⟨k.val, h⟩
      exact this ▸ (le_mx_tile _ s0 _).trans ((le_mx _ _).trans (le_mx _ _))
    · rcases Nat.lt_or_ge k.val 5632 with h' | h'
      · have := h1 ⟨k.val - 2816, by omega⟩
        have hk : (⟨2816 + (k.val - 2816), by omega⟩ : Fin 8448) = k := Fin.ext (by dsimp only; omega)
        rw [← hk, ← this]
        exact (le_mx_tile _ s1 _).trans (le_mx _ _)
      · have := h2 ⟨k.val - 5632, by omega⟩
        have hk : (⟨5632 + (k.val - 5632), by omega⟩ : Fin 8448) = k := Fin.ext (by dsimp only; omega)
        rw [← hk, ← this]
        exact le_mx_tile _ s2 _

/-- THE TILED ATTENTION: three tiles of 2816 keys, the weighted sum and the sum of ones carried and rescaled from tile to
    tile, then divided, are the attention over all 8448 keys. -/
theorem attn_of_tiles (s v : Fin 8448 → EReal) (s0 s1 s2 v0 v1 v2 : Fin 2816 → EReal)
    (h0 : ∀ l, s0 l = s ⟨l.val, by omega⟩)
    (h1 : ∀ l, s1 l = s ⟨2816 + l.val, by omega⟩) (h2 : ∀ l, s2 l = s ⟨5632 + l.val, by omega⟩)
    (g0 : ∀ l, v0 l = v ⟨l.val, by omega⟩)
    (g1 : ∀ l, v1 l = v ⟨2816 + l.val, by omega⟩) (g2 : ∀ l, v2 l = v ⟨5632 + l.val, by omega⟩) :
    Ideal.div (ac (mx (mx ⊥ s0) s1) (ac (mx ⊥ s0) (ac ⊥ 0 s0 v0) s1 v1) s2 v2)
        (ac (mx (mx ⊥ s0) s1) (ac (mx ⊥ s0) (ac ⊥ 0 s0 fun _ => 1) s1 fun _ => 1) s2 fun _ => 1)
      = attn s v := by
  rw [three_tiles, three_tiles, max_tiles s s0 s1 s2 h0 h1 h2]
  unfold attn
  rw [sum_tiles, sum_tiles]
  simp only [h0, h1, h2, g0, g1, g2]

/-- A quotient by a positive finite number distributes over a sum. -/
theorem div_sum {n : ℕ} (e v : Fin n → EReal) {L : EReal} (h0 : 0 < L) (ht : L ≠ ⊤) :
    Ideal.div (∑ k, e k * v k) L = ∑ k, v k * Ideal.div (e k) L := by
  have hL : ∀ x, Ideal.div x L = L⁻¹ * x := fun x => by rw [Ideal.div, if_neg h0.ne', mul_comm]
  have hi : L⁻¹ ≠ ⊤ := by
    induction L with
    | bot => simp at h0
    | top => exact absurd rfl ht
    | coe r => rw [← EReal.coe_inv]; exact EReal.coe_ne_top _
  rw [hL, mul_sum _ (EReal.inv_nonneg_of_nonneg h0.le) hi]
  refine Finset.sum_congr rfl fun k _ => ?_
  rw [hL, mul_comm (e k), mul_left_comm]

/-- The exponentials of finite scores relative to their maximum have a positive finite sum. -/
theorem sum_exp {n : ℕ} (hn : 0 < n) (s : Fin n → ℝ) (M : EReal) (hM : M = Finset.univ.fold max ⊥ fun k => (s k : EReal)) :
    0 < ∑ k, Ideal.exp ((s k : EReal) - M) ∧ ∑ k, Ideal.exp ((s k : EReal) - M) ≠ ⊤ := by
  have hub : ∀ k, (s k : EReal) ≤ M := fun k => hM ▸ (Finset.le_fold_max _).2 (Or.inr ⟨k, Finset.mem_univ k, le_rfl⟩)
  have hnt : M ≠ ⊤ := by
    rw [hM]; refine ne_of_lt ((Finset.fold_max_lt ⊤).2 ⟨bot_lt_top, fun k _ => EReal.coe_lt_top _⟩)
  have hnb : M ≠ ⊥ := fun h => by
    have := hub ⟨0, hn⟩; rw [h, le_bot_iff] at this; exact EReal.coe_ne_bot _ this
  lift M to ℝ using ⟨hnt, hnb⟩
  have e : ∀ k, Ideal.exp ((s k : EReal) - (M : EReal)) = ((Real.exp (s k - M) : ℝ) : EReal) := fun k => by
    rw [← EReal.coe_sub, Ideal.exp_coe]
  simp only [e]
  have hs : ∑ k, ((Real.exp (s k - M) : ℝ) : EReal) = ((∑ k, Real.exp (s k - M) : ℝ) : EReal) := by
    induction (Finset.univ : Finset (Fin n)) using Finset.induction_on with
    | empty => simp
    | insert a S ha ih => rw [Finset.sum_insert ha, Finset.sum_insert ha, ih, EReal.coe_add]
  rw [hs]
  refine ⟨?_, EReal.coe_ne_top _⟩
  have : 0 < ∑ k, Real.exp (s k - M) := Finset.sum_pos (fun k _ => Real.exp_pos _) ⟨⟨0, hn⟩, Finset.mem_univ _⟩
  exact_mod_cast this

end Cert.Online

end
-- ==== Proof.RefValue.lean ====
/- The reference's result at an index: scores, their row maximum and row sum, the weighted sum of the values. -/
module

public import proofs.«01_k».proof.Proof.Gen.ReferenceIdeal.Run
public import proofs.«01_k».proof.Proof.Online
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe Idealize.SL.Sem

variable (Q K : Vec Ideal S2x8448x2048 .bf16) (W : Vec Ideal S2x8448x1024 .bf16)

/-- The scores of all latent queries against all keys. -/
def scores : FVec Ideal S2x16x8192x8448 .f32 :=
  Host.dotGeneral dot_S2x8192x16x128_S2x8448x16x128_S2x16x8192x8448_3_3_1_1_02_02 none
    (extractStridedSlice S2x8192x16x128 ![0, 0, 0, 0]
      (shapeCast _ (extf .f32 Q bitsLt_bf16_f32) shapeCasts_S2x8448x2048_S2x8448x16x128)
      slices_S2x8448x16x128_S2x8192x16x128_0_0_0_0)
    (shapeCast _ (extf .f32 K bitsLt_bf16_f32) shapeCasts_S2x8448x2048_S2x8448x16x128)

/-- The scores' row maxima. -/
def tops (s : FVec Ideal S2x16x8192x8448 .f32) : FVec Ideal S2x16x8192 .f32 :=
  Host.reduce FloatOps.maximumf s (constant S_ .f32 0xFF800000#32) reducesTo_S2x16x8192x8448_S2x16x8192_d3 h_S_

/-- The scores' exponentials, relative to the row's maximum. -/
def weights (s : FVec Ideal S2x16x8192x8448 .f32) (r : FVec Ideal S2x16x8192 .f32) : FVec Ideal S2x16x8192x8448 .f32 :=
  Host.exp (subf s (broadcastInDim S2x16x8192x8448 ![0, 1, 2, 3] bcast_S2x16x8192x1_S2x16x8192x8448_0_1_2_3
    (broadcastInDim S2x16x8192x1 ![0, 1, 2] bcast_S2x16x8192_S2x16x8192x1_0_1_2
      (maximumf (broadcastInDim S2x16x8192 ![] bcast_S_S2x16x8192 (constant S_ .f32 0xFF800000#32)) r))))

/-- The exponentials over their row's sum. -/
def shares (e : FVec Ideal S2x16x8192x8448 .f32) : FVec Ideal S2x16x8192x8448 .f32 :=
  Host.divf e (broadcastInDim S2x16x8192x8448 ![0, 1, 2, 3] bcast_S2x16x8192x1_S2x16x8192x8448_0_1_2_3
    (broadcastInDim S2x16x8192x1 ![0, 1, 2] bcast_S2x16x8192_S2x16x8192x1_0_1_2
      (Host.reduceAdd e (constant S_ .f32 0x00000000#32) reducesTo_S2x16x8192x8448_S2x16x8192_d3 h_S_)))

/-- The weighted sums of the values, laid out as the result. -/
def out (p : FVec Ideal S2x16x8192x8448 .f32) : FVec Ideal S2x8192x1024 .bf16 :=
  truncf .bf16 (shapeCast _ (transpose S2x8192x16x64 [0, 3, 1, 2]
    (Host.dotGeneral dot_S2x8448x16x64_S2x16x8192x8448_S2x16x64x8192_1_3_3_2_02_01 none
      (shapeCast _ (extf .f32 W bitsLt_bf16_f32) shapeCasts_S2x8448x1024_S2x8448x16x64) p)
    transposes_S2x16x64x8192_S2x8192x16x64_0_3_1_2) shapeCasts_S2x8192x16x64_S2x8192x1024) bitsLt_bf16_f32

/-- The maximum along the last of four axes, at an index. -/
theorem rowMax_at {n0 n1 n2 n3 : ℕ} (v : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel)
    (a : Fin n0) (b : Fin n1) (d : Fin n2) :
    Host.reduce FloatOps.maximumf v c h hu (ix3 a b d)
      = Finset.univ.fold max (c (Shape.Idx.first hu)) fun k : Fin n3 => v (ix4 a b d k) := by
  pointwise

/-- A score: the inner product of 128 lanes of a query and of a key. -/
theorem scores_at (b : Fin 2) (h : Fin 16) (q : Fin 8192) (k : Fin 8448) :
    scores Q K (ix4 b h q k)
      = ∑ d : Fin 128, Q (ix3 b ⟨q, by omega⟩ ⟨128 * h + d, by omega⟩) * K (ix3 b k ⟨128 * h + d, by omega⟩) := by
  unfold scores
  pointwise
  exact Finset.sum_congr rfl fun d _ => by simp only [Nat.mul_comm h.val 128]

/-- The word of the row maximum's initial value reads as minus infinity. -/
theorem neg_inf : Ideal.ofBits .f32 0xFF800000#32 = (⊥ : EReal) := by simp [Ideal.ofBits, Ideal.ieee]

/-- A row's maximum. -/
theorem tops_at (s : FVec Ideal S2x16x8192x8448 .f32) (b : Fin 2) (h : Fin 16) (q : Fin 8192) :
    tops s (ix3 b h q) = Finset.univ.fold max ⊥ fun l : Fin 8448 => s (ix4 b h q l) :=
  (rowMax_at s (constant S_ .f32 0xFF800000#32) reducesTo_S2x16x8192x8448_S2x16x8192_d3 h_S_ b h q).trans
    (congrArg (fun z => Finset.univ.fold max z fun l : Fin 8448 => s (ix4 b h q l)) neg_inf)

/-- An exponential, relative to the row's maximum. -/
theorem weights_at (s : FVec Ideal S2x16x8192x8448 .f32) (r : FVec Ideal S2x16x8192 .f32) (b : Fin 2) (h : Fin 16)
    (q : Fin 8192) (k : Fin 8448) :
    weights s r (ix4 b h q k) = Ideal.exp (s (ix4 b h q k) - r (ix3 b h q)) := by
  unfold weights
  pointwise
  rw [neg_inf, max_eq_right bot_le]

/-- An exponential over its row's sum. -/
theorem shares_at (e : FVec Ideal S2x16x8192x8448 .f32) (b : Fin 2) (h : Fin 16) (q : Fin 8192) (k : Fin 8448) :
    shares e (ix4 b h q k) = Ideal.div (e (ix4 b h q k)) (∑ l : Fin 8448, e (ix4 b h q l)) := by
  unfold shares
  pointwise

/-- A result: the values' column weighted by its head's shares. -/
theorem out_at (p : FVec Ideal S2x16x8192x8448 .f32) (b : Fin 2) (q : Fin 8192) (x : Fin 1024) :
    out W p (ix3 b q x) = ∑ k : Fin 8448, W (ix3 b k x) * p (ix4 b ⟨x / 64, by omega⟩ q k) := by
  unfold out
  pointwise

end Cert.ReferenceIdeal.Val

end
-- ==== Proof.Finite.lean ====
/- What the precondition says: the queries' and keys' entries are real numbers. -/
module

public import proofs.«01_k».proof.Pre_finite
public import Idealize.ShloMosaic.PureOps.Ideal
public import Idealize.ShloMosaic.Lib.Pointwise

@[expose] public section

set_option maxRecDepth 16384

noncomputable section

namespace Cert.Pre_finite.Val

open Idealize.ShloMosaic Cert.Pre_finite

/-- The precondition's side conditions. -/
instance facts : Cert.Pre_finite.Facts where
  bcast_S_S2x8448x2048 := by decide

/-- The word the absolute values are compared with reads as infinity. -/
theorem inf_eq : Ideal.ofBits .bf16 0x7F80#16 = (⊤ : EReal) := by simp [Ideal.ofBits, Ideal.ieee]

/-- Two entries whose absolute values compare as below infinity are real numbers. -/
theorem real_of {x y : EReal}
    (h : IntOp.andi (BitVec.ofBool (decide (max x (-x) < ⊤))) (BitVec.ofBool (decide (max y (-y) < ⊤))) = 1#1) :
    (x ≠ ⊤ ∧ x ≠ ⊥) ∧ (y ≠ ⊤ ∧ y ≠ ⊥) := by
  have hb : ∀ a b : Bool, IntOp.andi (BitVec.ofBool a) (BitVec.ofBool b) = 1#1 → a = true ∧ b = true := by decide
  obtain ⟨hx, hy⟩ := hb _ _ h
  have hr : ∀ x : EReal, max x (-x) < ⊤ → x ≠ ⊤ ∧ x ≠ ⊥ := fun x hx => by
    rw [max_lt_iff] at hx
    refine ⟨ne_of_lt hx.1, fun e => ?_⟩
    rw [e] at hx
    exact absurd hx.2 (by simp)
  exact ⟨hr _ (of_decide_eq_true hx), hr _ (of_decide_eq_true hy)⟩

/-- Where the precondition holds, every entry of the queries and of the keys is a real number. -/
theorem real (Q K : FVec Ideal S2x8448x2048 .bf16) (W : FVec Ideal S2x8448x1024 .bf16)
    (h : fn (F := Ideal) Q K W = fun _ => 1#1) (i : S2x8448x2048.Idx) :
    (Q i ≠ ⊤ ∧ Q i ≠ ⊥) ∧ (K i ≠ ⊤ ∧ K i ≠ ⊥) := by
  have hi := congrFun h i
  unfold fn at hi
  simp only [pointwise] at hi
  rw [inf_eq] at hi
  exact real_of hi

end Cert.Pre_finite.Val

end
-- ==== Proof.Payload.lean ====
/- What the body of the attention computes at one point, read at an element: the scores of a tile of keys, the running
   maximum, the running weighted sum, and the quotient written at the end, for each of the point's two heads. -/
module

public import proofs.«01_k».proof.Proof.Gen.KernelIdeal.Skeleton
public import proofs.«01_k».proof.Proof.Online
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe

/-- The f32 pattern of minus infinity is the least extended real. -/
theorem neg_inf : Ideal.ofBits FTy.f32 0xFF800000#32 = ⊥ := by
  simp [Ideal.ofBits, Ideal.ieee]

/-- A select on «lane below 64» is a case split on the lane. -/
theorem select_low {α : Type} (j : Fin 128) (x y : α) :
    Scalar.select (IntOp.cmpi CmpIPredicate.slt (BitVec.ofNat 32 j.val) 64#32) x y = if j.val < 64 then x else y := by
  have h : ∀ j : Fin 128, IntOp.cmpi CmpIPredicate.slt (BitVec.ofNat 32 j.val) 64#32 = if j.val < 64 then 1#1 else 0#1 := by
    decide
  rw [h j]; split <;> rfl

/-- A select on «lane 64 or above» is a case split on the lane. -/
theorem select_high {α : Type} (j : Fin 128) (x y : α) :
    Scalar.select (IntOp.cmpi CmpIPredicate.sge (BitVec.ofNat 32 j.val) 64#32) x y = if j.val < 64 then y else x := by
  have h : ∀ j : Fin 128, IntOp.cmpi CmpIPredicate.sge (BitVec.ofNat 32 j.val) 64#32 = if j.val < 64 then 0#1 else 1#1 := by
    decide
  rw [h j]; split <;> rfl

/-- The scores of a tile's 2816 keys against query row `r`. -/
def sc (q : Vec Ideal S1x512x128 .bf16) (k : Vec Ideal S1x2816x128 .bf16) (r : Fin 512) (l : Fin 2816) : EReal :=
  ∑ d : Fin 128, q (ix3 0 r d) * k (ix3 0 l d)

/-- The first head's scores. -/
theorem pay8_at (q : Vec Ideal S1x512x128 .bf16) (k : Vec Ideal S1x2816x128 .bf16) (r : Fin 512) (l : Fin 2816) :
    k0_pay8 q k (ix2 r l) = sc q k r l := by
  unfold sc
  pointwise [k0_pay8]

/-- The first head's running maximum. -/
theorem pay9_at (q : Vec Ideal S1x512x128 .bf16) (k : Vec Ideal S1x2816x128 .bf16) (a : Vec Ideal S512x1 .f32) (r : Fin 512) :
    k0_pay9 q k a (ix2 r 0) = Online.mx (a (ix2 r 0)) (sc q k r) := by
  unfold Online.mx
  pointwise [k0_pay9, pay8_at]
  rw [neg_inf]

/-- The first head's running maximum as it is stored. -/
theorem pay11_at (x : Vec Ideal S512x1 .f32) (r : Fin 512) : k0_pay11 (F := Ideal) x (ix2 r 0) = x (ix2 r 0) := by
  pointwise [k0_pay11]

/-- The first head's running sum: its weights are the values in the lanes below 64 and one in the others. -/
theorem pay10_at (v : Vec Ideal S1x2816x128 .bf16) (q : Vec Ideal S1x512x128 .bf16) (k : Vec Ideal S1x2816x128 .bf16)
    (a : Vec Ideal S512x1 .f32) (x : Vec Ideal S512x128 .f32) (r : Fin 512) (j : Fin 128) :
    k0_pay10 v q k a x (ix2 r j)
      = Online.ac (a (ix2 r 0)) (x (ix2 r j)) (sc q k r) (fun l => if j.val < 64 then v (ix3 0 l j) else 1) := by
  unfold Online.ac
  pointwise [k0_pay10, pay8_at, pay9_at, k0_pay6, k0_pay7]
  simp only [select_low]

/-- The second head's scores. -/
theorem pay12_at (q : Vec Ideal S1x512x128 .bf16) (k : Vec Ideal S1x2816x128 .bf16) (r : Fin 512) (l : Fin 2816) :
    k0_pay12 q k (ix2 r l) = sc q k r l := by
  unfold sc
  pointwise [k0_pay12]

/-- The second head's running maximum. -/
theorem pay13_at (q : Vec Ideal S1x512x128 .bf16) (k : Vec Ideal S1x2816x128 .bf16) (a : Vec Ideal S512x1 .f32) (r : Fin 512) :
    k0_pay13 q k a (ix2 r 0) = Online.mx (a (ix2 r 0)) (sc q k r) := by
  unfold Online.mx
  pointwise [k0_pay13, pay12_at]
  rw [neg_inf]

/-- The second head's running maximum as it is stored. -/
theorem pay15_at (q : Vec Ideal S1x512x128 .bf16) (k : Vec Ideal S1x2816x128 .bf16) (a : Vec Ideal S512x1 .f32) (r : Fin 512) :
    k0_pay15 q k a (ix2 r 0) = Online.mx (a (ix2 r 0)) (sc q k r) := by
  pointwise [k0_pay15, pay13_at]

/-- The second head's running sum: its weights are one in the lanes below 64 and the values in the others. -/
theorem pay14_at (v : Vec Ideal S1x2816x128 .bf16) (q : Vec Ideal S1x512x128 .bf16) (k : Vec Ideal S1x2816x128 .bf16)
    (a : Vec Ideal S512x1 .f32) (x : Vec Ideal S512x128 .f32) (r : Fin 512) (j : Fin 128) :
    k0_pay14 (k0_pay6 v) (iota Kind.tc S2816x128 32 [1] iota_S2816x128_d1_w32) k0_pay7 q k a x (ix2 r j)
      = Online.ac (a (ix2 r 0)) (x (ix2 r j)) (sc q k r) (fun l => if j.val < 64 then 1 else v (ix3 0 l j)) := by
  unfold Online.ac
  pointwise [k0_pay14, pay12_at, pay13_at, k0_pay6, k0_pay7]
  simp only [select_high]

/-- What is written: below lane 64 the first head's sum over its sum of ones, from lane 64 on the second head's. -/
theorem pay1_at (a b : Vec Ideal S512x128 .f32) (r : Fin 512) (j : Fin 128) :
    k0_pay1 a b (ix3 0 r j)
      = if j.val < 64 then Ideal.div (a (ix2 r j)) (a (ix2 r ⟨(j.val + 128 - 64) % 128, Nat.mod_lt _ (by decide)⟩))
        else Ideal.div (b (ix2 r j)) (b (ix2 r ⟨(j.val + 128 - 64) % 128, Nat.mod_lt _ (by decide)⟩)) := by
  pointwise [k0_pay1]
  rw [select_low]

/-- The maxima begin at minus infinity … -/
theorem pay2_at (r : Fin 512) : k0_pay2 (F := Ideal) (ix2 r 0) = (⊥ : EReal) := by
  pointwise [k0_pay2]; rw [neg_inf]
theorem pay4_at (r : Fin 512) : k0_pay4 (F := Ideal) (ix2 r 0) = (⊥ : EReal) := by
  pointwise [k0_pay4]; rw [neg_inf]

/-- … and the sums at zero. -/
theorem pay3_at (r : Fin 512) (j : Fin 128) : k0_pay3 (F := Ideal) (ix2 r j) = (0 : EReal) := by
  pointwise [k0_pay3]
theorem pay5_at (r : Fin 512) (j : Fin 128) : k0_pay5 (F := Ideal) (ix2 r j) = (0 : EReal) := by
  pointwise [k0_pay5]

end Cert.KernelIdeal.Val

end
-- ==== Proof.Steps.lean ====
/- The attention's running values point by point, and the block that a query tile's last point writes: the attention of
   each of its 512 queries, for the point's two heads, over all 8448 keys. -/
module

public import proofs.«01_k».proof.Proof.Gen.KernelIdeal.Frame
public import proofs.«01_k».proof.Proof.Payload
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (c : Dev nD)

/-- The block that each window is at, at point `t`: batch row `t / 384`, query tile `t / 3 % 16` or key tile `t % 3`, head
    pair `t / 48 % 8`. -/
theorem index0 : ∀ t : Fin cfg0.N,
    ((cfg0.win 0).index t 0 = t.val / 384 ∧ (cfg0.win 0).index t 1 = t.val / 3 % 16 ∧ (cfg0.win 0).index t 2 = t.val / 48 % 8)
    ∧ ((cfg0.win 1).index t 0 = t.val / 384 ∧ (cfg0.win 1).index t 1 = t.val % 3 ∧ (cfg0.win 1).index t 2 = t.val / 48 % 8)
    ∧ ((cfg0.win 2).index t 0 = t.val / 384 ∧ (cfg0.win 2).index t 1 = t.val % 3 ∧ (cfg0.win 2).index t 2 = t.val / 48 % 8)
    ∧ ((cfg0.win 3).index t 0 = t.val / 384 ∧ (cfg0.win 3).index t 1 = t.val / 3 % 16 ∧ (cfg0.win 3).index t 2 = t.val / 48 % 8) := by
  decide +kernel

/-- A point's place in its batch row is below 2. -/
theorem row_lt (t : Fin cfg0.N) : t.val / 384 < 2 := by
  have := t.isLt; have : cfg0.N = 768 := N_0; omega

/-- The queries' block at a point is a rectangle of the queries. -/
theorem q_at (t : Fin cfg0.N) (r : Fin 512) (j : Fin 256) :
    X0_0 m c t (ix3 0 r j)
      = m ((c.tc : Thread nD τ).loc main_arg0)
          (ix3 ⟨t.val / 384, row_lt t⟩ ⟨512 * (t.val / 3 % 16) + r, by omega⟩ ⟨256 * (t.val / 48 % 8) + j, by omega⟩) := by
  unfold X0_0 Pipeline.Window.fill
  rw [dif_pos (moved0_0 t _)]
  obtain ⟨⟨e0, e1, e2⟩, -⟩ := index0 t
  blk_ext [iblk, V, e0, e1, e2]

/-- The keys' block at a point is a rectangle of the keys. -/
theorem k_at (t : Fin cfg0.N) (l : Fin 2816) (j : Fin 256) :
    iblk m c 1 t (ix3 0 l j)
      = m ((c.tc : Thread nD τ).loc main_arg1)
          (ix3 ⟨t.val / 384, row_lt t⟩ ⟨2816 * (t.val % 3) + l, by omega⟩ ⟨256 * (t.val / 48 % 8) + j, by omega⟩) := by
  obtain ⟨-, ⟨e0, e1, e2⟩, -⟩ := index0 t
  blk_ext [iblk, V, e0, e1, e2]

/-- The values' block at a point is a rectangle of the values. -/
theorem v_at (t : Fin cfg0.N) (l : Fin 2816) (j : Fin 128) :
    iblk m c 2 t (ix3 0 l j)
      = m ((c.tc : Thread nD τ).loc main_arg2)
          (ix3 ⟨t.val / 384, row_lt t⟩ ⟨2816 * (t.val % 3) + l, by omega⟩ ⟨128 * (t.val / 48 % 8) + j, by omega⟩) := by
  obtain ⟨-, -, ⟨e0, e1, e2⟩, -⟩ := index0 t
  blk_ext [iblk, V, e0, e1, e2]

/-- The lanes of the point's first and second head, in the queries' and in the keys' block. -/
abbrev q0 (t : Fin cfg0.N) : Vec Ideal S1x512x128 .bf16 :=
  View.ld (X0_0 m c t) (Rect.unit ![0, 0, 0] ![1, 512, 128] inb_S1x512x256_S1x512x128_0_0_0)
abbrev q1 (t : Fin cfg0.N) : Vec Ideal S1x512x128 .bf16 :=
  View.ld (X0_0 m c t) (Rect.unit ![0, 0, 128] ![1, 512, 128] inb_S1x512x256_S1x512x128_0_0_128)
abbrev k0 (t : Fin cfg0.N) : Vec Ideal S1x2816x128 .bf16 :=
  View.ld (iblk m c 1 t) (Rect.unit ![0, 0, 0] ![1, 2816, 128] inb_S1x2816x256_S1x2816x128_0_0_0)
abbrev k1 (t : Fin cfg0.N) : Vec Ideal S1x2816x128 .bf16 :=
  View.ld (iblk m c 1 t) (Rect.unit ![0, 0, 128] ![1, 2816, 128] inb_S1x2816x256_S1x2816x128_0_0_128)

/-- A tile's values in lane `j`, and the ones beside them: what the first and the second head's sums are weighted by. -/
def w0 (t : Fin cfg0.N) (j : Fin 128) (l : Fin 2816) : EReal := if j.val < 64 then iblk m c 2 t (ix3 0 l j) else 1
def w1 (t : Fin cfg0.N) (j : Fin 128) (l : Fin 2816) : EReal := if j.val < 64 then 1 else iblk m c 2 t (ix3 0 l j)

/-- The first head's running maximum and sum after point `n`, at query row `r` and lane `j`. -/
abbrev M0 (n : ℕ) (hn : n < cfg0.N) (r : Fin 512) : EReal := (outsAt0 m c n hn).2.1 (ix2 r 0)
abbrev A0 (n : ℕ) (hn : n < cfg0.N) (r : Fin 512) (j : Fin 128) : EReal := (outsAt0 m c n hn).2.2.1 (ix2 r j)
/-- The second head's. -/
abbrev M1 (n : ℕ) (hn : n < cfg0.N) (r : Fin 512) : EReal := (outsAt0 m c n hn).2.2.2.1 (ix2 r 0)
abbrev A1 (n : ℕ) (hn : n < cfg0.N) (r : Fin 512) (j : Fin 128) : EReal := (outsAt0 m c n hn).2.2.2.2 (ix2 r j)

/-- The first key tile starts from the maximum `⊥` and the sum 0. -/
theorem first (t : Fin cfg0.N) (h0 : t.val % 3 = 0) (r : Fin 512) (j : Fin 128) :
    M0 m c t.val t.isLt r = Online.mx ⊥ (sc (q0 m c t) (k0 m c t) r)
    ∧ A0 m c t.val t.isLt r j = Online.ac ⊥ 0 (sc (q0 m c t) (k0 m c t) r) (w0 m c t j)
    ∧ M1 m c t.val t.isLt r = Online.mx ⊥ (sc (q1 m c t) (k1 m c t) r)
    ∧ A1 m c t.val t.isLt r j = Online.ac ⊥ 0 (sc (q1 m c t) (k1 m c t) r) (w1 m c t j) := by
  unfold M0 A0 M1 A1
  rw [outsAt0_A m c t h0 (by omega)]
  refine ⟨?_, ?_, ?_, ?_⟩
  · frame_out; rw [pay11_at, pay9_at, pay2_at]; rfl
  · frame_out; rw [pay10_at, pay2_at, pay3_at]; rfl
  · frame_out; rw [pay15_at, pay4_at]; rfl
  · frame_out; rw [pay14_at, pay4_at, pay5_at]; rfl

/-- A further key tile goes on from what the tile before left (the middle tile). -/
theorem next (t : Fin cfg0.N) (h0 : ¬t.val % 3 = 0) (h1 : ¬t.val % 3 = 2) (r : Fin 512) (j : Fin 128) :
    M0 m c t.val t.isLt r = Online.mx (M0 m c (t.val - 1) (by omega) r) (sc (q0 m c t) (k0 m c t) r)
    ∧ A0 m c t.val t.isLt r j = Online.ac (M0 m c (t.val - 1) (by omega) r) (A0 m c (t.val - 1) (by omega) r j)
        (sc (q0 m c t) (k0 m c t) r) (w0 m c t j)
    ∧ M1 m c t.val t.isLt r = Online.mx (M1 m c (t.val - 1) (by omega) r) (sc (q1 m c t) (k1 m c t) r)
    ∧ A1 m c t.val t.isLt r j = Online.ac (M1 m c (t.val - 1) (by omega) r) (A1 m c (t.val - 1) (by omega) r j)
        (sc (q1 m c t) (k1 m c t) r) (w1 m c t j) := by
  unfold M0 A0 M1 A1
  rw [outsAt0_B m c t h0 h1]
  refine ⟨?_, ?_, ?_, ?_⟩
  · frame_out; simp only [read_unread_whole]; rw [pay11_at, pay9_at]; rfl
  · frame_out; simp only [read_unread_whole]; rw [pay10_at]; rfl
  · frame_out; simp only [read_unread_whole]; rw [pay15_at]; rfl
  · frame_out; simp only [read_unread_whole]; rw [pay14_at]; rfl

/-- The last key tile writes the quotient of the sums: in a lane below 64 the first head's, in the others the second
    head's, each over the same head's sum of ones 64 lanes away. -/
theorem last (t : Fin cfg0.N) (h1 : t.val % 3 = 2) (r : Fin 512) (j : Fin 128) :
    (outsAt0 m c t.val t.isLt).1 (ix3 0 r j)
      = if j.val < 64 then
          Ideal.div (Online.ac (M0 m c (t.val - 1) (by omega) r) (A0 m c (t.val - 1) (by omega) r j)
              (sc (q0 m c t) (k0 m c t) r) (w0 m c t j))
            (Online.ac (M0 m c (t.val - 1) (by omega) r)
              (A0 m c (t.val - 1) (by omega) r ⟨(j.val + 128 - 64) % 128, Nat.mod_lt _ (by decide)⟩)
              (sc (q0 m c t) (k0 m c t) r) (w0 m c t ⟨(j.val + 128 - 64) % 128, Nat.mod_lt _ (by decide)⟩))
        else
          Ideal.div (Online.ac (M1 m c (t.val - 1) (by omega) r) (A1 m c (t.val - 1) (by omega) r j)
              (sc (q1 m c t) (k1 m c t) r) (w1 m c t j))
            (Online.ac (M1 m c (t.val - 1) (by omega) r)
              (A1 m c (t.val - 1) (by omega) r ⟨(j.val + 128 - 64) % 128, Nat.mod_lt _ (by decide)⟩)
              (sc (q1 m c t) (k1 m c t) r) (w1 m c t ⟨(j.val + 128 - 64) % 128, Nat.mod_lt _ (by decide)⟩)) := by
  unfold M0 A0 M1 A1
  rw [outsAt0_C m c t (by omega) h1]
  frame_out
  simp only [read_unread_whole]
  rw [pay1_at, pay10_at, pay10_at, pay14_at, pay14_at]
  rfl

end Cert.KernelIdeal.Val

end
-- ==== Proof.Block.lean ====
/- The block that the last point of a query tile writes, as attention over the whole arrays: the three tiles' blocks are the
   three thirds of the keys and of the values. -/
module

public import proofs.«01_k».proof.Proof.Steps

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (c : Dev nD)

/-- Indices of three coordinates are equal when the coordinates are. -/
theorem ix3_eq {x y z : ℕ} {a a' : Fin x} {b b' : Fin y} {d d' : Fin z} (ha : a.val = a'.val) (hb : b.val = b'.val)
    (hd : d.val = d'.val) : ix3 a b d = ix3 a' b' d' := by
  obtain rfl := Fin.ext ha; obtain rfl := Fin.ext hb; obtain rfl := Fin.ext hd; rfl

/-- The score of key `k` against query `q` in batch row `b` and head `h`: the inner product of their 128 lanes. -/
def score (Q K : Vec Ideal S2x8448x2048 .bf16) (b : Fin 2) (h : Fin 16) (q k : Fin 8448) : EReal :=
  ∑ d : Fin 128, Q (ix3 b q ⟨128 * h + d, by omega⟩) * K (ix3 b k ⟨128 * h + d, by omega⟩)

/-- The attention of query `q` in batch row `b` and column `x` (head `x / 64`) of the values. -/
def attnAt (Q K : Vec Ideal S2x8448x2048 .bf16) (W : Vec Ideal S2x8448x1024 .bf16) (b : Fin 2) (q : Fin 8448) (x : Fin 1024) : EReal :=
  Online.attn (score Q K b ⟨x / 64, by omega⟩ q) fun k => W (ix3 b k x)

/-- The arguments: queries, keys and values. -/
abbrev aQ : Vec Ideal S2x8448x2048 .bf16 := m ((c.tc : Thread nD τ).loc main_arg0)
abbrev aK : Vec Ideal S2x8448x2048 .bf16 := m ((c.tc : Thread nD τ).loc main_arg1)
abbrev aV : Vec Ideal S2x8448x1024 .bf16 := m ((c.tc : Thread nD τ).loc main_arg2)

/-- The first head's scores of a tile are scores of head `2 (t / 48 % 8)`. -/
theorem sc0_at (t : Fin cfg0.N) (r : Fin 512) (l : Fin 2816) {b : Fin 2} {h : Fin 16} {q k : Fin 8448}
    (hb : b.val = t.val / 384) (hh : h.val = 2 * (t.val / 48 % 8)) (hq : q.val = 512 * (t.val / 3 % 16) + r.val)
    (hk : k.val = 2816 * (t.val % 3) + l.val) :
    sc (q0 m c t) (k0 m c t) r l = score (aQ m c) (aK m c) b h q k := by
  unfold sc score
  refine Finset.sum_congr rfl fun d _ => ?_
  have e1 : q0 m c t (ix3 0 r d) = X0_0 m c t (ix3 0 r ⟨d.val, by omega⟩) := by
    refine congrArg (X0_0 m c t) ?_; funext a; fin_cases a <;> exact Fin.ext (by simp [Rect.idx_unit_val])
  have e2 : k0 m c t (ix3 0 l d) = iblk m c 1 t (ix3 0 l ⟨d.val, by omega⟩) := by
    refine congrArg (iblk m c 1 t) ?_; funext a; fin_cases a <;> exact Fin.ext (by simp [Rect.idx_unit_val])
  rw [e1, e2, q_at, k_at]
  congr 2 <;> refine ix3_eq ?_ ?_ ?_ <;> first | omega | (dsimp only; omega)

/-- The second head's scores of a tile are scores of head `2 (t / 48 % 8) + 1`. -/
theorem sc1_at (t : Fin cfg0.N) (r : Fin 512) (l : Fin 2816) {b : Fin 2} {h : Fin 16} {q k : Fin 8448}
    (hb : b.val = t.val / 384) (hh : h.val = 2 * (t.val / 48 % 8) + 1) (hq : q.val = 512 * (t.val / 3 % 16) + r.val)
    (hk : k.val = 2816 * (t.val % 3) + l.val) :
    sc (q1 m c t) (k1 m c t) r l = score (aQ m c) (aK m c) b h q k := by
  unfold sc score
  refine Finset.sum_congr rfl fun d _ => ?_
  have e1 : q1 m c t (ix3 0 r d) = X0_0 m c t (ix3 0 r ⟨128 + d.val, by omega⟩) := by
    refine congrArg (X0_0 m c t) ?_; funext a; fin_cases a <;> exact Fin.ext (by simp [Rect.idx_unit_val])
  have e2 : k1 m c t (ix3 0 l d) = iblk m c 1 t (ix3 0 l ⟨128 + d.val, by omega⟩) := by
    refine congrArg (iblk m c 1 t) ?_; funext a; fin_cases a <;> exact Fin.ext (by simp [Rect.idx_unit_val])
  rw [e1, e2, q_at, k_at]
  congr 2 <;> refine ix3_eq ?_ ?_ ?_ <;> first | omega | (dsimp only; omega)

/-- The tile's values are values of the array. -/
theorem val_at (t : Fin cfg0.N) (l : Fin 2816) (j : Fin 128) {b : Fin 2} {k : Fin 8448} {x : Fin 1024}
    (hb : b.val = t.val / 384) (hk : k.val = 2816 * (t.val % 3) + l.val) (hx : x.val = 128 * (t.val / 48 % 8) + j.val) :
    iblk m c 2 t (ix3 0 l j) = aV m c (ix3 b k x) := by
  rw [v_at]; refine congrArg _ (ix3_eq ?_ ?_ ?_) <;> first | omega | (dsimp only; omega)

/-- THE BLOCK: what the last point of a query tile writes is the attention of its queries. -/
theorem block_at (t : Fin cfg0.N) (ht : t.val % 3 = 2) (r : Fin 512) (j : Fin 128) {b : Fin 2} {q : Fin 8448} {x : Fin 1024}
    (hb : b.val = t.val / 384) (hq : q.val = 512 * (t.val / 3 % 16) + r.val) (hx : x.val = 128 * (t.val / 48 % 8) + j.val) :
    (outsAt0 m c t.val t.isLt).1 (ix3 0 r j) = attnAt (aQ m c) (aK m c) (aV m c) b q x := by
  have hN : cfg0.N = 768 := N_0
  have hlt := t.isLt
  have hj' : (j.val + 128 - 64) % 128 < 128 := Nat.mod_lt _ (by decide)
  have nx := fun y => next m c ⟨t.val - 1, by omega⟩ (by first | omega | (dsimp only; omega)) (by first | omega | (dsimp only; omega)) r y
  have fs := fun y => first m c ⟨t.val - 1 - 1, by omega⟩ (by first | omega | (dsimp only; omega)) r y
  dsimp only at nx fs
  rw [last m c t ht r j]
  unfold attnAt
  split
  · rename_i h
    rw [(nx j).1, (nx j).2.1, (nx _).2.1, (fs j).1, (fs j).2.1, (fs _).2.1]
    have hw : ∀ s : Fin cfg0.N, w0 m c s ⟨(j.val + 128 - 64) % 128, hj'⟩ = fun _ => 1 := fun s => by
      funext l; unfold w0; rw [if_neg (by first | omega | (dsimp only; omega))]
    simp only [hw]
    refine Online.attn_of_tiles _ _ _ _ _ _ _ _ (fun l => ?_) (fun l => ?_) (fun l => ?_) (fun l => ?_) (fun l => ?_) (fun l => ?_)
    · refine sc0_at m c _ r l ?_ ?_ ?_ ?_ <;> first | omega | (dsimp only; omega)
    · refine sc0_at m c _ r l ?_ ?_ ?_ ?_ <;> first | omega | (dsimp only; omega)
    · refine sc0_at m c _ r l ?_ ?_ ?_ ?_ <;> first | omega | (dsimp only; omega)
    · unfold w0; rw [if_pos h]; refine val_at m c _ l j ?_ ?_ ?_ <;> first | omega | (dsimp only; omega)
    · unfold w0; rw [if_pos h]; refine val_at m c _ l j ?_ ?_ ?_ <;> first | omega | (dsimp only; omega)
    · unfold w0; rw [if_pos h]; refine val_at m c _ l j ?_ ?_ ?_ <;> first | omega | (dsimp only; omega)
  · rename_i h
    rw [(nx j).2.2.1, (nx j).2.2.2, (nx _).2.2.2, (fs j).2.2.1, (fs j).2.2.2, (fs _).2.2.2]
    have hw : ∀ s : Fin cfg0.N, w1 m c s ⟨(j.val + 128 - 64) % 128, hj'⟩ = fun _ => 1 := fun s => by
      funext l; unfold w1; rw [if_pos (by first | omega | (dsimp only; omega))]
    simp only [hw]
    refine Online.attn_of_tiles _ _ _ _ _ _ _ _ (fun l => ?_) (fun l => ?_) (fun l => ?_) (fun l => ?_) (fun l => ?_) (fun l => ?_)
    · refine sc1_at m c _ r l ?_ ?_ ?_ ?_ <;> first | omega | (dsimp only; omega)
    · refine sc1_at m c _ r l ?_ ?_ ?_ ?_ <;> first | omega | (dsimp only; omega)
    · refine sc1_at m c _ r l ?_ ?_ ?_ ?_ <;> first | omega | (dsimp only; omega)
    · unfold w1; rw [if_neg h]; refine val_at m c _ l j ?_ ?_ ?_ <;> first | omega | (dsimp only; omega)
    · unfold w1; rw [if_neg h]; refine val_at m c _ l j ?_ ?_ ?_ <;> first | omega | (dsimp only; omega)
    · unfold w1; rw [if_neg h]; refine val_at m c _ l j ?_ ?_ ?_ <;> first | omega | (dsimp only; omega)

end Cert.KernelIdeal.Val

end
-- ==== Proof.Array.lean ====
/- The attention's result after the run: every query's row of the output array, and the slice of it that the program
   returns. -/
module

public import proofs.«01_k».proof.Proof.Block

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (c : Dev nD)

/-- The output array after the run: attention in the rows below 8192, the others as they were. -/
theorem array_at : (dats m 0 c).arrAt 3 cfg0.N
    = fun i => if (i 1).val / 512 < 16 then attnAt (aQ m c) (aK m c) (aV m c) (i 0) (i 1) (i 2) else (dats m 0 c).A 3 i := by
  refine (dats m 0 c).arrAt_eq_of_coversWhere 3 _ (fun β => β 1 < 16) (by decide +kernel) (fun t hf y => ?_) (fun j => Iff.rfl)
  have ht := (flush0_3 t).mp hf
  blk_simp
  rw [after0_3]
  obtain ⟨-, -, -, e0, e1, e2⟩ := index0 t
  have hy : ∀ a, ((cfg0.win 3).xinj (cfg0.grid.coords t) y a).val = (y a).val := fun a => rfl
  have l0 : (y 0).val < 1 := ((cfg0.win 3).xinj (cfg0.grid.coords t) y 0).isLt
  have l1 : (y 1).val < 512 := ((cfg0.win 3).xinj (cfg0.grid.coords t) y 1).isLt
  have l2 : (y 2).val < 128 := ((cfg0.win 3).xinj (cfg0.grid.coords t) y 2).isLt
  have h0 := (cfg0.win 3).rect_emb_val t y 0
  have h1 := (cfg0.win 3).rect_emb_val t y 1
  have h2 := (cfg0.win 3).rect_emb_val t y 2
  rw [e0] at h0
  rw [e1] at h1
  rw [e2] at h2
  have hx : (cfg0.win 3).xinj (cfg0.grid.coords t) y = ix3 0 ⟨(y 1).val, l1⟩ ⟨(y 2).val, l2⟩ := by
    funext a
    refine Fin.ext ?_
    match a with
    | ⟨0, _⟩ => exact Nat.lt_one_iff.mp l0
    | ⟨1, _⟩ => rfl
    | ⟨2, _⟩ => rfl
  refine (congrArg (outsAt0 m c t.val t.isLt).1 hx).trans ?_
  refine block_at m c t ht _ _ ?_ ?_ ?_
  · refine h0.trans ?_
    rw [Nat.lt_one_iff.mp l0]
    exact Nat.mul_one _
  · exact h1.trans (congrArg (· + (y 1).val) (Nat.mul_comm _ _))
  · exact h2.trans (congrArg (· + (y 2).val) (Nat.mul_comm _ _))

/-- The attention of the 8192 latent queries. -/
def result : Vec Ideal S2x8192x1024 .bf16 := fun i =>
  attnAt (aQ m c) (aK m c) (aV m c) (i 0) ⟨(i 1).val, by have := (i 1).isLt; change (i 1).val < 8192 at this; omega⟩ (i 2)

/-- What the program returns: the output array's rows below 8192. -/
theorem tail_at : Pipeline.afterTail₀ cfgs (dats m) 0 (V0 m) [hostOps1] c main_v1 = result m c := by
  have h : Pipeline.afterTail₀ cfgs (dats m) 0 (V0 m) [hostOps1] c main_v1
      = extractStridedSlice S2x8192x1024 ![0, 0, 0] ((dats m 0 c).arrAt 3 cfg0.N) slices_S2x8448x1024_S2x8192x1024_0_0_0 := by
    unfold Pipeline.afterTail₀
    rw [show ([hostOps1].flatten : List (HloOp τ sig (Elt Ideal))) = hostOps1 from rfl]
    after_results
    exact congrArg (fun z => extractStridedSlice S2x8192x1024 ![0, 0, 0] z slices_S2x8448x1024_S2x8192x1024_0_0_0)
      (Pipeline.withArrays_arr (cfgs 0).spec launch0.win.arr_inj c _ _ 3)
  rw [h, array_at]
  funext i
  idx_vars i
  unfold result
  pointwise
  rw [if_pos (by omega)]

end Cert.KernelIdeal.Val

end
-- ==== Proof.Agree.lean ====
/- The reference's result is the attention that the kernel computes, where the queries and keys are real numbers. -/
module

public import proofs.«01_k».proof.Proof.RefValue
public import proofs.«01_k».proof.Proof.Finite
public import proofs.«01_k».proof.Proof.Array

@[expose] public section

set_option maxRecDepth 16384

noncomputable section

namespace Cert.Agree

open Idealize.ShloMosaic Cert.KernelIdeal.Val Cert.ReferenceIdeal.Val

/-- A sum of products of real numbers is a real number. -/
theorem sum_real {n : ℕ} (f g : Fin n → EReal) (hf : ∀ i, f i ≠ ⊤ ∧ f i ≠ ⊥) (hg : ∀ i, g i ≠ ⊤ ∧ g i ≠ ⊥) :
    ∃ r : ℝ, ∑ i, f i * g i = (r : EReal) :=
  Finset.sum_induction (fun i => f i * g i) (fun x => ∃ r : ℝ, x = (r : EReal))
    (fun _ _ ⟨a, ha⟩ ⟨b, hb⟩ => ⟨a + b, by rw [ha, hb, EReal.coe_add]⟩) ⟨0, rfl⟩
    (fun i _ => ⟨(f i).toReal * (g i).toReal, by
      rw [EReal.coe_mul, EReal.coe_toReal (hf i).1 (hf i).2, EReal.coe_toReal (hg i).1 (hg i).2]⟩)

/-- Dividing the weighted sum by the sum of the weights is weighting by the quotients, where the scores are real numbers. -/
theorem attn_eq {n : ℕ} (hn : 0 < n) (s v : Fin n → EReal) (hs : ∀ k, ∃ r : ℝ, s k = (r : EReal)) :
    ∑ k, v k * Ideal.div (Ideal.exp (s k - Finset.univ.fold max ⊥ s)) (∑ l, Ideal.exp (s l - Finset.univ.fold max ⊥ s))
      = Online.attn s v := by
  choose r hr using hs
  obtain rfl : s = fun k => (r k : EReal) := funext hr
  obtain ⟨h0, ht⟩ := Online.sum_exp hn r _ rfl
  unfold Online.attn
  simp only [mul_one]
  exact (Online.div_sum _ v h0 ht).symm

/-- The reference's result at every index. -/
theorem out_eq (Q K : Vec Ideal Cert.KernelIdeal.S2x8448x2048 .bf16) (W : Vec Ideal Cert.KernelIdeal.S2x8448x1024 .bf16)
    (hQK : ∀ i, (Q i ≠ ⊤ ∧ Q i ≠ ⊥) ∧ (K i ≠ ⊤ ∧ K i ≠ ⊥)) (b : Fin 2) (q : Fin 8192) (x : Fin 1024) :
    out W (shares (weights (scores Q K) (tops (scores Q K)))) (ix3 b q x)
      = attnAt Q K W b ⟨q.val, by omega⟩ x := by
  have hs : ∀ k, scores Q K (ix4 b ⟨x / 64, by omega⟩ q k) = score Q K b ⟨x / 64, by omega⟩ ⟨q.val, by omega⟩ k :=
    fun k => scores_at Q K b _ q k
  rw [out_at]
  simp only [shares_at, weights_at, tops_at, hs]
  exact attn_eq (by norm_num) (score Q K b ⟨x / 64, by omega⟩ ⟨q.val, by omega⟩) (fun k => W (ix3 b k x))
    fun k => sum_real _ _ (fun d => (hQK _).1) fun d => (hQK _).2

end Cert.Agree

end
-- ==== Proof.Flash.lean ====
/- The attention's claims: the frames of its three programs, and its kernel's result against its reference's. -/
module

public import proofs.«01_k».proof.Defs
public import proofs.«01_k».proof.Proof.Agree
public import proofs.«01_k».proof.Proof.Gen.Kernel.Frame
public import Idealize.ShloMosaic.Lib.Claim
public import Idealize.ShloMosaic.Lib.Quiescent

@[expose] public section

set_option maxRecDepth 16384

noncomputable section

namespace Cert.Flash

open Idealize.ShloMosaic Idealize.SL.Sem

/-- The kernel runs, ends quiescent and leaves its arguments. -/
theorem frame_kernel : Cert.quiescent_Kernel := fun m ρ _ => Cert.Kernel.Gen.frame m ρ

/-- The same of its idealization. -/
theorem frame_ideal : Cert.quiescent_KernelIdeal := fun m ρ _ => Cert.KernelIdeal.Gen.frame m ρ

/-- The same where the queries and keys are real numbers. -/
theorem frame_ideal_finite : Cert.quiescent_KernelIdeal_pre_finite (hPre_finite := Cert.Pre_finite.Val.facts) :=
  fun m ρ _ => Cert.KernelIdeal.Gen.frame m ρ

/-- The reference runs, has no semaphore to leave set, and leaves its arguments. -/
theorem frame_reference : Cert.quiescent_ReferenceIdeal := fun m ρ _ =>
  (θ_run _ _ _).mono (fun r h => ⟨fun c => (h c).2, sem_eq_zero_of_no_sems rfl r.2⟩) (Cert.ReferenceIdeal.Value.run m ρ)

/-- The same where the queries and keys are real numbers. -/
theorem frame_reference_finite : Cert.quiescent_ReferenceIdeal_pre_finite (hPre_finite := Cert.Pre_finite.Val.facts) :=
  fun m ρ _ => frame_reference m ρ trivial

/-- The kernel's run: the attention in its result, its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v1) = Cert.KernelIdeal.Val.result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run _ _ _).mono
    (fun _ h c => ⟨((h.1 c).2 Cert.KernelIdeal.main_v1 (by decide)).trans (Cert.KernelIdeal.Val.tail_at m c), h.2 c⟩)
    (θ_run_and (Cert.KernelIdeal.Gen.run_main m ρ) (Cert.KernelIdeal.Gen.unchanged m ρ))

/-- The attention: where the queries and keys are real numbers the kernel's result is the reference's. -/
theorem algebraic : Cert.algebraic_KernelIdeal_ReferenceIdeal_pre_finite (hPre_finite := Cert.Pre_finite.Val.facts) := by
  intro m g m' g' hpre hagree
  refine ⟨fun c => Cert.KernelIdeal.Val.result m c, kernel_run m g, ?_⟩
  refine (θ_run _ _ _).mono (fun r h c => ⟨(h c).1.trans ?_, (h c).2⟩) (Cert.ReferenceIdeal.Value.run m' g')
  obtain ⟨a0, a1, a2⟩ := hagree c
  rw [a0, a1, a2]
  have hf := Cert.Pre_finite.Val.real _ _ _ (hpre c)
  funext i
  idx_vars i
  exact Cert.Agree.out_eq _ _ _ hf _ _ _

end Cert.Flash

end
-- ==== Proof.Product.lean ====
/- The product of two matrices, entry by entry: what the calls that multiply by a weight compute, tile by tile. -/
module

public import Idealize.ShloMosaic.Lib.Pointwise

@[expose] public section

noncomputable section

namespace Cert.Product

open Idealize.ShloMosaic

variable {M K N p q : ℕ}

/-- Entry `(a, b)` of the product of `L` and `R`. -/
def mul (L : (⟨2, ![M, K]⟩ : Shape).Idx → EReal) (R : (⟨2, ![K, N]⟩ : Shape).Idx → EReal) (a : Fin M) (b : Fin N) : EReal :=
  ∑ k : Fin K, L (ix2 a k) * R (ix2 k b)

/-- An entry depends on one row of the left factor and one column of the right: a tile's product is a tile of the product. -/
theorem mul_eq {l : (⟨2, ![p, K]⟩ : Shape).Idx → EReal} {r : (⟨2, ![K, q]⟩ : Shape).Idx → EReal}
    {L : (⟨2, ![M, K]⟩ : Shape).Idx → EReal} {R : (⟨2, ![K, N]⟩ : Shape).Idx → EReal}
    {x : Fin p} {y : Fin q} {a : Fin M} {b : Fin N}
    (hl : ∀ k, l (ix2 x k) = L (ix2 a k)) (hr : ∀ k, r (ix2 k y) = R (ix2 k b)) : mul l r x y = mul L R a b :=
  Finset.sum_congr rfl fun k _ => congrArg₂ (· * ·) (hl k) (hr k)

/-- A column of zeros in the right factor is a column of zeros in the product. -/
theorem mul_zero_column {L : (⟨2, ![M, K]⟩ : Shape).Idx → EReal} {R : (⟨2, ![K, N]⟩ : Shape).Idx → EReal} {a : Fin M} {b : Fin N}
    (h : ∀ k, R (ix2 k b) = 0) : mul L R a b = 0 :=
  Finset.sum_eq_zero fun k _ => by rw [h k, mul_zero]

end Cert.Product

end
-- ==== Proof.Rw.lean ====
/- The recurrence's projections: the token rows times the first 3392 columns of the input weights, in 3456 columns. -/
module

public import proofs.«01_k».proof.Defs
public import proofs.«01_k».proof.Proof.Product
public import proofs.«01_k».proof.Proof.Gen.Rw.Frame
public import proofs.«01_k».proof.Proof.Gen.RwIdeal.Value
public import proofs.«01_k».proof.Proof.Gen.RwRefIdeal.Run
public import Idealize.ShloMosaic.Lib.Pipeline.ValueKit
public import Idealize.ShloMosaic.Lib.Quiescent
public import Idealize.ShloMosaic.Lib.StableHlo.ReadAt

@[expose] public section

set_option maxRecDepth 16384

noncomputable section

namespace Cert.RwIdeal.Val

open Cert.RwIdeal Cert.RwIdeal.Gen Idealize.ShloMosaic Idealize.ShloMosaic.TcCoe Idealize.SL.Sem Cert.Product

variable (m : (ℓ : Loc nD τ sig) → Buf (Elt Ideal) ℓ) (c : Dev nD)

/-- The block that each window is at, at point `t`: row tile `t % 66` of the left factor and the result, column tile
    `t / 66` of the right factor and the result. -/
theorem index0 : ∀ t : Fin cfg0.N,
    ((cfg0.win 0).index t 0 = t.val % 66 ∧ (cfg0.win 0).index t 1 = 0)
    ∧ ((cfg0.win 1).index t 0 = 0 ∧ (cfg0.win 1).index t 1 = t.val / 66)
    ∧ ((cfg0.win 2).index t 0 = t.val % 66 ∧ (cfg0.win 2).index t 1 = t.val / 66) := by
  decide +kernel

/-- The left factor, an argument, and the right one, the weights as the products find them. -/
abbrev aL : Vec Ideal S16896x2048 .bf16 := m ((c.tc : Thread nD τ).loc main_arg0)
def aR : Vec Ideal S2048x3456 .f32 := fun i => if h : (i 1).val < 3392 then m ((c.tc : Thread nD τ).loc main_arg1) (ix2 (i 0) ⟨(i 1).val, by omega⟩) else 0

/-- The padding is zero. -/
theorem zero_pad : FloatOps.sitofp (F := Ideal) FTy.f32 (0#32) = (0 : EReal) := by
  show (((0#32 : BitVec 32).toInt : ℝ) : EReal) = 0
  simp

/-- The region finds the right factor's array at these weights. -/
theorem right_eq : V m c main_v2 = aR m c := by
  unfold V aR
  simp only [hostOps0, hostOps0_1, hostOps0_2, List.flatten_cons, List.flatten_nil, List.append_nil, List.cons_append, List.nil_append]
  funext i
  idx_vars i
  after_reads_at
  rw [zero_pad]

/-- The product, entry by entry. -/
def result : Vec Ideal S16896x3456 .f32 := fun i => mul (aL m c) (aR m c) (i 0) (i 1)

/-- The body's value at a point: the product of its two blocks. -/
theorem pay_at (x : Vec Ideal S256x2048 .bf16) (y : Vec Ideal S2048x1152 .bf16) (r : Fin 256) (j : Fin 1152) :
    k0_pay1 x y (ix2 r j) = mul x y r j := by
  unfold mul
  pointwise [k0_pay1]

/-- The left block at a point is a tile of rows of the left factor. -/
theorem left_at (t : Fin cfg0.N) (r : Fin 256) (k : Fin 2048) {a : Fin 16896} (ha : a.val = t.val % 66 * 256 + r.val) :
    iblk m c 0 t (ix2 r k) = aL m c (ix2 a k) := by
  obtain ⟨⟨e0, e1⟩, -⟩ := index0 t
  blk_ext [iblk, V, e0, e1, ha]

/-- The right block at a point is a tile of columns of the right factor. -/
theorem right_at (t : Fin cfg0.N) (k : Fin 2048) (j : Fin 1152) {b : Fin 3456} (hb : b.val = t.val / 66 * 1152 + j.val) :
    iblk m c 1 t (ix2 k j) = aR m c (ix2 k b) := by
  obtain ⟨-, ⟨e0, e1⟩, -⟩ := index0 t
  rw [← right_eq m c]
  blk_ext [iblk, e0, e1, hb]

/-- THE BLOCK: what a point writes is a rectangle of the product. -/
theorem block_at (t : Fin cfg0.N) (y : S256x1152.Idx) (i : S16896x3456.Idx)
    (h0 : (i 0).val = t.val % 66 * 256 + (y 0).val) (h1 : (i 1).val = t.val / 66 * 1152 + (y 1).val) :
    out0_2 (iblk m c 0 t) (iblk m c 1 t) y = result m c i := by
  idx_vars y
  idx_vars i
  unfold out0_2
  frame_out
  rw [pay_at]
  exact mul_eq (fun k => left_at m c t _ k h0) fun k => right_at m c t k _ h1

/-- The output array after the run: the product. -/
theorem array_at : (dats m 0 c).arrAt 2 cfg0.N = result m c := by
  have h : (dats m 0 c).arrAt 2 cfg0.N = fun i => if (i 1).val / 1152 < 3 then result m c i else (dats m 0 c).A 2 i := by
    refine (dats m 0 c).arrAt_eq_of_coversWhere 2 _ (fun β => β 1 < 3) (by decide +kernel) (fun t _ y => ?_) (fun j => Iff.rfl)
    blk_simp
    rw [after0_2]
    obtain ⟨-, -, e0, e1⟩ := index0 t
    exact block_at m c t _ _ (((cfg0.win 2).rect_emb_val t y 0).trans (by rw [e0]; rfl))
      (((cfg0.win 2).rect_emb_val t y 1).trans (by rw [e1]; rfl))
  rw [h]
  funext i
  exact if_pos (by have := (i 1).isLt; change (i 1).val < 3456 at this; omega)

end Cert.RwIdeal.Val

namespace Cert.Rw

open Idealize.ShloMosaic Idealize.SL.Sem

/-- The kernel runs, ends quiescent and leaves its arguments. -/
theorem frame_kernel : Cert.quiescent_Rw := fun m ρ _ => Cert.Rw.Gen.frame m ρ

/-- The same of its idealization. -/
theorem frame_ideal : Cert.quiescent_RwIdeal := fun m ρ _ => Cert.RwIdeal.Gen.frame m ρ

/-- The reference runs, has no semaphore to leave set, and leaves its arguments. -/
theorem frame_reference : Cert.quiescent_RwRefIdeal := fun m ρ _ =>
  (θ_run _ _ _).mono (fun r h => ⟨fun c => (h c).2, sem_eq_zero_of_no_sems rfl r.2⟩) (Cert.RwRefIdeal.Value.run m ρ)

/-- The kernel's result is the reference's. -/
theorem algebraic : Cert.algebraic_RwIdeal_RwRefIdeal := by
  intro m g m' g' _ hagree
  refine ⟨fun c => Cert.RwIdeal.Val.result m c,
    (θ_run _ _ _).mono (fun r h c => ⟨(h c).1.trans (Cert.RwIdeal.Val.array_at m c), (h c).2⟩) (Cert.RwIdeal.Value.run_blocks m g), ?_⟩
  refine (θ_run _ _ _).mono (fun r h c => ⟨(h c).1.trans ?_, (h c).2⟩) (Cert.RwRefIdeal.Value.run m' g')
  obtain ⟨a0, a1⟩ := hagree c
  rw [a0, a1]
  funext i
  idx_vars i
  unfold Cert.RwIdeal.Val.result
  pointwise
  rw [Cert.RwIdeal.Val.zero_pad]
  split
  · rename_i h
    exact Finset.sum_congr rfl fun k _ => congrArg (Cert.RwIdeal.Val.aL m c (ix2 i0 k) * ·) (Eq.symm (dif_pos h : Cert.RwIdeal.Val.aR m c (ix2 k i1) = _))
  · rename_i h
    exact (Cert.Product.mul_zero_column fun k => dif_neg h).symm

end Cert.Rw

end
-- ==== Proof.Gate.lean ====
/- The gates of the merge: the token rows times the last 4096 columns of the input weights. -/
module

public import proofs.«01_k».proof.Defs
public import proofs.«01_k».proof.Proof.Product
public import proofs.«01_k».proof.Proof.Gen.Gate.Frame
public import proofs.«01_k».proof.Proof.Gen.GateIdeal.Value
public import proofs.«01_k».proof.Proof.Gen.GateRefIdeal.Run
public import Idealize.ShloMosaic.Lib.Pipeline.ValueKit
public import Idealize.ShloMosaic.Lib.Quiescent

@[expose] public section

set_option maxRecDepth 16384

noncomputable section

namespace Cert.GateIdeal.Val

open Cert.GateIdeal Cert.GateIdeal.Gen Idealize.ShloMosaic Idealize.ShloMosaic.TcCoe Idealize.SL.Sem Cert.Product

variable (m : (ℓ : Loc nD τ sig) → Buf (Elt Ideal) ℓ) (c : Dev nD)

/-- The block that each window is at, at point `t`: row tile `t % 66` of the left factor and the result, column tile
    `t / 66` of the right factor and the result. -/
theorem index0 : ∀ t : Fin cfg0.N,
    ((cfg0.win 0).index t 0 = t.val % 66 ∧ (cfg0.win 0).index t 1 = 0)
    ∧ ((cfg0.win 1).index t 0 = 0 ∧ (cfg0.win 1).index t 1 = t.val / 66)
    ∧ ((cfg0.win 2).index t 0 = t.val % 66 ∧ (cfg0.win 2).index t 1 = t.val / 66) := by
  decide +kernel

/-- The left factor, an argument, and the right one, the weights as the products find them. -/
abbrev aL : Vec Ideal S16896x2048 .bf16 := m ((c.tc : Thread nD τ).loc main_arg0)
def aR : Vec Ideal S2048x4096 .f32 := fun i => m ((c.tc : Thread nD τ).loc main_arg1) (ix2 (i 0) ⟨4192 + (i 1).val, by have := (i 1).isLt; change (i 1).val < 4096 at this; omega⟩)

/-- The region finds the right factor's array at these weights. -/
theorem right_eq : V m c main_v1 = aR m c := by
  unfold V aR
  after_results
  funext i
  idx_vars i
  pointwise

/-- The product, entry by entry. -/
def result : Vec Ideal S16896x4096 .f32 := fun i => mul (aL m c) (aR m c) (i 0) (i 1)

/-- The body's value at a point: the product of its two blocks. -/
theorem pay_at (x : Vec Ideal S256x2048 .bf16) (y : Vec Ideal S2048x1024 .bf16) (r : Fin 256) (j : Fin 1024) :
    k0_pay1 x y (ix2 r j) = mul x y r j := by
  unfold mul
  pointwise [k0_pay1]

/-- The left block at a point is a tile of rows of the left factor. -/
theorem left_at (t : Fin cfg0.N) (r : Fin 256) (k : Fin 2048) {a : Fin 16896} (ha : a.val = t.val % 66 * 256 + r.val) :
    iblk m c 0 t (ix2 r k) = aL m c (ix2 a k) := by
  obtain ⟨⟨e0, e1⟩, -⟩ := index0 t
  blk_ext [iblk, V, e0, e1, ha]

/-- The right block at a point is a tile of columns of the right factor. -/
theorem right_at (t : Fin cfg0.N) (k : Fin 2048) (j : Fin 1024) {b : Fin 4096} (hb : b.val = t.val / 66 * 1024 + j.val) :
    iblk m c 1 t (ix2 k j) = aR m c (ix2 k b) := by
  obtain ⟨-, ⟨e0, e1⟩, -⟩ := index0 t
  rw [← right_eq m c]
  blk_ext [iblk, e0, e1, hb]

/-- THE BLOCK: what a point writes is a rectangle of the product. -/
theorem block_at (t : Fin cfg0.N) (y : S256x1024.Idx) (i : S16896x4096.Idx)
    (h0 : (i 0).val = t.val % 66 * 256 + (y 0).val) (h1 : (i 1).val = t.val / 66 * 1024 + (y 1).val) :
    out0_2 (iblk m c 0 t) (iblk m c 1 t) y = result m c i := by
  idx_vars y
  idx_vars i
  unfold out0_2
  frame_out
  rw [pay_at]
  exact mul_eq (fun k => left_at m c t _ k h0) fun k => right_at m c t k _ h1

/-- The output array after the run: the product. -/
theorem array_at : (dats m 0 c).arrAt 2 cfg0.N = result m c := by
  have h : (dats m 0 c).arrAt 2 cfg0.N = fun i => if (i 1).val / 1024 < 4 then result m c i else (dats m 0 c).A 2 i := by
    refine (dats m 0 c).arrAt_eq_of_coversWhere 2 _ (fun β => β 1 < 4) (by decide +kernel) (fun t _ y => ?_) (fun j => Iff.rfl)
    blk_simp
    rw [after0_2]
    obtain ⟨-, -, e0, e1⟩ := index0 t
    exact block_at m c t _ _ (((cfg0.win 2).rect_emb_val t y 0).trans (by rw [e0]; rfl))
      (((cfg0.win 2).rect_emb_val t y 1).trans (by rw [e1]; rfl))
  rw [h]
  funext i
  exact if_pos (by have := (i 1).isLt; change (i 1).val < 4096 at this; omega)

end Cert.GateIdeal.Val

namespace Cert.Gate

open Idealize.ShloMosaic Idealize.SL.Sem

/-- The kernel runs, ends quiescent and leaves its arguments. -/
theorem frame_kernel : Cert.quiescent_Gate := fun m ρ _ => Cert.Gate.Gen.frame m ρ

/-- The same of its idealization. -/
theorem frame_ideal : Cert.quiescent_GateIdeal := fun m ρ _ => Cert.GateIdeal.Gen.frame m ρ

/-- The reference runs, has no semaphore to leave set, and leaves its arguments. -/
theorem frame_reference : Cert.quiescent_GateRefIdeal := fun m ρ _ =>
  (θ_run _ _ _).mono (fun r h => ⟨fun c => (h c).2, sem_eq_zero_of_no_sems rfl r.2⟩) (Cert.GateRefIdeal.Value.run m ρ)

/-- The kernel's result is the reference's. -/
theorem algebraic : Cert.algebraic_GateIdeal_GateRefIdeal := by
  intro m g m' g' _ hagree
  refine ⟨fun c => Cert.GateIdeal.Val.result m c,
    (θ_run _ _ _).mono (fun r h c => ⟨(h c).1.trans (Cert.GateIdeal.Val.array_at m c), (h c).2⟩) (Cert.GateIdeal.Value.run_blocks m g), ?_⟩
  refine (θ_run _ _ _).mono (fun r h c => ⟨(h c).1.trans ?_, (h c).2⟩) (Cert.GateRefIdeal.Value.run m' g')
  obtain ⟨a0, a1⟩ := hagree c
  rw [a0, a1]
  funext i
  idx_vars i
  unfold Cert.GateIdeal.Val.result Cert.Product.mul Cert.GateIdeal.Val.aR
  pointwise

end Cert.Gate

end
-- ==== Proof.Merge.lean ====
/- The merge of the two branches: each branch's rows times its weights, each product gated, and their sum. -/
module

public import proofs.«01_k».proof.Defs
public import proofs.«01_k».proof.Proof.Product
public import proofs.«01_k».proof.Proof.Gen.Merge.Frame
public import proofs.«01_k».proof.Proof.Gen.MergeIdeal.Frame
public import proofs.«01_k».proof.Proof.Gen.MergeRefIdeal.Run
public import Idealize.ShloMosaic.Lib.Pipeline.ValueKit
public import Idealize.ShloMosaic.Lib.StableHlo.ReadAt
public import Idealize.ShloMosaic.Lib.Quiescent
public import Idealize.ShloMosaic.Lib.Pipeline.RegionsLoop
public import Idealize.ShloMosaic.Lib.Ring
public import Idealize.ShloMosaic.Lib.Tactic

@[expose] public section

set_option maxRecDepth 16384

noncomputable section

namespace Cert.MergeIdeal.Val

open Cert.MergeIdeal Cert.MergeIdeal.Gen Idealize.ShloMosaic Idealize.ShloMosaic.TcCoe Idealize.SL.Sem Cert.Product

variable (m : (ℓ : Loc nD τ sig) → Buf (Elt Ideal) ℓ) (ρ : Dev nD → PrngReg) (c : Dev nD)
variable (V : (c : Dev nD) → (b : Ref sig .tc) → Buf (Elt Ideal) ((c : Thread nD τ).loc b))

/-- A gate: the logistic function. -/
def gate (x : EReal) : EReal := Ideal.div 1 (1 + Ideal.exp (-x))

/-- The arguments: the two branches, the gates' products and offsets, and the two weights. -/
abbrev aA : Vec Ideal S16896x1024 .bf16 := m ((c.tc : Thread nD τ).loc main_arg0)
abbrev aB : Vec Ideal S16896x1024 .bf16 := m ((c.tc : Thread nD τ).loc main_arg1)
abbrev aG : Vec Ideal S16896x4096 .f32 := m ((c.tc : Thread nD τ).loc main_arg2)
abbrev aO : Vec Ideal S2x2048 .f32 := m ((c.tc : Thread nD τ).loc main_arg3)
abbrev wA : Vec Ideal S1024x2048 .f32 := m ((c.tc : Thread nD τ).loc main_arg4)
abbrev wB : Vec Ideal S1024x2048 .f32 := m ((c.tc : Thread nD τ).loc main_arg5)

/-! ## The first branch's product -/

/-- The block that each window of the first product is at, at point `t`. -/
theorem index0 : ∀ t : Fin cfg0.N,
    ((cfg0.win 0).index t 0 = t.val % 66 ∧ (cfg0.win 0).index t 1 = 0)
    ∧ ((cfg0.win 1).index t 0 = 0 ∧ (cfg0.win 1).index t 1 = t.val / 66)
    ∧ ((cfg0.win 2).index t 0 = t.val % 66 ∧ (cfg0.win 2).index t 1 = t.val / 66) := by
  decide +kernel

/-- The factors of the first product, as its region finds them. -/
abbrev L0 : Vec Ideal S16896x1024 .bf16 := V c main_arg0
abbrev R0 : Vec Ideal S1024x2048 .bf16 := V c main_v0

/-- The first branch's product, entry by entry. -/
def first : Vec Ideal S16896x2048 .f32 := fun i => mul (L0 c V) (R0 c V) (i 0) (i 1)

/-- The body's value at a point: the product of its two blocks. -/
theorem pay0_at (x : Vec Ideal S256x1024 .bf16) (y : Vec Ideal S1024x1024 .bf16) (r : Fin 256) (j : Fin 1024) :
    k0_pay1 x y (ix2 r j) = mul x y r j := by
  unfold mul
  pointwise [k0_pay1]

/-- The blocks at a point are a tile of rows of the left factor and a tile of columns of the right one. -/
theorem left0_at (t : Fin cfg0.N) (r : Fin 256) (k : Fin 1024) {a : Fin 16896} (ha : a.val = t.val % 66 * 256 + r.val) :
    iblk0 V c 0 t (ix2 r k) = L0 c V (ix2 a k) := by
  obtain ⟨⟨e0, e1⟩, -⟩ := index0 t
  blk_ext [iblk0, e0, e1, ha]
theorem right0_at (t : Fin cfg0.N) (k : Fin 1024) (j : Fin 1024) {b : Fin 2048} (hb : b.val = t.val / 66 * 1024 + j.val) :
    iblk0 V c 1 t (ix2 k j) = R0 c V (ix2 k b) := by
  obtain ⟨-, ⟨e0, e1⟩, -⟩ := index0 t
  blk_ext [iblk0, e0, e1, hb]

/-- What a point writes is a rectangle of the first product. -/
theorem block0_at (t : Fin cfg0.N) (y : S256x1024.Idx) (i : S16896x2048.Idx)
    (h0 : (i 0).val = t.val % 66 * 256 + (y 0).val) (h1 : (i 1).val = t.val / 66 * 1024 + (y 1).val) :
    out0_2 (iblk0 V c 0 t) (iblk0 V c 1 t) y = first c V i := by
  idx_vars y
  idx_vars i
  unfold out0_2
  frame_out
  rw [pay0_at]
  exact mul_eq (fun k => left0_at c V t _ k h0) fun k => right0_at c V t k _ h1

/-- The first product's array at its region's end. -/
theorem array0_at : (dat0 V c).arrAt 2 cfg0.N = first c V := by
  have h : (dat0 V c).arrAt 2 cfg0.N = fun i => if (i 1).val / 1024 < 2 then first c V i else (dat0 V c).A 2 i := by
    refine (dat0 V c).arrAt_eq_of_coversWhere 2 _ (fun β => β 1 < 2) (by decide +kernel) (fun t _ y => ?_) (fun j => Iff.rfl)
    blk_simp
    rw [after0_2]
    obtain ⟨-, -, e0, e1⟩ := index0 t
    exact block0_at c V t _ _ (((cfg0.win 2).rect_emb_val t y 0).trans (by rw [e0]; rfl))
      (((cfg0.win 2).rect_emb_val t y 1).trans (by rw [e1]; rfl))
  rw [h]
  funext i
  exact if_pos (by have := (i 1).isLt; change (i 1).val < 2048 at this; omega)

/-! ## The second branch's product and the merge -/

/-- The block that each window of the merge is at, at point `t`: the gates of the second branch lie 2048 columns, two
    tiles, after the first's. -/
theorem index1 : ∀ t : Fin cfg1.N,
    ((cfg1.win 0).index t 0 = t.val % 66 ∧ (cfg1.win 0).index t 1 = 0)
    ∧ ((cfg1.win 1).index t 0 = 0 ∧ (cfg1.win 1).index t 1 = t.val / 66)
    ∧ ((cfg1.win 2).index t 0 = t.val % 66 ∧ (cfg1.win 2).index t 1 = t.val / 66)
    ∧ ((cfg1.win 3).index t 0 = t.val % 66 ∧ (cfg1.win 3).index t 1 = t.val / 66 + 2)
    ∧ ((cfg1.win 4).index t 0 = 0 ∧ (cfg1.win 4).index t 1 = t.val / 66)
    ∧ ((cfg1.win 5).index t 0 = 0 ∧ (cfg1.win 5).index t 1 = t.val / 66)
    ∧ ((cfg1.win 6).index t 0 = t.val % 66 ∧ (cfg1.win 6).index t 1 = t.val / 66)
    ∧ ((cfg1.win 7).index t 0 = t.val % 66 ∧ (cfg1.win 7).index t 1 = t.val / 66) := by
  decide +kernel

/-- The arrays of the merge, as its region finds them. -/
abbrev L1 : Vec Ideal S16896x1024 .bf16 := V c main_arg1
abbrev R1 : Vec Ideal S1024x2048 .bf16 := V c main_v2
abbrev G1 : Vec Ideal S16896x4096 .f32 := V c main_arg2
abbrev Oa : Vec Ideal S1x2048 .f32 := V c main_v5
abbrev Ob : Vec Ideal S1x2048 .f32 := V c main_v8
abbrev Pa : Vec Ideal S16896x2048 .f32 := V c main_v1

/-- The merge, entry by entry, from those arrays. -/
def merged : Vec Ideal S16896x2048 .bf16 := fun i =>
  gate (G1 c V (ix2 (i 0) ⟨(i 1).val, by have := (i 1).isLt; change (i 1).val < 2048 at this; omega⟩) + Oa c V (ix2 0 (i 1))) * Pa c V i
    + gate (G1 c V (ix2 (i 0) ⟨2048 + (i 1).val, by have := (i 1).isLt; change (i 1).val < 2048 at this; omega⟩) + Ob c V (ix2 0 (i 1)))
      * mul (L1 c V) (R1 c V) (i 0) (i 1)

/-- The body's value at a point, from its blocks. -/
theorem pay1_at (x : Vec Ideal S256x1024 .bf16) (y : Vec Ideal S1024x1024 .bf16) (g h : Vec Ideal S256x1024 .f32)
    (o q : Vec Ideal S1x1024 .f32) (p : Vec Ideal S256x1024 .f32) (r : Fin 256) (j : Fin 1024) :
    k1_pay1 x y g h o q p (ix2 r j)
      = gate (g (ix2 r j) + o (ix2 0 j)) * p (ix2 r j) + gate (h (ix2 r j) + q (ix2 0 j)) * mul x y r j := by
  unfold mul gate
  pointwise [k1_pay1]
  simp only [zero_sub]

/-- Each block at a point is a tile of its array. -/
theorem left1_at (t : Fin cfg1.N) (r : Fin 256) (k : Fin 1024) {a : Fin 16896} (ha : a.val = t.val % 66 * 256 + r.val) :
    iblk1 V c 0 t (ix2 r k) = L1 c V (ix2 a k) := by
  obtain ⟨⟨e0, e1⟩, -⟩ := index1 t
  blk_ext [iblk1, e0, e1, ha]
theorem right1_at (t : Fin cfg1.N) (k : Fin 1024) (j : Fin 1024) {b : Fin 2048} (hb : b.val = t.val / 66 * 1024 + j.val) :
    iblk1 V c 1 t (ix2 k j) = R1 c V (ix2 k b) := by
  obtain ⟨-, ⟨e0, e1⟩, -⟩ := index1 t
  blk_ext [iblk1, e0, e1, hb]
theorem gate_a_at (t : Fin cfg1.N) (r : Fin 256) (j : Fin 1024) {a : Fin 16896} {b : Fin 4096} (ha : a.val = t.val % 66 * 256 + r.val)
    (hb : b.val = t.val / 66 * 1024 + j.val) : iblk1 V c 2 t (ix2 r j) = G1 c V (ix2 a b) := by
  obtain ⟨-, -, ⟨e0, e1⟩, -⟩ := index1 t
  blk_ext [iblk1, e0, e1, ha, hb]
theorem gate_b_at (t : Fin cfg1.N) (r : Fin 256) (j : Fin 1024) {a : Fin 16896} {b : Fin 4096} (ha : a.val = t.val % 66 * 256 + r.val)
    (hb : b.val = (t.val / 66 + 2) * 1024 + j.val) : iblk1 V c 3 t (ix2 r j) = G1 c V (ix2 a b) := by
  obtain ⟨-, -, -, ⟨e0, e1⟩, -⟩ := index1 t
  blk_ext [iblk1, e0, e1, ha, hb]
theorem off_a_at (t : Fin cfg1.N) (j : Fin 1024) {b : Fin 2048} (hb : b.val = t.val / 66 * 1024 + j.val) :
    iblk1 V c 4 t (ix2 0 j) = Oa c V (ix2 0 b) := by
  obtain ⟨-, -, -, -, ⟨e0, e1⟩, -⟩ := index1 t
  blk_ext [iblk1, e0, e1, hb]
theorem off_b_at (t : Fin cfg1.N) (j : Fin 1024) {b : Fin 2048} (hb : b.val = t.val / 66 * 1024 + j.val) :
    iblk1 V c 5 t (ix2 0 j) = Ob c V (ix2 0 b) := by
  obtain ⟨-, -, -, -, -, ⟨e0, e1⟩, -⟩ := index1 t
  blk_ext [iblk1, e0, e1, hb]
theorem prod_a_at (t : Fin cfg1.N) (r : Fin 256) (j : Fin 1024) {a : Fin 16896} {b : Fin 2048} (ha : a.val = t.val % 66 * 256 + r.val)
    (hb : b.val = t.val / 66 * 1024 + j.val) : iblk1 V c 6 t (ix2 r j) = Pa c V (ix2 a b) := by
  obtain ⟨-, -, -, -, -, -, ⟨e0, e1⟩, -⟩ := index1 t
  blk_ext [iblk1, e0, e1, ha, hb]

/-- What a point writes is a rectangle of the merge. -/
theorem block1_at (t : Fin cfg1.N) (y : S256x1024.Idx) (i : S16896x2048.Idx)
    (h0 : (i 0).val = t.val % 66 * 256 + (y 0).val) (h1 : (i 1).val = t.val / 66 * 1024 + (y 1).val) :
    out1_7 (iblk1 V c 0 t) (iblk1 V c 1 t) (iblk1 V c 2 t) (iblk1 V c 3 t) (iblk1 V c 4 t) (iblk1 V c 5 t) (iblk1 V c 6 t) y
      = merged c V i := by
  idx_vars y
  idx_vars i
  change i0.val = t.val % 66 * 256 + y0.val at h0
  change i1.val = t.val / 66 * 1024 + y1.val at h1
  unfold out1_7
  frame_out
  rw [pay1_at, gate_a_at c V t y0 y1 (a := i0) (b := ⟨i1.val, by omega⟩) h0 h1,
    gate_b_at c V t y0 y1 (a := i0) (b := ⟨2048 + i1.val, by omega⟩) h0 (by dsimp only; omega),
    off_a_at c V t y1 h1, off_b_at c V t y1 h1, prod_a_at c V t y0 y1 h0 h1]
  exact congrArg (_ + _ * ·) (mul_eq (fun k => left1_at c V t _ k h0) fun k => right1_at c V t k _ h1)

/-- The merge's array at its region's end. -/
theorem array1_at : (dat1 V c).arrAt 7 cfg1.N = merged c V := by
  have h : (dat1 V c).arrAt 7 cfg1.N = fun i => if (i 1).val / 1024 < 2 then merged c V i else (dat1 V c).A 7 i := by
    refine (dat1 V c).arrAt_eq_of_coversWhere 7 _ (fun β => β 1 < 2) (by decide +kernel) (fun t _ y => ?_) (fun j => Iff.rfl)
    blk_simp
    rw [after1_7]
    obtain ⟨-, -, -, -, -, -, -, e0, e1⟩ := index1 t
    exact block1_at c V t _ _ (((cfg1.win 7).rect_emb_val t y 0).trans (by rw [e0]; rfl))
      (((cfg1.win 7).rect_emb_val t y 1).trans (by rw [e1]; rfl))
  rw [h]
  funext i
  exact if_pos (by have := (i 1).isLt; change (i 1).val < 2048 at this; omega)

/-! ## What the regions find, and the run -/

/-- The merge, entry by entry, from the arguments. -/
def result : Vec Ideal S16896x2048 .bf16 := fun i =>
  gate (aG m c (ix2 (i 0) ⟨(i 1).val, by have := (i 1).isLt; change (i 1).val < 2048 at this; omega⟩) + aO m c (ix2 0 (i 1)))
      * mul (aA m c) (wA m c) (i 0) (i 1)
    + gate (aG m c (ix2 (i 0) ⟨2048 + (i 1).val, by have := (i 1).isLt; change (i 1).val < 2048 at this; omega⟩) + aO m c (ix2 1 (i 1)))
      * mul (aB m c) (wB m c) (i 0) (i 1)

/-- The first product's weights are the first branch's. -/
theorem found_w0 : V1 m ρ c main_v0 = wA m c := by
  unfold V1 W1
  funext i
  idx_vars i
  after_reads_at

/-- The merge finds the second branch's weights, the gates' two rows of offsets, and the first product. -/
theorem found_w1 : V3 m ρ c main_v2 = wB m c := by
  rw [show wB m c = W2 m ρ c (Proc.devRef .tc main_arg5) from (W2_args m ρ c main_arg5 (by decide)).symm]
  unfold V3 W3
  funext i
  idx_vars i
  after_reads_at
theorem found_oa (j : Fin 2048) : V3 m ρ c main_v5 (ix2 0 j) = aO m c (ix2 0 j) := by
  rw [show aO m c = W2 m ρ c (Proc.devRef .tc main_arg3) from (W2_args m ρ c main_arg3 (by decide)).symm]
  unfold V3 W3
  after_reads_at
theorem found_ob (j : Fin 2048) : V3 m ρ c main_v8 (ix2 0 j) = aO m c (ix2 1 j) := by
  rw [show aO m c = W2 m ρ c (Proc.devRef .tc main_arg3) from (W2_args m ρ c main_arg3 (by decide)).symm]
  unfold V3 W3
  after_reads_at
theorem found_p : V3 m ρ c main_v1 = first c (V1 m ρ) :=
  (W3_of m ρ c main_v1 (by decide)).trans ((W2_arr m ρ c 2).trans (array0_at c (V1 m ρ)))

/-- The merge's array at the end of the run. -/
theorem found : W4 m ρ c (Proc.devRef .tc main_v9) = result m c := by
  refine (W4_arr m ρ c 7).trans ((array1_at c (V3 m ρ)).trans ?_)
  funext i
  idx_vars i
  unfold merged result
  have eG : G1 c (V3 m ρ) = aG m c := W3_args m ρ c main_arg2 (by decide)
  have eL : L1 c (V3 m ρ) = aB m c := W3_args m ρ c main_arg1 (by decide)
  have eA : L0 c (V1 m ρ) = aA m c := W1_args m ρ c main_arg0 (by decide)
  have eP : Pa c (V3 m ρ) = first c (V1 m ρ) := found_p m ρ c
  have e0 : R0 c (V1 m ρ) = wA m c := found_w0 m ρ c
  have e1 : R1 c (V3 m ρ) = wB m c := found_w1 m ρ c
  rw [eG, eL, eP, e1]
  unfold first
  rw [eA, e0]
  exact congrArg₂ (fun x y => gate (_ + x) * _ + gate (_ + y) * _) (found_oa m ρ c i1) (found_ob m ρ c i1)

section Launch

open Idealize.ShloMosaic.Tactic Idealize.SL Idealize.SL.RA Idealize.SL.BI Idealize.SL.BI.BIBase Idealize.SL.BI.Laws
  Idealize.SL.ProofMode Idealize.ShloMosaic.Rounds
open scoped Idealize.SL.BI

/-- The assertions about the machine's state. -/
abbrev Assertion : Type _ := sProp (MT nD τ sig Unit (Elt Ideal) ℕ (UR sig nD τ) ℕ)

/-- What the pipelines start from. -/
abbrev start : UR sig nD τ := initOf (Pipeline.cells cfgs cellOf_inj) (Pipeline.launchToks cfgs cellOf_inj)

set_option backward.isDefEq.respectTransparency.types false in
/-- The run of the two regions with the stretches of host operations before each: the merge's array is what its region
    leaves, and the arguments are unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := start)
    (hu₀ := by
      iintro Hu; imodintro
      isplitl [Hu]
      · iapply (show (ownU start : Assertion) ⊢ BI.own (emb₁ start) from .rfl)
        iexact Hu
      iapply (show (BI.emp : Assertion) ⊢ bigSep Finset.univ (fun _ : Dev nD => (BI.emp : Assertion)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v9 (by decide))).trans (found m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Launch

end Cert.MergeIdeal.Val

namespace Cert.Merge

open Idealize.ShloMosaic Idealize.ShloMosaic.TcCoe Idealize.SL.Sem Cert.Product

/-- The kernel runs to the end with its arguments unchanged. -/
theorem frame_kernel : Cert.quiescent_Merge := fun m ρ _ => Cert.Merge.Gen.frame m ρ

/-- So does its ideal program. -/
theorem frame_ideal : Cert.quiescent_MergeIdeal := fun m ρ _ => Cert.MergeIdeal.Gen.frame m ρ

/-- So does the reference. -/
theorem frame_reference : Cert.quiescent_MergeRefIdeal := fun m ρ _ =>
  (θ_run _ _ _).mono (fun r h => ⟨fun c => (h c).2, sem_eq_zero_of_no_sems rfl r.2⟩) (Cert.MergeRefIdeal.Value.run m ρ)

/-- The reference's gates before the logistic function: the products and offsets added, one row per branch. -/
def sums (G : Vec Ideal Cert.MergeRefIdeal.S16896x4096 .f32) (O : Vec Ideal Cert.MergeRefIdeal.S2x2048 .f32) :
    Vec Ideal Cert.MergeRefIdeal.S16896x2x2048 .f32 :=
  addf (F := Ideal) (φ := .f32) (shapeCast _ G Cert.MergeRefIdeal.Gen.shapeCasts_S16896x4096_S16896x2x2048)
    (broadcastInDim Cert.MergeRefIdeal.S16896x2x2048 ![0, 1, 2] Cert.MergeRefIdeal.Gen.bcast_S1x2x2048_S16896x2x2048_0_1_2
      (broadcastInDim Cert.MergeRefIdeal.S1x2x2048 ![1, 2] Cert.MergeRefIdeal.Gen.bcast_S2x2048_S1x2x2048_1_2 O))

/-- They read at an element: branch `p`'s lie from column `p * 2048` on. -/
theorem sums_at (G : Vec Ideal Cert.MergeRefIdeal.S16896x4096 .f32) (O : Vec Ideal Cert.MergeRefIdeal.S2x2048 .f32)
    (a : Fin 16896) (p : Fin 2) (j : Fin 2048) : sums G O (ix3 a p j) = G (ix2 a ⟨p.val * 2048 + j.val, by omega⟩) + O (ix2 p j) := by
  unfold sums
  pointwise

/-- The gates of the two branches. -/
def gates_a (S : Vec Ideal Cert.MergeRefIdeal.S16896x2x2048 .f32) : Vec Ideal Cert.MergeRefIdeal.S16896x2048 .f32 :=
  shapeCast _ (extractStridedSlice Cert.MergeRefIdeal.S16896x1x2048 ![0, 0, 0] S Cert.MergeRefIdeal.Gen.slices_S16896x2x2048_S16896x1x2048_0_0_0)
    Cert.MergeRefIdeal.Gen.shapeCasts_S16896x1x2048_S16896x2048
def gates_b (S : Vec Ideal Cert.MergeRefIdeal.S16896x2x2048 .f32) : Vec Ideal Cert.MergeRefIdeal.S16896x2048 .f32 :=
  shapeCast _ (extractStridedSlice Cert.MergeRefIdeal.S16896x1x2048 ![0, 1, 0] S Cert.MergeRefIdeal.Gen.slices_S16896x2x2048_S16896x1x2048_0_1_0)
    Cert.MergeRefIdeal.Gen.shapeCasts_S16896x1x2048_S16896x2048

/-- They read at an element. -/
theorem gates_a_at (S : Vec Ideal Cert.MergeRefIdeal.S16896x2x2048 .f32) (a : Fin 16896) (j : Fin 2048) :
    gates_a S (ix2 a j) = S (ix3 a 0 j) := by
  unfold gates_a
  pointwise
theorem gates_b_at (S : Vec Ideal Cert.MergeRefIdeal.S16896x2x2048 .f32) (a : Fin 16896) (j : Fin 2048) :
    gates_b S (ix2 a j) = S (ix3 a 1 j) := by
  unfold gates_b
  pointwise

/-- The reference's logistic function. -/
def logistic (D : Vec Ideal Cert.MergeRefIdeal.S16896x2048 .f32) : Vec Ideal Cert.MergeRefIdeal.S16896x2048 .f32 :=
  Host.divf (F := Ideal) (φ := .f32) (broadcastInDim Cert.MergeRefIdeal.S16896x2048 ![] Cert.MergeRefIdeal.Gen.bcast_S_S16896x2048 (constant Cert.MergeRefIdeal.S_ .f32 0x3F800000#32))
    (addf (broadcastInDim Cert.MergeRefIdeal.S16896x2048 ![] Cert.MergeRefIdeal.Gen.bcast_S_S16896x2048 (constant Cert.MergeRefIdeal.S_ .f32 0x3F800000#32))
      (Host.exp (Host.negf D)))

/-- It is the kernel's gate. -/
theorem logistic_at (D : Vec Ideal Cert.MergeRefIdeal.S16896x2048 .f32) (a : Fin 16896) (j : Fin 2048) :
    logistic D (ix2 a j) = Cert.MergeIdeal.Val.gate (D (ix2 a j)) := by
  unfold logistic Cert.MergeIdeal.Val.gate
  pointwise

/-- A branch of the reference: its gates times its product. -/
def branch (D : Vec Ideal Cert.MergeRefIdeal.S16896x2048 .f32) (L : Vec Ideal Cert.MergeRefIdeal.S16896x1024 .bf16)
    (W : Vec Ideal Cert.MergeRefIdeal.S1024x2048 .f32) : Vec Ideal Cert.MergeRefIdeal.S16896x2048 .f32 :=
  mulf (F := Ideal) (φ := .f32) (logistic D)
    (Host.dotGeneral (φ₁ := .f32) (φ₂ := .f32) Cert.MergeRefIdeal.dot_S16896x1024_S1024x2048_S16896x2048_1_0_0_1_n_n none (extf .f32 L Cert.MergeRefIdeal.Gen.bitsLt_bf16_f32) W)

/-- It read at an element. -/
theorem branch_at (D : Vec Ideal Cert.MergeRefIdeal.S16896x2048 .f32) (L : Vec Ideal Cert.MergeRefIdeal.S16896x1024 .bf16)
    (W : Vec Ideal Cert.MergeRefIdeal.S1024x2048 .f32) (a : Fin 16896) (j : Fin 2048) :
    branch D L W (ix2 a j) = Cert.MergeIdeal.Val.gate (D (ix2 a j)) * mul L W a j := by
  rw [← logistic_at]
  unfold branch mul
  pointwise

/-- The kernel's result is the reference's. -/
theorem algebraic : Cert.algebraic_MergeIdeal_MergeRefIdeal := by
  intro m g m' g' _ hagree
  refine ⟨fun c => Cert.MergeIdeal.Val.result m c, Cert.MergeIdeal.Val.run m g, ?_⟩
  refine (θ_run _ _ _).mono (fun r h c => ⟨(h c).1.trans ?_, (h c).2⟩) (Cert.MergeRefIdeal.Value.run m' g')
  obtain ⟨a0, a1, a2, a3, a4, a5⟩ := hagree c
  rw [a0, a1, a2, a3, a4, a5]
  funext i
  idx_vars i
  let S := sums (Cert.MergeIdeal.Val.aG m c) (Cert.MergeIdeal.Val.aO m c)
  refine (congrArg₂ (fun x y : EReal => x + y)
    (branch_at (gates_a S) (Cert.MergeIdeal.Val.aA m c) (Cert.MergeIdeal.Val.wA m c) i0 i1)
    (branch_at (gates_b S) (Cert.MergeIdeal.Val.aB m c) (Cert.MergeIdeal.Val.wB m c) i0 i1)).trans ?_
  rw [gates_a_at, gates_b_at]
  unfold S
  rw [sums_at, sums_at]
  unfold Cert.MergeIdeal.Val.result
  refine congrArg₂ (fun x y => Cert.MergeIdeal.Val.gate (Cert.MergeIdeal.Val.aG m c (ix2 i0 x) + _) * _
    + Cert.MergeIdeal.Val.gate (Cert.MergeIdeal.Val.aG m c (ix2 i0 y) + _) * _) (Fin.ext ?_) (Fin.ext ?_)
  · change 0 * 2048 + i1.val = i1.val
    omega
  · change 1 * 2048 + i1.val = 2048 + i1.val
    omega

end Cert.Merge

end
-- ==== Proof.Out.lean ====
/- The output of the token mixing: the residual and the merged branches times the output weights, gated. -/
module

public import proofs.«01_k».proof.Defs
public import proofs.«01_k».proof.Proof.Product
public import proofs.«01_k».proof.Proof.Gen.Out.Frame
public import proofs.«01_k».proof.Proof.Gen.OutIdeal.Value
public import proofs.«01_k».proof.Proof.Gen.OutRefIdeal.Run
public import Idealize.ShloMosaic.Lib.Pipeline.ValueKit
public import Idealize.ShloMosaic.Lib.Quiescent

@[expose] public section

set_option maxRecDepth 16384

noncomputable section

namespace Cert.OutIdeal.Val

open Cert.OutIdeal Cert.OutIdeal.Gen Idealize.ShloMosaic Idealize.ShloMosaic.TcCoe Idealize.SL.Sem Cert.Product

variable (m : (ℓ : Loc nD τ sig) → Buf (Elt Ideal) ℓ) (c : Dev nD)

/-- The row of the modulations that holds the gate of row `a`: a latent row takes its batch row's, a context row the third. -/
def gateRow (a : ℕ) : ℕ := if a % 8448 < 8192 then a / 8448 * 6 + 2 else 14

/-- The block that each window is at, at point `t`: row tile `t % 66` of the left factor, the residual and the result, column
    tile `t / 66` of the right factor, the residual, the gates and the result. -/
theorem index0 : ∀ t : Fin cfg0.N,
    ((cfg0.win 0).index t 0 = t.val % 66 ∧ (cfg0.win 0).index t 1 = 0)
    ∧ ((cfg0.win 1).index t 0 = 0 ∧ (cfg0.win 1).index t 1 = t.val / 66)
    ∧ ((cfg0.win 2).index t 0 = t.val % 66 ∧ (cfg0.win 2).index t 1 = t.val / 66)
    ∧ ((cfg0.win 3).index t 0 = (if t.val % 66 % 33 = 32 then 14 else t.val % 66 / 33 * 6 + 2) ∧ (cfg0.win 3).index t 1 = 0
      ∧ (cfg0.win 3).index t 2 = t.val / 66)
    ∧ ((cfg0.win 4).index t 0 = t.val % 66 ∧ (cfg0.win 4).index t 1 = t.val / 66) := by
  decide +kernel

/-- The left factor, an argument, and the right one, the weights as the products find them. -/
abbrev aL : Vec Ideal S16896x2048 .bf16 := m ((c.tc : Thread nD τ).loc main_arg0)
abbrev aR : Vec Ideal S2048x2048 .f32 := m ((c.tc : Thread nD τ).loc main_arg1)

/-- The residual and the modulations, arguments. -/
abbrev aX : Vec Ideal S16896x2048 .f32 := m ((c.tc : Thread nD τ).loc main_arg2)
abbrev aM : Vec Ideal S18x1x2048 .f32 := m ((c.tc : Thread nD τ).loc main_arg3)

/-- A row's gate is one of the 18 rows of modulations. -/
theorem gateRow_lt {a : ℕ} (h : a < 16896) : gateRow a < 18 := by
  unfold gateRow; split <;> omega

/-- All rows of a tile have the gate of its block. -/
theorem gateRow_tile {a t r : ℕ} (hr : r < 256) (ha : a = t % 66 * 256 + r) :
    gateRow a = if t % 66 % 33 = 32 then 14 else t % 66 / 33 * 6 + 2 := by
  unfold gateRow; split <;> split <;> omega

/-- The region finds the right factor's array at these weights. -/
theorem right_eq : V m c main_v0 = aR m c := by
  unfold V
  after_results
  funext i
  idx_vars i
  pointwise

/-- The residual and the gated product, entry by entry. -/
def result : Vec Ideal S16896x2048 .f32 := fun i =>
  aX m c i + aM m c (ix3 ⟨gateRow (i 0).val, gateRow_lt (i 0).isLt⟩ 0 (i 1)) * mul (aL m c) (aR m c) (i 0) (i 1)

/-- The body's value at a point: the residual's block and the gated product of the two factors' blocks. -/
theorem pay_at (x : Vec Ideal S256x2048 .bf16) (y : Vec Ideal S2048x1024 .bf16) (z : Vec Ideal S256x1024 .f32) (g : Vec Ideal S1x1x1024 .f32)
    (r : Fin 256) (j : Fin 1024) : k0_pay1 x y z g (ix2 r j) = z (ix2 r j) + g (ix3 0 0 j) * mul x y r j := by
  unfold mul
  pointwise [k0_pay1]

/-- The left block at a point is a tile of rows of the left factor. -/
theorem left_at (t : Fin cfg0.N) (r : Fin 256) (k : Fin 2048) {a : Fin 16896} (ha : a.val = t.val % 66 * 256 + r.val) :
    iblk m c 0 t (ix2 r k) = aL m c (ix2 a k) := by
  obtain ⟨⟨e0, e1⟩, -⟩ := index0 t
  blk_ext [iblk, V, e0, e1, ha]

/-- The right block at a point is a tile of columns of the right factor. -/
theorem right_at (t : Fin cfg0.N) (k : Fin 2048) (j : Fin 1024) {b : Fin 2048} (hb : b.val = t.val / 66 * 1024 + j.val) :
    iblk m c 1 t (ix2 k j) = aR m c (ix2 k b) := by
  obtain ⟨-, ⟨e0, e1⟩, -⟩ := index0 t
  rw [← right_eq m c]
  blk_ext [iblk, e0, e1, hb]

/-- The residual's block at a point is a tile of the residual. -/
theorem resid_at (t : Fin cfg0.N) (r : Fin 256) (j : Fin 1024) {a : Fin 16896} {b : Fin 2048} (ha : a.val = t.val % 66 * 256 + r.val)
    (hb : b.val = t.val / 66 * 1024 + j.val) : iblk m c 2 t (ix2 r j) = aX m c (ix2 a b) := by
  obtain ⟨-, -, ⟨e0, e1⟩, -⟩ := index0 t
  blk_ext [iblk, V, e0, e1, ha, hb]

/-- The gates' block at a point is a tile of the gate of the point's rows. -/
theorem gate_at (t : Fin cfg0.N) (r : Fin 256) (j : Fin 1024) {a : Fin 16896} {b : Fin 2048} (ha : a.val = t.val % 66 * 256 + r.val)
    (hb : b.val = t.val / 66 * 1024 + j.val) :
    iblk m c 3 t (ix3 0 0 j) = aM m c (ix3 ⟨gateRow a.val, gateRow_lt a.isLt⟩ 0 b) := by
  obtain ⟨-, -, -, ⟨e0, e1, e2⟩, -⟩ := index0 t
  rw [← gateRow_tile r.isLt ha] at e0
  blk_ext [iblk, V, e0, e1, e2, hb]

/-- THE BLOCK: what a point writes is a rectangle of the result. -/
theorem block_at (t : Fin cfg0.N) (y : S256x1024.Idx) (i : S16896x2048.Idx)
    (h0 : (i 0).val = t.val % 66 * 256 + (y 0).val) (h1 : (i 1).val = t.val / 66 * 1024 + (y 1).val) :
    out0_4 (iblk m c 0 t) (iblk m c 1 t) (iblk m c 2 t) (iblk m c 3 t) y = result m c i := by
  idx_vars y
  idx_vars i
  unfold out0_4
  frame_out
  rw [pay_at, resid_at m c t _ _ h0 h1, gate_at m c t _ _ h0 h1]
  exact congrArg (_ + _ * ·) (mul_eq (fun k => left_at m c t _ k h0) fun k => right_at m c t k _ h1)

/-- The output array after the run: the residual and the gated product. -/
theorem array_at : (dats m 0 c).arrAt 4 cfg0.N = result m c := by
  have h : (dats m 0 c).arrAt 4 cfg0.N = fun i => if (i 1).val / 1024 < 2 then result m c i else (dats m 0 c).A 4 i := by
    refine (dats m 0 c).arrAt_eq_of_coversWhere 4 _ (fun β => β 1 < 2) (by decide +kernel) (fun t _ y => ?_) (fun j => Iff.rfl)
    blk_simp
    rw [after0_4]
    obtain ⟨-, -, -, -, e0, e1⟩ := index0 t
    exact block_at m c t _ _ (((cfg0.win 4).rect_emb_val t y 0).trans (by rw [e0]; rfl))
      (((cfg0.win 4).rect_emb_val t y 1).trans (by rw [e1]; rfl))
  rw [h]
  funext i
  exact if_pos (by have := (i 1).isLt; change (i 1).val < 2048 at this; omega)

end Cert.OutIdeal.Val

namespace Cert.Out

open Idealize.ShloMosaic Idealize.SL.Sem

/-- The kernel runs, ends quiescent and leaves its arguments. -/
theorem frame_kernel : Cert.quiescent_Out := fun m ρ _ => Cert.Out.Gen.frame m ρ

/-- The same of its idealization. -/
theorem frame_ideal : Cert.quiescent_OutIdeal := fun m ρ _ => Cert.OutIdeal.Gen.frame m ρ

/-- The reference runs, has no semaphore to leave set, and leaves its arguments. -/
theorem frame_reference : Cert.quiescent_OutRefIdeal := fun m ρ _ =>
  (θ_run _ _ _).mono (fun r h => ⟨fun c => (h c).2, sem_eq_zero_of_no_sems rfl r.2⟩) (Cert.OutRefIdeal.Value.run m ρ)

/-- The gate of row `s` of batch row `b` in the reference: rows below 8192 take the batch row's, the others the third. -/
def gates (M : Vec Ideal Cert.OutRefIdeal.S18x1x2048 .f32) : Vec Ideal Cert.OutRefIdeal.S2x8448x2048 .f32 :=
  concatenate Cert.OutRefIdeal.S2x8448x2048 1 [⟨Cert.OutRefIdeal.S2x8192x2048, (broadcastInDim Cert.OutRefIdeal.S2x8192x2048 ![0, 1, 2] Cert.OutRefIdeal.Gen.bcast_S2x1x2048_S2x8192x2048_0_1_2 (broadcastInDim Cert.OutRefIdeal.S2x1x2048 ![0, 2] Cert.OutRefIdeal.Gen.bcast_S2x2048_S2x1x2048_0_2 (extractStridedSlice Cert.OutRefIdeal.S2x2048 ![0, 0] (shapeCast _ (extractStridedSlice Cert.OutRefIdeal.S3x1x2048 ![0, 2, 0] (shapeCast _ M Cert.OutRefIdeal.Gen.shapeCasts_S18x1x2048_S3x6x2048) Cert.OutRefIdeal.Gen.slices_S3x6x2048_S3x1x2048_0_2_0) Cert.OutRefIdeal.Gen.shapeCasts_S3x1x2048_S3x2048) Cert.OutRefIdeal.Gen.slices_S3x2048_S2x2048_0_0)))⟩, ⟨Cert.OutRefIdeal.S2x256x2048, (broadcastInDim Cert.OutRefIdeal.S2x256x2048 ![2] Cert.OutRefIdeal.Gen.bcast_S2048_S2x256x2048_2 (shapeCast _ (extractStridedSlice Cert.OutRefIdeal.S1x2048 ![2, 0] (shapeCast _ (extractStridedSlice Cert.OutRefIdeal.S3x1x2048 ![0, 2, 0] (shapeCast _ M Cert.OutRefIdeal.Gen.shapeCasts_S18x1x2048_S3x6x2048) Cert.OutRefIdeal.Gen.slices_S3x6x2048_S3x1x2048_0_2_0) Cert.OutRefIdeal.Gen.shapeCasts_S3x1x2048_S3x2048) Cert.OutRefIdeal.Gen.slices_S3x2048_S1x2048_2_0) Cert.OutRefIdeal.Gen.shapeCasts_S1x2048_S2048))⟩] Cert.OutRefIdeal.Gen.concatenates_S2x8192x2048_S2x256x2048_S2x8448x2048_d1

/-- Those gates, read at an element. -/
theorem gates_at (M : Vec Ideal Cert.OutRefIdeal.S18x1x2048 .f32) (b : Fin 2) (s : Fin 8448) (j : Fin 2048) :
    gates M (ix3 b s j) = M (ix3 ⟨if s.val < 8192 then b.val * 6 + 2 else 14, by split <;> omega⟩ 0 j) := by
  unfold gates
  pointwise
  by_cases h : s.val < 8192
  · rw [dif_pos h]
    exact congrArg (fun r => M (ix3 r 0 j)) (Fin.ext (if_pos h).symm)
  · rw [dif_neg h]
    exact congrArg (fun r => M (ix3 r 0 j)) (Fin.ext (if_neg h).symm)

/-- The reference's result from the product `P`, the residual `X` and the gates `G`. -/
def joined (P X : Vec Ideal Cert.OutRefIdeal.S16896x2048 .f32) (G : Vec Ideal Cert.OutRefIdeal.S2x8448x2048 .f32) :
    Vec Ideal Cert.OutRefIdeal.S16896x2048 .f32 :=
  shapeCast _ (addf (F := Ideal) (φ := .f32) (shapeCast Cert.OutRefIdeal.S2x8448x2048 X Cert.OutRefIdeal.Gen.shapeCasts_S16896x2048_S2x8448x2048)
    (mulf G (shapeCast Cert.OutRefIdeal.S2x8448x2048 P Cert.OutRefIdeal.Gen.shapeCasts_S16896x2048_S2x8448x2048)))
    Cert.OutRefIdeal.Gen.shapeCasts_S2x8448x2048_S16896x2048

/-- It read at an element. -/
theorem joined_at (P X : Vec Ideal Cert.OutRefIdeal.S16896x2048 .f32) (G : Vec Ideal Cert.OutRefIdeal.S2x8448x2048 .f32)
    (a : Fin 16896) (j : Fin 2048) :
    joined P X G (ix2 a j) = X (ix2 a j) + G (ix3 ⟨a.val / 8448, by omega⟩ ⟨a.val % 8448, by omega⟩ j) * P (ix2 a j) := by
  unfold joined
  pointwise

/-- The kernel's result is the reference's. -/
theorem algebraic : Cert.algebraic_OutIdeal_OutRefIdeal := by
  intro m g m' g' _ hagree
  refine ⟨fun c => Cert.OutIdeal.Val.result m c,
    (θ_run _ _ _).mono (fun r h c => ⟨(h c).1.trans (Cert.OutIdeal.Val.array_at m c), (h c).2⟩) (Cert.OutIdeal.Value.run_blocks m g), ?_⟩
  refine (θ_run _ _ _).mono (fun r h c => ⟨(h c).1.trans ?_, (h c).2⟩) (Cert.OutRefIdeal.Value.run m' g')
  obtain ⟨a0, a1, a2, a3⟩ := hagree c
  rw [a0, a1, a2, a3]
  funext i
  idx_vars i
  refine (joined_at _ _ (gates _) i0 i1).trans ?_
  rw [gates_at]
  refine congrArg₂ (· + ·) rfl (congrArg₂ (· * ·) ?_ ?_)
  · refine congrArg (fun r => Cert.OutIdeal.Val.aM m c (ix3 r 0 i1)) (Fin.ext ?_)
    rfl
  · pointwise
    rfl

end Cert.Out

end
-- ==== Proof.Query.lean ====
/- The queries of the retrieval layer: the token rows times the query weights. -/
module

public import proofs.«01_k».proof.Defs
public import proofs.«01_k».proof.Proof.Product
public import proofs.«01_k».proof.Proof.Gen.Query.Frame
public import proofs.«01_k».proof.Proof.Gen.QueryIdeal.Value
public import proofs.«01_k».proof.Proof.Gen.QueryRefIdeal.Run
public import Idealize.ShloMosaic.Lib.Pipeline.ValueKit
public import Idealize.ShloMosaic.Lib.Quiescent

@[expose] public section

set_option maxRecDepth 16384

noncomputable section

namespace Cert.QueryIdeal.Val

open Cert.QueryIdeal Cert.QueryIdeal.Gen Idealize.ShloMosaic Idealize.ShloMosaic.TcCoe Idealize.SL.Sem Cert.Product

variable (m : (ℓ : Loc nD τ sig) → Buf (Elt Ideal) ℓ) (c : Dev nD)

/-- The block that each window is at, at point `t`: row tile `t % 66` of the left factor and the result, column tile
    `t / 66` of the right factor and the result. -/
theorem index0 : ∀ t : Fin cfg0.N,
    ((cfg0.win 0).index t 0 = t.val % 66 ∧ (cfg0.win 0).index t 1 = 0)
    ∧ ((cfg0.win 1).index t 0 = 0 ∧ (cfg0.win 1).index t 1 = t.val / 66)
    ∧ ((cfg0.win 2).index t 0 = t.val % 66 ∧ (cfg0.win 2).index t 1 = t.val / 66) := by
  decide +kernel

/-- The left factor, an argument, and the right one, the weights as the products find them. -/
abbrev aL : Vec Ideal S16896x2048 .bf16 := m ((c.tc : Thread nD τ).loc main_arg0)
abbrev aR : Vec Ideal S2048x2048 .f32 := m ((c.tc : Thread nD τ).loc main_arg1)

/-- The region finds the right factor's array at these weights. -/
theorem right_eq : V m c main_v0 = aR m c := by
  unfold V
  after_results
  funext i
  idx_vars i
  pointwise

/-- The product, entry by entry. -/
def result : Vec Ideal S16896x2048 .f32 := fun i => mul (aL m c) (aR m c) (i 0) (i 1)

/-- The body's value at a point: the product of its two blocks. -/
theorem pay_at (x : Vec Ideal S256x2048 .bf16) (y : Vec Ideal S2048x1024 .bf16) (r : Fin 256) (j : Fin 1024) :
    k0_pay1 x y (ix2 r j) = mul x y r j := by
  unfold mul
  pointwise [k0_pay1]

/-- The left block at a point is a tile of rows of the left factor. -/
theorem left_at (t : Fin cfg0.N) (r : Fin 256) (k : Fin 2048) {a : Fin 16896} (ha : a.val = t.val % 66 * 256 + r.val) :
    iblk m c 0 t (ix2 r k) = aL m c (ix2 a k) := by
  obtain ⟨⟨e0, e1⟩, -⟩ := index0 t
  blk_ext [iblk, V, e0, e1, ha]

/-- The right block at a point is a tile of columns of the right factor. -/
theorem right_at (t : Fin cfg0.N) (k : Fin 2048) (j : Fin 1024) {b : Fin 2048} (hb : b.val = t.val / 66 * 1024 + j.val) :
    iblk m c 1 t (ix2 k j) = aR m c (ix2 k b) := by
  obtain ⟨-, ⟨e0, e1⟩, -⟩ := index0 t
  rw [← right_eq m c]
  blk_ext [iblk, e0, e1, hb]

/-- THE BLOCK: what a point writes is a rectangle of the product. -/
theorem block_at (t : Fin cfg0.N) (y : S256x1024.Idx) (i : S16896x2048.Idx)
    (h0 : (i 0).val = t.val % 66 * 256 + (y 0).val) (h1 : (i 1).val = t.val / 66 * 1024 + (y 1).val) :
    out0_2 (iblk m c 0 t) (iblk m c 1 t) y = result m c i := by
  idx_vars y
  idx_vars i
  unfold out0_2
  frame_out
  rw [pay_at]
  exact mul_eq (fun k => left_at m c t _ k h0) fun k => right_at m c t k _ h1

/-- The output array after the run: the product. -/
theorem array_at : (dats m 0 c).arrAt 2 cfg0.N = result m c := by
  have h : (dats m 0 c).arrAt 2 cfg0.N = fun i => if (i 1).val / 1024 < 2 then result m c i else (dats m 0 c).A 2 i := by
    refine (dats m 0 c).arrAt_eq_of_coversWhere 2 _ (fun β => β 1 < 2) (by decide +kernel) (fun t _ y => ?_) (fun j => Iff.rfl)
    blk_simp
    rw [after0_2]
    obtain ⟨-, -, e0, e1⟩ := index0 t
    exact block_at m c t _ _ (((cfg0.win 2).rect_emb_val t y 0).trans (by rw [e0]; rfl))
      (((cfg0.win 2).rect_emb_val t y 1).trans (by rw [e1]; rfl))
  rw [h]
  funext i
  exact if_pos (by have := (i 1).isLt; change (i 1).val < 2048 at this; omega)

end Cert.QueryIdeal.Val

namespace Cert.Query

open Idealize.ShloMosaic Idealize.SL.Sem

/-- The kernel runs, ends quiescent and leaves its arguments. -/
theorem frame_kernel : Cert.quiescent_Query := fun m ρ _ => Cert.Query.Gen.frame m ρ

/-- The same of its idealization. -/
theorem frame_ideal : Cert.quiescent_QueryIdeal := fun m ρ _ => Cert.QueryIdeal.Gen.frame m ρ

/-- The reference runs, has no semaphore to leave set, and leaves its arguments. -/
theorem frame_reference : Cert.quiescent_QueryRefIdeal := fun m ρ _ =>
  (θ_run _ _ _).mono (fun r h => ⟨fun c => (h c).2, sem_eq_zero_of_no_sems rfl r.2⟩) (Cert.QueryRefIdeal.Value.run m ρ)

/-- The kernel's result is the reference's. -/
theorem algebraic : Cert.algebraic_QueryIdeal_QueryRefIdeal := by
  intro m g m' g' _ hagree
  refine ⟨fun c => Cert.QueryIdeal.Val.result m c,
    (θ_run _ _ _).mono (fun r h c => ⟨(h c).1.trans (Cert.QueryIdeal.Val.array_at m c), (h c).2⟩) (Cert.QueryIdeal.Value.run_blocks m g), ?_⟩
  refine (θ_run _ _ _).mono (fun r h c => ⟨(h c).1.trans ?_, (h c).2⟩) (Cert.QueryRefIdeal.Value.run m' g')
  obtain ⟨a0, a1⟩ := hagree c
  rw [a0, a1]
  funext i
  idx_vars i
  pointwise
  rfl

end Cert.Query

end
-- ==== Proof.HeadsSpec.lean ====
/- What the preparation of the latent attention computes, entry by entry, in plain terms: the rows' products with the
   weights, the normed latents, the heads' products, and the rotation of the rotary lanes. -/
module

public import Idealize.ShloMosaic.Lib.Pointwise
public import Idealize.ShloMosaic.PureOps.Ideal

@[expose] public section

noncomputable section

namespace Cert.HeadsSpec

open Idealize.ShloMosaic

/-! ## Real numbers among the extended ones -/

/-- An extended real that is a real number. -/
def IsReal (x : EReal) : Prop := ∃ r : ℝ, x = (r : EReal)

theorem real_of_ne {x : EReal} (ht : x ≠ ⊤) (hb : x ≠ ⊥) : IsReal x := ⟨x.toReal, (EReal.coe_toReal ht hb).symm⟩

theorem IsReal.mul {x y : EReal} : IsReal x → IsReal y → IsReal (x * y) := by
  rintro ⟨a, rfl⟩ ⟨b, rfl⟩
  exact ⟨a * b, (EReal.coe_mul a b).symm⟩

/-- A finite sum of real numbers is the sum taken among the real numbers. -/
theorem sum_coe {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem IsReal.sum {n : ℕ} {f : Fin n → EReal} (h : ∀ k, IsReal (f k)) : IsReal (∑ k, f k) := by
  choose g hg using h
  exact ⟨∑ k, g k, by rw [← sum_coe]; exact Finset.sum_congr rfl fun k _ => hg k⟩

/-- A sum of products with the signs of one factor changed, where the products are real numbers. -/
theorem sum_mul_neg {n : ℕ} {x y : Fin n → EReal} (hx : ∀ k, IsReal (x k)) (hy : ∀ k, IsReal (y k)) :
    ∑ k, x k * -y k = -∑ k, x k * y k := by
  choose f hf using hx
  choose g hg using hy
  have e : ∑ k, x k * y k = ((∑ k, f k * g k : ℝ) : EReal) := by
    rw [← sum_coe]
    exact Finset.sum_congr rfl fun k _ => by rw [hf, hg, EReal.coe_mul]
  rw [e, ← EReal.coe_neg, ← Finset.sum_neg_distrib, ← sum_coe]
  exact Finset.sum_congr rfl fun k _ => by rw [hf, hg, ← EReal.coe_neg, ← EReal.coe_mul, mul_neg]

/-! ## The norm -/

/-- The root mean square norm's row: each entry times the inverse root of the row's mean square, times its weight. -/
def normed {n : ℕ} (count : EReal) (x g : Fin n → EReal) (k : Fin n) : EReal :=
  x k * Ideal.rsqrt (Ideal.div (∑ j, x j * x j) count + Ideal.ofBits .f32 0x358637BD#32) * g k

/-- How many entries a row of the queries' latents has, and one of the keys' and values'. -/
abbrev nq : EReal := Ideal.ofBits .f32 0x44000000#32
abbrev nkv : EReal := Ideal.ofBits .f32 0x43800000#32

/-- The factor of the queries. -/
abbrev scale : EReal := Ideal.ofBits .f32 0x3DD105EC#32

/-- The number of the queries' latents, and the number under the root: positive real numbers. -/
theorem nq_real : ∃ r : ℝ, 0 < r ∧ nq = (r : EReal) :=
  ⟨8388608 * 2 ^ (-14 : ℤ), by positivity, by simp [Ideal.ofBits, Ideal.ieee]⟩
theorem eps_real : ∃ r : ℝ, 0 < r ∧ Ideal.ofBits .f32 0x358637BD#32 = (r : EReal) :=
  ⟨8796093 * 2 ^ (-43 : ℤ), by positivity, by simp [Ideal.ofBits, Ideal.ieee]⟩

/-- A normed row of real numbers, with real weights, has real entries: the number under the root is positive. -/
theorem normed_real {n : ℕ} {x g : Fin n → EReal} (hx : ∀ k, IsReal (x k)) (hg : ∀ k, IsReal (g k)) (k : Fin n) :
    IsReal (normed nq x g k) := by
  obtain ⟨N, hN, eN⟩ := nq_real
  obtain ⟨e, he, ee⟩ := eps_real
  refine IsReal.mul (IsReal.mul (hx k) ?_) (hg k)
  choose f hf using hx
  have hs : ∑ j, x j * x j = ((∑ j, f j * f j : ℝ) : EReal) := by
    rw [← sum_coe]
    exact Finset.sum_congr rfl fun j _ => by rw [hf, EReal.coe_mul]
  have h0 : 0 ≤ ∑ j, f j * f j := Finset.sum_nonneg fun j _ => mul_self_nonneg _
  have hp : 0 < (∑ j, f j * f j) * N⁻¹ + e := add_pos_of_nonneg_of_pos (mul_nonneg h0 (inv_nonneg.mpr hN.le)) he
  have hN0 : (N : EReal) ≠ 0 := fun h => hN.ne' (EReal.coe_eq_zero.mp h)
  rw [hs, eN, ee, Ideal.div, if_neg hN0, ← EReal.coe_inv, ← EReal.coe_mul, ← EReal.coe_add, Ideal.rsqrt_coe, if_neg hp.not_gt,
    if_neg hp.ne']
  exact ⟨_, rfl⟩

/-! ## The entries of a matrix, by numbers -/

/-- Entry `(a, b)` of a matrix, zero outside it. -/
def entry {M N : ℕ} (W : (⟨2, ![M, N]⟩ : Shape).Idx → EReal) (a b : ℕ) : EReal :=
  if h : a < M ∧ b < N then W (ix2 ⟨a, h.1⟩ ⟨b, h.2⟩) else 0

theorem entry_eq {M N : ℕ} (W : (⟨2, ![M, N]⟩ : Shape).Idx → EReal) {a b : ℕ} (i : Fin M) (j : Fin N) (hi : i.val = a) (hj : j.val = b) :
    W (ix2 i j) = entry W a b := by
  subst hi hj
  unfold entry
  rw [dif_pos ⟨i.isLt, j.isLt⟩]

theorem entry_real {M N : ℕ} {W : (⟨2, ![M, N]⟩ : Shape).Idx → EReal} (h : ∀ i, IsReal (W i)) (a b : ℕ) : IsReal (entry W a b) := by
  unfold entry
  split
  · exact h _
  · exact ⟨0, rfl⟩

/-! ## The preparation -/

variable (H : (⟨2, ![16896, 2048]⟩ : Shape).Idx → EReal) (W : (⟨2, ![2048, 8288]⟩ : Shape).Idx → EReal)
  (C S : (⟨2, ![8192, 16]⟩ : Shape).Idx → EReal) (gQ : Fin 512 → EReal) (gK : Fin 256 → EReal)
  (UQ : (⟨2, ![512, 1536]⟩ : Shape).Idx → EReal) (UK : (⟨2, ![256, 2048]⟩ : Shape).Idx → EReal)

/-- Entry `n` of row `a`'s product with the attention's columns of the weights. -/
def proj (a : Fin 16896) (n : ℕ) : EReal := ∑ k : Fin 2048, H (ix2 a k) * entry W k.val (3392 + n)

/-- The normed latents of the queries, and of the keys and values. -/
def latQ (a : Fin 16896) (k : Fin 512) : EReal := normed nq (fun j : Fin 512 => proj H W a j.val) gQ k
def latK (a : Fin 16896) (k : Fin 256) : EReal := normed nkv (fun j : Fin 256 => proj H W a (512 + j.val)) gK k

/-- Column `n` of their products with the heads' weights. -/
def colQ (a : Fin 16896) (n : ℕ) : EReal := ∑ k : Fin 512, latQ H W gQ a k * entry UQ k.val n
def colK (a : Fin 16896) (n : ℕ) : EReal := ∑ k : Fin 256, latK H W gK a k * entry UK k.val n

/-- Lane `l` of 32 rotary lanes `x` at row `r` of a batch row: its halves rotated by the row's angles. The rows of the
    context, after the first 8192, are not rotated. -/
def rot (x : ℕ → EReal) (r l : ℕ) : EReal :=
  if r < 8192 then
    if l < 16 then x l * entry C r l - x (l + 16) * entry S r l
    else x (l - 16) * entry S r (l - 16) + x l * entry C r (l - 16)
  else x l

/-- Lane `l` of head `h`: 64 plain lanes, 32 rotary ones, 32 of padding. -/
def query (a : Fin 16896) (h l : ℕ) : EReal :=
  if l < 64 then colQ H W gQ UQ a (96 * h + l) * scale
  else if l < 96 then rot C S (fun n => colQ H W gQ UQ a (96 * h + 64 + n)) (a.val % 8448) (l - 64) * scale
  else 0
def key (a : Fin 16896) (h l : ℕ) : EReal :=
  if l < 64 then colK H W gK UK a (128 * h + l)
  else if l < 96 then rot C S (fun n => proj H W a (768 + n)) (a.val % 8448) (l - 64)
  else 0

end Cert.HeadsSpec

end
-- ==== Proof.HeadsTiles.lean ====
/- The two calls that prepare the latent attention, tile by tile: the rows' product with their weights, then the normed
   latents, their products with the heads' weights, and the rotation by the tables. -/
module

public import proofs.«01_k».proof.Defs
public import proofs.«01_k».proof.Proof.Product
public import proofs.«01_k».proof.Proof.HeadsSpec
public import proofs.«01_k».proof.Proof.Gen.HeadsIdeal.Frame
public import Idealize.ShloMosaic.Lib.Pipeline.ValueKit
public import Idealize.ShloMosaic.Lib.StableHlo.ReadAt

@[expose] public section

set_option maxRecDepth 16384

noncomputable section

namespace Cert.HeadsIdeal.Val

open Cert.HeadsIdeal Cert.HeadsIdeal.Gen Idealize.ShloMosaic Idealize.ShloMosaic.TcCoe Idealize.SL.Sem Cert.Product
  Cert.HeadsSpec

variable (c : Dev nD)
variable (V : (c : Dev nD) → (b : Ref sig .tc) → Buf (Elt Ideal) ((c : Thread nD τ).loc b))

/-! ## The rows' product with the weights -/

/-- The block that each window of the product is at, at point `t`. -/
theorem index0 : ∀ t : Fin cfg0.N,
    ((cfg0.win 0).index t 0 = t.val ∧ (cfg0.win 0).index t 1 = 0)
    ∧ ((cfg0.win 1).index t 0 = 0 ∧ (cfg0.win 1).index t 1 = 0)
    ∧ ((cfg0.win 2).index t 0 = t.val ∧ (cfg0.win 2).index t 1 = 0) := by
  decide +kernel

/-- The factors of the product, as its region finds them. -/
abbrev L0 : Vec Ideal S16896x2048 .bf16 := V c main_arg0
abbrev R0 : Vec Ideal S2048x1024 .bf16 := V c main_v9

/-- The product, entry by entry. -/
def rows : Vec Ideal S16896x1024 .f32 := fun i => mul (L0 c V) (R0 c V) (i 0) (i 1)

/-- The body's value at a point: the product of its two blocks. -/
theorem pay0_at (x : Vec Ideal S256x2048 .bf16) (y : Vec Ideal S2048x1024 .bf16) (r : Fin 256) (j : Fin 1024) :
    k0_pay1 x y (ix2 r j) = mul x y r j := by
  unfold mul
  pointwise [k0_pay1]

/-- The blocks at a point are a tile of rows of the left factor, and the right factor. -/
theorem left0_at (t : Fin cfg0.N) (r : Fin 256) (k : Fin 2048) {a : Fin 16896} (ha : a.val = t.val * 256 + r.val) :
    iblk0 V c 0 t (ix2 r k) = L0 c V (ix2 a k) := by
  obtain ⟨⟨e0, e1⟩, -⟩ := index0 t
  blk_ext [iblk0, e0, e1, ha]
theorem right0_at (t : Fin cfg0.N) (k : Fin 2048) (j : Fin 1024) : iblk0 V c 1 t (ix2 k j) = R0 c V (ix2 k j) := by
  obtain ⟨-, ⟨e0, e1⟩, -⟩ := index0 t
  blk_ext [iblk0, e0, e1]

/-- What a point writes is a tile of rows of the product. -/
theorem block0_at (t : Fin cfg0.N) (y : S256x1024.Idx) (i : S16896x1024.Idx)
    (h0 : (i 0).val = t.val * 256 + (y 0).val) (h1 : (i 1).val = 0 * 1024 + (y 1).val) :
    out0_2 (iblk0 V c 0 t) (iblk0 V c 1 t) y = rows c V i := by
  idx_vars y
  idx_vars i
  change i1.val = 0 * 1024 + y1.val at h1
  obtain rfl : i1 = y1 := Fin.ext (by omega)
  unfold out0_2
  frame_out
  rw [pay0_at]
  exact mul_eq (fun k => left0_at c V t _ k h0) fun k => right0_at c V t k _

/-- The product's array at its region's end. -/
theorem array0_at : (dat0 V c).arrAt 2 cfg0.N = rows c V := by
  have h : (dat0 V c).arrAt 2 cfg0.N = fun i => if (i 1).val / 1024 < 1 then rows c V i else (dat0 V c).A 2 i := by
    refine (dat0 V c).arrAt_eq_of_coversWhere 2 _ (fun β => β 1 < 1) (by decide +kernel) (fun t _ y => ?_) (fun j => Iff.rfl)
    blk_simp
    rw [after0_2]
    obtain ⟨-, -, e0, e1⟩ := index0 t
    exact block0_at c V t _ _ (((cfg0.win 2).rect_emb_val t y 0).trans (by rw [e0]; rfl))
      (((cfg0.win 2).rect_emb_val t y 1).trans (by rw [e1]; rfl))
  rw [h]
  funext i
  exact if_pos (by have := (i 1).isLt; change (i 1).val < 1024 at this; omega)

/-! ## The body of the preparation, from its blocks -/

/-- The normed rows read at an element. -/
theorem pay9_at (x : Vec Ideal S256x1024 .f32) (g : Vec Ideal S1x512 .f32) (r : Fin 256) (k : Fin 512) :
    k1_pay9 x g (ix2 r k) = normed nq (fun j : Fin 512 => x (ix2 r ⟨j.val, by omega⟩)) (fun j => g (ix2 0 j)) k := by
  unfold normed nq
  pointwise [k1_pay9, k1_pay6]
theorem pay10_at (x : Vec Ideal S256x1024 .f32) (g : Vec Ideal S1x256 .f32) (r : Fin 256) (k : Fin 256) :
    k1_pay10 x g (ix2 r k) = normed nkv (fun j : Fin 256 => x (ix2 r ⟨512 + j.val, by omega⟩)) (fun j => g (ix2 0 j)) k := by
  unfold normed nkv
  pointwise [k1_pay10, k1_pay6]

/-- The rotary lanes of the keys read at an element. -/
theorem pay11_at (x : Vec Ideal S256x1024 .f32) (co si : Vec Ideal S256x128 .f32) (r : Fin 256) (l : Fin 128) :
    k1_pay11 x co si (ix2 r l)
      = x (ix2 r ⟨768 + l.val, by omega⟩) * co (ix2 r l) + x (ix2 r ⟨896 + l.val, by omega⟩) * si (ix2 r l) := by
  pointwise [k1_pay11, k1_pay6, k1_pay7, k1_pay8]

/-- The tables are read as they are. -/
theorem pay7_at (x : Vec Ideal S256x128 .f32) (r : Fin 256) (l : Fin 128) : k1_pay7 x (ix2 r l) = x (ix2 r l) := by
  pointwise [k1_pay7]
theorem pay8_at (x : Vec Ideal S256x128 .f32) (r : Fin 256) (l : Fin 128) : k1_pay8 x (ix2 r l) = x (ix2 r l) := by
  pointwise [k1_pay8]

/-- The products read at an element. -/
theorem pay12_at (x : Vec Ideal S256x512 .bf16) (w : Vec Ideal S512x2048 .bf16) (r : Fin 256) (j : Fin 2048) :
    k1_pay12 x w (ix2 r j) = mul x w r j := by
  unfold mul
  pointwise [k1_pay12]
theorem pay13_at (x : Vec Ideal S256x512 .bf16) (w : Vec Ideal S512x2048 .bf16) (r : Fin 256) (j : Fin 2048) :
    k1_pay13 x w (ix2 r j) = mul x w r j := by
  unfold mul
  pointwise [k1_pay13]
theorem pay14_at (x : Vec Ideal S256x256 .bf16) (w : Vec Ideal S256x2048 .bf16) (r : Fin 256) (j : Fin 2048) :
    k1_pay14 x w (ix2 r j) = mul x w r j := by
  unfold mul
  pointwise [k1_pay14]
theorem pay15_at (x : Vec Ideal S256x256 .bf16) (w : Vec Ideal S256x1024 .bf16) (r : Fin 256) (j : Fin 1024) :
    k1_pay15 x w (ix2 r j) = mul x w r j := by
  unfold mul
  pointwise [k1_pay15]

/-- The rectangle of a head's lanes in a block of rows. -/
abbrev lanes (o : ℕ) (h : ∀ a, ![0, o] a + S256x128.size a ≤ S256x2048.size a) : Rect S256x2048 :=
  Rect.unit (s := S256x2048) ![0, o] S256x128.size h

/-- A head's queries: its lanes of the two products, each times its table, added and scaled. -/
def head_q (o : ℕ) (hs : S256x2048.Slices ![0, o] S256x128) (A B : FVec Ideal S256x2048 .f32) (co si : FVec Ideal S256x128 .f32) :
    FVec Ideal S256x128 .bf16 :=
  truncf .bf16 (mulf (addf (mulf (extractStridedSlice S256x128 ![0, o] A hs) co) (mulf (extractStridedSlice S256x128 ![0, o] B hs) si))
    (broadcast S256x128 (Scalar.ofBits .f32 0x3DD105EC#32))) bitsLt_bf16_f32

/-- A head's keys: its lanes of the product plus the rotary lanes. -/
def head_k (o : ℕ) (hs : S256x2048.Slices ![0, o] S256x128) (A : FVec Ideal S256x2048 .f32) (B : FVec Ideal S256x128 .f32) :
    FVec Ideal S256x128 .bf16 :=
  truncf .bf16 (addf (extractStridedSlice S256x128 ![0, o] A hs) B) bitsLt_bf16_f32

/-- The queries of a block of rows, and its keys. -/
def all_q (A B : FVec Ideal S256x2048 .f32) (co si : FVec Ideal S256x128 .f32) (y : S256x2048.Idx) : EReal :=
  (A y * co (ix2 (y 0) ⟨(y 1).val % 128, Nat.mod_lt _ (by omega)⟩) + B y * si (ix2 (y 0) ⟨(y 1).val % 128, Nat.mod_lt _ (by omega)⟩)) * scale
def all_k (A : FVec Ideal S256x2048 .f32) (B : FVec Ideal S256x128 .f32) (y : S256x2048.Idx) : EReal :=
  A y + B (ix2 (y 0) ⟨(y 1).val % 128, Nat.mod_lt _ (by omega)⟩)

/-- Where an entry of a head's lanes lies in the block. -/
theorem lanes_at (o : ℕ) (h : ∀ a, ![0, o] a + S256x128.size a ≤ S256x2048.size a) (r : Fin 256) (l : Fin 128)
    (hl : o + l.val < 2048) : (lanes o h).emb (ix2 r l) = ix2 r ⟨o + l.val, hl⟩ := by
  funext a
  refine Fin.ext ((ValueKit.rect_emb_unit_val _ _ h (ix2 r l) a).trans ?_)
  match a with
  | 0 => exact Nat.zero_add _
  | 1 => rfl

/-- A head's queries and keys are the block's at its lanes. -/
theorem head_q_at (o : ℕ) (hs : S256x2048.Slices ![0, o] S256x128) (h : ∀ a, ![0, o] a + S256x128.size a ≤ S256x2048.size a)
    (ho : o % 128 = 0) (A B : FVec Ideal S256x2048 .f32) (co si : FVec Ideal S256x128 .f32) (x : S256x128.Idx) :
    head_q o hs A B co si x = all_q A B co si ((lanes o h).emb x) := by
  idx_vars x
  have hl : o + x1.val < 2048 := by have := h 1; change o + 128 ≤ 2048 at this; omega
  have e : (⟨(o + x1.val) % 128, Nat.mod_lt _ (by omega)⟩ : Fin 128) = x1 := Fin.ext (by dsimp only; omega)
  rw [lanes_at o h x0 x1 hl]
  unfold head_q all_q scale
  pointwise
  exact congrArg (fun l => (_ * co (ix2 x0 l) + _ * si (ix2 x0 l)) * _) e.symm
theorem head_k_at (o : ℕ) (hs : S256x2048.Slices ![0, o] S256x128) (h : ∀ a, ![0, o] a + S256x128.size a ≤ S256x2048.size a)
    (ho : o % 128 = 0) (A : FVec Ideal S256x2048 .f32) (B : FVec Ideal S256x128 .f32) (x : S256x128.Idx) :
    head_k o hs A B x = all_k A B ((lanes o h).emb x) := by
  idx_vars x
  have hl : o + x1.val < 2048 := by have := h 1; change o + 128 ≤ 2048 at this; omega
  have e : (⟨(o + x1.val) % 128, Nat.mod_lt _ (by omega)⟩ : Fin 128) = x1 := Fin.ext (by dsimp only; omega)
  rw [lanes_at o h x0 x1 hl]
  unfold head_k all_k
  pointwise
  exact congrArg (fun l => _ + B (ix2 x0 l)) e.symm

/-- The block of queries that the body leaves: sixteen heads side by side. -/
theorem out9_at (x0 : Vec Ideal S256x1024 .f32) (x1 x2 : Vec Ideal S256x128 .f32) (x3 : Vec Ideal S1x512 .f32) (x4 : Vec Ideal S1x256 .f32)
    (x5 x6 : Vec Ideal S512x2048 .bf16) (x7 : Vec Ideal S256x2048 .bf16) (x8 : Vec Ideal S256x1024 .bf16) (y : S256x2048.Idx) :
    out1_9 x0 x1 x2 x3 x4 x5 x6 x7 x8 y
      = all_q (k1_pay48 x0 x1 x2 x3 x4 x5 x6 x7 x8) (k1_pay49 x0 x1 x2 x3 x4 x5 x6 x7 x8) (k1_pay43 x0 x1 x2 x3 x4 x5 x6 x7 x8)
          (k1_pay44 x0 x1 x2 x3 x4 x5 x6 x7 x8) y := by
  unfold out1_9
  refine View.canon_apply_of_pieces (Val := Elt Ideal) (S := S256x2048) (e := .bf16) (all_q _ _ _ _) _ ?_ y (cover1_9 _ _ _ _ _ _ _ _ _ _ _ _ _ _ _ _ y)
  simp only [List.forall_mem_cons]
  refine ⟨?_, ?_, ?_, ?_, ?_, ?_, ?_, ?_, ?_, ?_, ?_, ?_, ?_, ?_, ?_, ?_, fun _ h => absurd h List.not_mem_nil⟩ <;>
    exact fun x => head_q_at _ _ _ (by decide) _ _ _ _ x

/-- The block of keys that it leaves. -/
theorem out10_at (x0 : Vec Ideal S256x1024 .f32) (x1 x2 : Vec Ideal S256x128 .f32) (x3 : Vec Ideal S1x512 .f32) (x4 : Vec Ideal S1x256 .f32)
    (x5 x6 : Vec Ideal S512x2048 .bf16) (x7 : Vec Ideal S256x2048 .bf16) (x8 : Vec Ideal S256x1024 .bf16) (y : S256x2048.Idx) :
    out1_10 x0 x1 x2 x3 x4 x5 x6 x7 x8 y
      = all_k (k1_pay50 x0 x1 x2 x3 x4 x5 x6 x7 x8) (k1_pay47 x0 x1 x2 x3 x4 x5 x6 x7 x8) y := by
  unfold out1_10
  refine View.canon_apply_of_pieces (Val := Elt Ideal) (S := S256x2048) (e := .bf16) (all_k _ _) _ ?_ y (cover1_10 _ _ _ _ _ _ _ _ _ _ _ _ _ _ _ _ y)
  simp only [List.forall_mem_cons]
  refine ⟨?_, ?_, ?_, ?_, ?_, ?_, ?_, ?_, ?_, ?_, ?_, ?_, ?_, ?_, ?_, ?_, fun _ h => absurd h List.not_mem_nil⟩ <;>
    exact fun x => head_k_at _ _ _ (by decide) _ _ x

/-! ## The preparation's arrays -/

/-- The block that each window of the preparation is at, at point `t`: the tables have 33 tiles of rows, one for each
    tile of a batch row. -/
theorem index1 : ∀ t : Fin cfg1.N,
    ((cfg1.win 0).index t 0 = t.val ∧ (cfg1.win 0).index t 1 = 0)
    ∧ ((cfg1.win 1).index t 0 = t.val % 33 ∧ (cfg1.win 1).index t 1 = 0)
    ∧ ((cfg1.win 2).index t 0 = t.val % 33 ∧ (cfg1.win 2).index t 1 = 0)
    ∧ ((cfg1.win 3).index t 0 = 0 ∧ (cfg1.win 3).index t 1 = 0)
    ∧ ((cfg1.win 4).index t 0 = 0 ∧ (cfg1.win 4).index t 1 = 0)
    ∧ ((cfg1.win 5).index t 0 = 0 ∧ (cfg1.win 5).index t 1 = 0)
    ∧ ((cfg1.win 6).index t 0 = 0 ∧ (cfg1.win 6).index t 1 = 0)
    ∧ ((cfg1.win 7).index t 0 = 0 ∧ (cfg1.win 7).index t 1 = 0)
    ∧ ((cfg1.win 8).index t 0 = 0 ∧ (cfg1.win 8).index t 1 = 0)
    ∧ ((cfg1.win 9).index t 0 = t.val ∧ (cfg1.win 9).index t 1 = 0)
    ∧ ((cfg1.win 10).index t 0 = t.val ∧ (cfg1.win 10).index t 1 = 0)
    ∧ ((cfg1.win 11).index t 0 = t.val ∧ (cfg1.win 11).index t 1 = 0) := by
  decide +kernel

/-- The arrays of the preparation, as its region finds them: the rows, the two tables, the norms' weights, and the
    weights of the queries (plain and swapped), the keys and the values. -/
abbrev P1 : Vec Ideal S16896x1024 .f32 := V c main_v42
abbrev Co : Vec Ideal S8448x128 .f32 := V c main_v39
abbrev Si : Vec Ideal S8448x128 .f32 := V c main_v41
abbrev Gq : Vec Ideal S1x512 .f32 := V c main_v43
abbrev Gk : Vec Ideal S1x256 .f32 := V c main_v44
abbrev Wa : Vec Ideal S512x2048 .bf16 := V c main_v14
abbrev Ws : Vec Ideal S512x2048 .bf16 := V c main_v23
abbrev Wk : Vec Ideal S256x2048 .bf16 := V c main_v28
abbrev Wv : Vec Ideal S256x1024 .bf16 := V c main_v31

/-- The row of the tables that a row of the two batch rows takes. -/
abbrev place (a : Fin 16896) : Fin 8448 := ⟨a.val % 8448, Nat.mod_lt _ (by omega)⟩

/-- The lane of its head that a column is. -/
abbrev lane (b : Fin 2048) : Fin 128 := ⟨b.val % 128, Nat.mod_lt _ (by omega)⟩

/-- The normed latents of the queries, and of the keys and values. -/
def lat_q : (⟨2, ![16896, 512]⟩ : Shape).Idx → EReal := fun i =>
  normed nq (fun j : Fin 512 => P1 c V (ix2 (i 0) ⟨j.val, by omega⟩)) (fun j => Gq c V (ix2 0 j)) (i 1)
def lat_k : (⟨2, ![16896, 256]⟩ : Shape).Idx → EReal := fun i =>
  normed nkv (fun j : Fin 256 => P1 c V (ix2 (i 0) ⟨512 + j.val, by omega⟩)) (fun j => Gk c V (ix2 0 j)) (i 1)

/-- The queries, the keys and the values, entry by entry. -/
def queries : Vec Ideal S16896x2048 .bf16 := fun i =>
  (mul (lat_q c V) (Wa c V) (i 0) (i 1) * Co c V (ix2 (place (i 0)) (lane (i 1)))
    + mul (lat_q c V) (Ws c V) (i 0) (i 1) * Si c V (ix2 (place (i 0)) (lane (i 1)))) * scale
def keys : Vec Ideal S16896x2048 .bf16 := fun i =>
  mul (lat_k c V) (Wk c V) (i 0) (i 1)
    + (P1 c V (ix2 (i 0) ⟨768 + (lane (i 1)).val, by have := (lane (i 1)).isLt; omega⟩) * Co c V (ix2 (place (i 0)) (lane (i 1)))
      + P1 c V (ix2 (i 0) ⟨896 + (lane (i 1)).val, by have := (lane (i 1)).isLt; omega⟩) * Si c V (ix2 (place (i 0)) (lane (i 1))))
def values : Vec Ideal S16896x1024 .bf16 := fun i => mul (lat_k c V) (Wv c V) (i 0) (i 1)

/-- The blocks at a point: a tile of the rows, a tile of each table, and the weights. -/
theorem rows1_at (t : Fin cfg1.N) (r : Fin 256) (k : Fin 1024) {a : Fin 16896} (ha : a.val = t.val * 256 + r.val) :
    iblk1 V c 0 t (ix2 r k) = P1 c V (ix2 a k) := by
  obtain ⟨⟨e0, e1⟩, -⟩ := index1 t
  blk_ext [iblk1, e0, e1, ha]
theorem cos_at (t : Fin cfg1.N) (r : Fin 256) (l : Fin 128) {a : Fin 8448} (ha : a.val = t.val % 33 * 256 + r.val) :
    iblk1 V c 1 t (ix2 r l) = Co c V (ix2 a l) := by
  obtain ⟨-, ⟨e0, e1⟩, -⟩ := index1 t
  blk_ext [iblk1, e0, e1, ha]
theorem sin_at (t : Fin cfg1.N) (r : Fin 256) (l : Fin 128) {a : Fin 8448} (ha : a.val = t.val % 33 * 256 + r.val) :
    iblk1 V c 2 t (ix2 r l) = Si c V (ix2 a l) := by
  obtain ⟨-, -, ⟨e0, e1⟩, -⟩ := index1 t
  blk_ext [iblk1, e0, e1, ha]
theorem gq_at (t : Fin cfg1.N) (j : Fin 512) : iblk1 V c 3 t (ix2 0 j) = Gq c V (ix2 0 j) := by
  obtain ⟨-, -, -, ⟨e0, e1⟩, -⟩ := index1 t
  blk_ext [iblk1, e0, e1]
theorem gk_at (t : Fin cfg1.N) (j : Fin 256) : iblk1 V c 4 t (ix2 0 j) = Gk c V (ix2 0 j) := by
  obtain ⟨-, -, -, -, ⟨e0, e1⟩, -⟩ := index1 t
  blk_ext [iblk1, e0, e1]
theorem wa_at (t : Fin cfg1.N) (k : Fin 512) (j : Fin 2048) : iblk1 V c 5 t (ix2 k j) = Wa c V (ix2 k j) := by
  obtain ⟨-, -, -, -, -, ⟨e0, e1⟩, -⟩ := index1 t
  blk_ext [iblk1, e0, e1]
theorem ws_at (t : Fin cfg1.N) (k : Fin 512) (j : Fin 2048) : iblk1 V c 6 t (ix2 k j) = Ws c V (ix2 k j) := by
  obtain ⟨-, -, -, -, -, -, ⟨e0, e1⟩, -⟩ := index1 t
  blk_ext [iblk1, e0, e1]
theorem wk_at (t : Fin cfg1.N) (k : Fin 256) (j : Fin 2048) : iblk1 V c 7 t (ix2 k j) = Wk c V (ix2 k j) := by
  obtain ⟨-, -, -, -, -, -, -, ⟨e0, e1⟩, -⟩ := index1 t
  blk_ext [iblk1, e0, e1]
theorem wv_at (t : Fin cfg1.N) (k : Fin 256) (j : Fin 1024) : iblk1 V c 8 t (ix2 k j) = Wv c V (ix2 k j) := by
  obtain ⟨-, -, -, -, -, -, -, -, ⟨e0, e1⟩, -⟩ := index1 t
  blk_ext [iblk1, e0, e1]

section Point

variable (t : Fin cfg1.N) (r : Fin 256) {a : Fin 16896} (ha : a.val = t.val * 256 + r.val)
include ha

/-- The body's normed latents at a point are those of its rows. -/
theorem lat_q_at (k : Fin 512) :
    k1_pay45 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r k) = lat_q c V (ix2 a k) := by
  unfold k1_pay45
  frame_out
  rw [pay9_at]
  unfold lat_q
  exact congrArg₂ (fun x g => normed nq x g k) (funext fun j => rows1_at c V t r _ ha) (funext fun j => gq_at c V t j)
theorem lat_k_at (k : Fin 256) :
    k1_pay46 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r k) = lat_k c V (ix2 a k) := by
  unfold k1_pay46
  frame_out
  rw [pay10_at]
  unfold lat_k
  exact congrArg₂ (fun x g => normed nkv x g k) (funext fun j => rows1_at c V t r _ ha) (funext fun j => gk_at c V t j)

/-- The tables' rows at a point are those of the point's rows. -/
theorem place_at : (place a).val = t.val % 33 * 256 + r.val := by
  change a.val % 8448 = _
  omega

/-- The tables at a point. -/
theorem table_c_at (l : Fin 128) :
    k1_pay43 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r l) = Co c V (ix2 (place a) l) := by
  unfold k1_pay43
  frame_out
  rw [pay7_at]
  exact cos_at c V t r l (place_at t r ha)
theorem table_s_at (l : Fin 128) :
    k1_pay44 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r l) = Si c V (ix2 (place a) l) := by
  unfold k1_pay44
  frame_out
  rw [pay8_at]
  exact sin_at c V t r l (place_at t r ha)

/-- The products of the latents at a point. -/
theorem plain_at (j : Fin 2048) :
    k1_pay48 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r j) = mul (lat_q c V) (Wa c V) a j := by
  unfold k1_pay48
  frame_out
  rw [pay12_at]
  exact mul_eq (fun k => lat_q_at c V t r ha k) fun k => wa_at c V t k j
theorem swapped_at (j : Fin 2048) :
    k1_pay49 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r j) = mul (lat_q c V) (Ws c V) a j := by
  unfold k1_pay49
  frame_out
  rw [pay13_at]
  exact mul_eq (fun k => lat_q_at c V t r ha k) fun k => ws_at c V t k j
theorem nope_at (j : Fin 2048) :
    k1_pay50 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r j) = mul (lat_k c V) (Wk c V) a j := by
  unfold k1_pay50
  frame_out
  rw [pay14_at]
  exact mul_eq (fun k => lat_k_at c V t r ha k) fun k => wk_at c V t k j

/-- The rotary lanes of the keys at a point. -/
theorem rotary_at (l : Fin 128) :
    k1_pay47 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r l)
      = P1 c V (ix2 a ⟨768 + l.val, by omega⟩) * Co c V (ix2 (place a) l)
        + P1 c V (ix2 a ⟨896 + l.val, by omega⟩) * Si c V (ix2 (place a) l) := by
  unfold k1_pay47
  frame_out
  rw [pay11_at, rows1_at c V t r _ ha, rows1_at c V t r _ ha, cos_at c V t r l (place_at t r ha), sin_at c V t r l (place_at t r ha)]

/-- What a point writes of the queries, the keys and the values. -/
theorem queries_at (j : Fin 2048) :
    out1_9 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r j) = queries c V (ix2 a j) := by
  rw [out9_at]
  unfold all_q queries
  exact congrArg (· * scale) (congrArg₂ (fun x y : EReal => x + y)
    (congrArg₂ (fun x y : EReal => x * y) (plain_at c V t r ha j) (table_c_at c V t r ha (lane j)))
    (congrArg₂ (fun x y : EReal => x * y) (swapped_at c V t r ha j) (table_s_at c V t r ha (lane j))))
theorem keys_at (j : Fin 2048) :
    out1_10 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r j) = keys c V (ix2 a j) := by
  rw [out10_at]
  unfold all_k keys
  exact congrArg₂ (fun x y : EReal => x + y) (nope_at c V t r ha j) (rotary_at c V t r ha (lane j))
theorem values_at (j : Fin 1024) :
    out1_11 (iblk1 V c 0 t) (iblk1 V c 1 t) (iblk1 V c 2 t) (iblk1 V c 3 t) (iblk1 V c 4 t) (iblk1 V c 5 t) (iblk1 V c 6 t) (iblk1 V c 7 t)
      (iblk1 V c 8 t) (ix2 r j) = values c V (ix2 a j) := by
  unfold out1_11
  frame_out
  rw [pay15_at]
  exact mul_eq (fun k => lat_k_at c V t r ha k) fun k => wv_at c V t k j

end Point

/-- A block of rows that agrees with an array row by row is its tile. -/
theorem tile_of {n : ℕ} (t : Fin cfg1.N) {f : (⟨2, ![256, n]⟩ : Shape).Idx → EReal} {g : (⟨2, ![16896, n]⟩ : Shape).Idx → EReal}
    (y : (⟨2, ![256, n]⟩ : Shape).Idx) (i : (⟨2, ![16896, n]⟩ : Shape).Idx)
    (h0 : (i 0).val = t.val * 256 + (y 0).val) (h1 : (i 1).val = 0 * n + (y 1).val)
    (h : ∀ (r : Fin 256) (j : Fin n) (a : Fin 16896), a.val = t.val * 256 + r.val → f (ix2 r j) = g (ix2 a j)) : f y = g i := by
  have e : i 1 = y 1 := Fin.ext (h1.trans (by omega))
  rw [eq_ix2 y, eq_ix2 i, e]
  exact h _ _ _ h0

/-- The array of queries at the region's end. -/
theorem array_queries : (dat1 V c).arrAt 9 cfg1.N = queries c V := by
  have h : (dat1 V c).arrAt 9 cfg1.N = fun i => if (i 1).val / 2048 < 1 then queries c V i else (dat1 V c).A 9 i := by
    refine (dat1 V c).arrAt_eq_of_coversWhere 9 _ (fun β => β 1 < 1) (by decide +kernel) (fun t _ y => ?_) (fun j => Iff.rfl)
    blk_simp
    rw [after1_9]
    have e := (index1 t).2.2.2.2.2.2.2.2.2.1
    exact tile_of t _ _ (((cfg1.win 9).rect_emb_val t y 0).trans (by rw [e.1]; rfl))
      (((cfg1.win 9).rect_emb_val t y 1).trans (by rw [e.2]; rfl)) fun r j a ha => queries_at c V t r ha j
  rw [h]
  funext i
  exact if_pos (by have := (i 1).isLt; change (i 1).val < 2048 at this; omega)

/-- The array of keys at the region's end. -/
theorem array_keys : (dat1 V c).arrAt 10 cfg1.N = keys c V := by
  have h : (dat1 V c).arrAt 10 cfg1.N = fun i => if (i 1).val / 2048 < 1 then keys c V i else (dat1 V c).A 10 i := by
    refine (dat1 V c).arrAt_eq_of_coversWhere 10 _ (fun β => β 1 < 1) (by decide +kernel) (fun t _ y => ?_) (fun j => Iff.rfl)
    blk_simp
    rw [after1_10]
    have e := (index1 t).2.2.2.2.2.2.2.2.2.2.1
    exact tile_of t _ _ (((cfg1.win 10).rect_emb_val t y 0).trans (by rw [e.1]; rfl))
      (((cfg1.win 10).rect_emb_val t y 1).trans (by rw [e.2]; rfl)) fun r j a ha => keys_at c V t r ha j
  rw [h]
  funext i
  exact if_pos (by have := (i 1).isLt; change (i 1).val < 2048 at this; omega)

/-- The array of values at the region's end. -/
theorem array_values : (dat1 V c).arrAt 11 cfg1.N = values c V := by
  have h : (dat1 V c).arrAt 11 cfg1.N = fun i => if (i 1).val / 1024 < 1 then values c V i else (dat1 V c).A 11 i := by
    refine (dat1 V c).arrAt_eq_of_coversWhere 11 _ (fun β => β 1 < 1) (by decide +kernel) (fun t _ y => ?_) (fun j => Iff.rfl)
    blk_simp
    rw [after1_11]
    have e := (index1 t).2.2.2.2.2.2.2.2.2.2.2
    exact tile_of t _ _ (((cfg1.win 11).rect_emb_val t y 0).trans (by rw [e.1]; rfl))
      (((cfg1.win 11).rect_emb_val t y 1).trans (by rw [e.2]; rfl)) fun r j a ha => values_at c V t r ha j
  rw [h]
  funext i
  exact if_pos (by have := (i 1).isLt; change (i 1).val < 1024 at this; omega)

end Cert.HeadsIdeal.Val

end
-- ==== Proof.HeadsHost.lean ====
/- What the host code before and between the two products lays out: the weights in the lanes of the heads, and the
   rotation's tables, entry by entry. -/
module

public import proofs.«01_k».proof.Proof.HeadsTiles
public import proofs.«01_k».proof.Proof.HeadsSpec

@[expose] public section

set_option maxRecDepth 16384

noncomputable section

namespace Cert.HeadsIdeal.Val

open Cert.HeadsIdeal Cert.HeadsIdeal.Gen Idealize.ShloMosaic Idealize.ShloMosaic.TcCoe Idealize.SL.Sem Cert.Product Cert.HeadsSpec

variable (m : (ℓ : Loc nD τ sig) → Buf (Elt Ideal) ℓ) (ρ : Dev nD → PrngReg) (c : Dev nD)

/-- The arguments. -/
abbrev aH : Vec Ideal S16896x2048 .bf16 := m ((c.tc : Thread nD τ).loc main_arg0)
abbrev aW : Vec Ideal S2048x8288 .f32 := m ((c.tc : Thread nD τ).loc main_arg1)
abbrev aC : Vec Ideal S8192x16 .f32 := m ((c.tc : Thread nD τ).loc main_arg2)
abbrev aS : Vec Ideal S8192x16 .f32 := m ((c.tc : Thread nD τ).loc main_arg3)
abbrev aQ : Vec Ideal S512 .f32 := m ((c.tc : Thread nD τ).loc main_arg4)
abbrev aK : Vec Ideal S256 .f32 := m ((c.tc : Thread nD τ).loc main_arg5)
abbrev uQ : Vec Ideal S512x1536 .f32 := m ((c.tc : Thread nD τ).loc main_arg6)
abbrev uK : Vec Ideal S256x2048 .f32 := m ((c.tc : Thread nD τ).loc main_arg7)

/-! ## The weights and tables as the host code lays them out, at any contents `U` before it -/

/-- The zero that pads is zero. -/
theorem zero_pad : FloatOps.sitofp (F := Ideal) .f32 0#32 = (0 : EReal) := by
  show (((0#32 : BitVec 32).toInt : ℝ) : EReal) = 0
  simp

section Host

variable (U : Valuation τ sig (Elt Ideal))

/-- The queries' weights, plain: each head's 96 columns, then 32 of zeros. -/
theorem plain_w (k : Fin 512) (b : Fin 2048) :
    StableHlo.after hostOps0_4 U (Proc.devRef .tc main_v14) (ix2 k b)
      = if b.val % 128 < 96 then entry (U (Proc.devRef .tc main_arg6) : Vec Ideal S512x1536 .f32) k.val (96 * (b.val / 128) + b.val % 128)
        else 0 := by
  after_reads_at
  by_cases h : b.val % 128 < 96
  · rw [dif_pos h, if_pos h]
    after_reads_at
    exact entry_eq (U (Proc.devRef .tc main_arg6) : Vec Ideal S512x1536 .f32) _ _ rfl (by dsimp only; omega)
  · rw [dif_neg h, if_neg h]
    after_reads_at

/-- The queries' weights, swapped: in each head's rotary lanes the halves exchanged, the first with its sign changed, and
    zeros elsewhere. -/
theorem swapped_w (k : Fin 512) (b : Fin 2048) :
    StableHlo.after hostOps0_4 U (Proc.devRef .tc main_v23) (ix2 k b)
      = if b.val % 128 < 64 then 0
        else if b.val % 128 - 64 < 32 then
          if b.val % 128 - 64 < 16 then
            -entry (U (Proc.devRef .tc main_arg6) : Vec Ideal S512x1536 .f32) k.val (96 * (b.val / 128) + b.val % 128 + 16)
          else entry (U (Proc.devRef .tc main_arg6) : Vec Ideal S512x1536 .f32) k.val (96 * (b.val / 128) + b.val % 128 - 16)
        else 0 := by
  by_cases h : b.val % 128 < 64
  · rw [if_pos h]
    after_reads_at
    refine (dif_pos h).trans ?_
    after_reads_at
  rw [if_neg h]
  by_cases h' : b.val % 128 - 64 < 32
  · rw [if_pos h']
    by_cases h'' : b.val % 128 - 64 < 16
    · rw [if_pos h'']
      after_reads_at
      refine (dif_neg h).trans ((dif_pos h').trans ?_)
      after_reads_at
      refine (dif_pos h'').trans ?_
      exact congrArg (fun x : EReal => -x) (entry_eq (U (Proc.devRef .tc main_arg6) : Vec Ideal S512x1536 .f32) _ _ rfl (by dsimp only; omega))
    · rw [if_neg h'']
      after_reads_at
      refine (dif_neg h).trans ((dif_pos h').trans ?_)
      after_reads_at
      refine (dif_neg h'').trans ?_
      exact entry_eq (U (Proc.devRef .tc main_arg6) : Vec Ideal S512x1536 .f32) _ _ rfl (by dsimp only; omega)
  · rw [if_neg h']
    after_reads_at
    refine (dif_neg h).trans ((dif_neg h').trans ?_)
    after_reads_at

/-- The keys' weights before they are laid flat: each head's first 64 columns, then 64 of zeros. -/
theorem padded_w (k : Fin 256) (h : Fin 16) (l : Fin 128) :
    StableHlo.after hostOps0_5 (StableHlo.after hostOps0_4 U) (Proc.devRef .tc main_v26) (ix3 k h l)
      = if l.val < 64 then entry (U (Proc.devRef .tc main_arg7) : Vec Ideal S256x2048 .f32) k.val (128 * h.val + l.val) else 0 := by
  by_cases e : l.val < 64
  · rw [if_pos e]
    after_reads_at
    refine (dif_pos e).trans ?_
    exact entry_eq (U (Proc.devRef .tc main_arg7) : Vec Ideal S256x2048 .f32) _ _ rfl (by dsimp only; omega)
  · rw [if_neg e]
    after_reads_at
    exact (dif_neg e).trans zero_pad

/-- The same laid flat. -/
theorem keys_w (k : Fin 256) (b : Fin 2048) :
    StableHlo.after hostOps0_6 (StableHlo.after hostOps0_5 (StableHlo.after hostOps0_4 U)) (Proc.devRef .tc main_v28) (ix2 k b)
      = if b.val % 128 < 64 then entry (U (Proc.devRef .tc main_arg7) : Vec Ideal S256x2048 .f32) k.val b.val else 0 := by
  rw [show b.val = 128 * (b.val / 128) + b.val % 128 from by omega]
  refine Eq.trans ?_ ((padded_w U k ⟨b.val / 128, by omega⟩ ⟨b.val % 128, by omega⟩).trans ?_)
  · generalize StableHlo.after hostOps0_5 (StableHlo.after hostOps0_4 U) = U'
    after_reads_at
  · dsimp only
    rw [show (128 * (b.val / 128) + b.val % 128) % 128 = b.val % 128 from by omega]

/-- The values' weights: each head's last 64 columns. -/
theorem values_w (k : Fin 256) (b : Fin 1024) :
    StableHlo.after hostOps0_6 (StableHlo.after hostOps0_5 (StableHlo.after hostOps0_4 U)) (Proc.devRef .tc main_v31) (ix2 k b)
      = entry (U (Proc.devRef .tc main_arg7) : Vec Ideal S256x2048 .f32) k.val (128 * (b.val / 64) + 64 + b.val % 64) := by
  after_reads_at
  exact entry_eq (U (Proc.devRef .tc main_arg7) : Vec Ideal S256x2048 .f32) _ _ rfl (by dsimp only; omega)

/-- The tables: the angles in the rotary lanes of the first 8192 rows, and one (the cosines) or zero (the sines) elsewhere. -/
theorem table_c (a : Fin 8448) (l : Fin 128) :
    StableHlo.after hostOps0_6 U (Proc.devRef .tc main_v39) (ix2 a l)
      = if a.val < 8192 ∧ 64 ≤ l.val ∧ l.val < 96 then entry (U (Proc.devRef .tc main_arg2) : Vec Ideal S8192x16 .f32) a.val ((l.val - 64) % 16)
        else 1 := by
  by_cases h : a.val < 8192
  · by_cases h1 : l.val < 64
    · rw [if_neg (by omega)]
      after_reads_at
      refine (dif_pos h).trans ((dif_pos h1).trans ?_)
      after_reads_at
    by_cases h2 : l.val - 64 < 16
    · rw [if_pos ⟨h, by omega, by omega⟩]
      after_reads_at
      refine (dif_pos h).trans ((dif_neg h1).trans ((dif_pos h2).trans ?_))
      after_reads_at
      exact entry_eq (U (Proc.devRef .tc main_arg2) : Vec Ideal S8192x16 .f32) _ _ rfl (by dsimp only; omega)
    by_cases h3 : l.val - 64 - 16 < 16
    · rw [if_pos ⟨h, by omega, by omega⟩]
      after_reads_at
      refine (dif_pos h).trans ((dif_neg h1).trans ((dif_neg h2).trans ((dif_pos h3).trans ?_)))
      after_reads_at
      exact entry_eq (U (Proc.devRef .tc main_arg2) : Vec Ideal S8192x16 .f32) _ _ rfl (by dsimp only; omega)
    · rw [if_neg (by omega)]
      after_reads_at
      refine (dif_pos h).trans ((dif_neg h1).trans ((dif_neg h2).trans ((dif_neg h3).trans ?_)))
      after_reads_at
  · rw [if_neg (by omega)]
    after_reads_at
    exact dif_neg h

/-- The sines. -/
theorem table_s (a : Fin 8448) (l : Fin 128) :
    StableHlo.after hostOps0_6 U (Proc.devRef .tc main_v41) (ix2 a l)
      = if a.val < 8192 ∧ 64 ≤ l.val ∧ l.val < 96 then entry (U (Proc.devRef .tc main_arg3) : Vec Ideal S8192x16 .f32) a.val ((l.val - 64) % 16)
        else 0 := by
  by_cases h : a.val < 8192
  · by_cases h1 : l.val < 64
    · rw [if_neg (by omega)]
      after_reads_at
      refine (dif_pos h).trans ((dif_pos h1).trans ?_)
      after_reads_at
    by_cases h2 : l.val - 64 < 16
    · rw [if_pos ⟨h, by omega, by omega⟩]
      after_reads_at
      refine (dif_pos h).trans ((dif_neg h1).trans ((dif_pos h2).trans ?_))
      after_reads_at
      exact entry_eq (U (Proc.devRef .tc main_arg3) : Vec Ideal S8192x16 .f32) _ _ rfl (by dsimp only; omega)
    by_cases h3 : l.val - 64 - 16 < 16
    · rw [if_pos ⟨h, by omega, by omega⟩]
      after_reads_at
      refine (dif_pos h).trans ((dif_neg h1).trans ((dif_neg h2).trans ((dif_pos h3).trans ?_)))
      after_reads_at
      exact entry_eq (U (Proc.devRef .tc main_arg3) : Vec Ideal S8192x16 .f32) _ _ rfl (by dsimp only; omega)
    · rw [if_neg (by omega)]
      after_reads_at
      refine (dif_pos h).trans ((dif_neg h1).trans ((dif_neg h2).trans ((dif_neg h3).trans ?_)))
      after_reads_at
  · rw [if_neg (by omega)]
    after_reads_at
    exact dif_neg h

/-- The attention's columns of the weights are in three stretches. The first: the latents' columns. -/
theorem latent_w (k : Fin 2048) (n : Fin 768) :
    StableHlo.after hostOps0 U (Proc.devRef .tc main_v1) (ix2 k n)
      = entry (U (Proc.devRef .tc main_arg1) : Vec Ideal S2048x8288 .f32) k.val (3392 + n.val) := by
  after_reads_at
  exact entry_eq (U (Proc.devRef .tc main_arg1) : Vec Ideal S2048x8288 .f32) _ _ rfl rfl

/-- The second: the rotary columns in lanes 64 to 95 of 128. -/
theorem placed_w (k : Fin 2048) (l : Fin 128) :
    StableHlo.after hostOps0_1 (StableHlo.after hostOps0 U) (Proc.devRef .tc main_v2) (ix2 k l)
      = if 64 ≤ l.val ∧ l.val - 64 < 32 then entry (U (Proc.devRef .tc main_arg1) : Vec Ideal S2048x8288 .f32) k.val (4096 + l.val) else 0 := by
  by_cases e : 64 ≤ l.val ∧ l.val - 64 < 32
  · rw [if_pos e]
    after_reads_at
    refine (dif_pos e).trans ?_
    exact entry_eq (U (Proc.devRef .tc main_arg1) : Vec Ideal S2048x8288 .f32) _ _ rfl (by dsimp only; omega)
  · rw [if_neg e]
    after_reads_at
    exact (dif_neg e).trans zero_pad

/-- The third: the same with the halves exchanged, the first with its sign changed. -/
theorem exchanged_w (k : Fin 2048) (l : Fin 128) :
    StableHlo.after hostOps0_3 (StableHlo.after hostOps0_2 (StableHlo.after hostOps0_1 (StableHlo.after hostOps0 U))) (Proc.devRef .tc main_v7) (ix2 k l)
      = if 64 ≤ l.val ∧ l.val - 64 < 32 then
          if l.val - 64 < 16 then -entry (U (Proc.devRef .tc main_arg1) : Vec Ideal S2048x8288 .f32) k.val (4096 + l.val + 16)
          else entry (U (Proc.devRef .tc main_arg1) : Vec Ideal S2048x8288 .f32) k.val (4096 + l.val - 16)
        else 0 := by
  by_cases e : 64 ≤ l.val ∧ l.val - 64 < 32
  · rw [if_pos e]
    by_cases h : l.val - 64 < 16
    · rw [if_pos h]
      after_reads_at
      refine (dif_pos e).trans ((dif_pos h).trans ?_)
      after_reads_at
      exact congrArg (fun x : EReal => -x) (entry_eq (U (Proc.devRef .tc main_arg1) : Vec Ideal S2048x8288 .f32) _ _ rfl (by dsimp only; omega))
    · rw [if_neg h]
      after_reads_at
      refine (dif_pos e).trans ((dif_neg h).trans ?_)
      after_reads_at
      exact entry_eq (U (Proc.devRef .tc main_arg1) : Vec Ideal S2048x8288 .f32) _ _ rfl (by dsimp only; omega)
  · rw [if_neg e]
    after_reads_at
    exact (dif_neg e).trans zero_pad

/-- The three stretches together. -/
theorem stretches_w (k : Fin 2048) (n : Fin 1024) :
    StableHlo.after hostOps0_4 U (Proc.devRef .tc main_v9) (ix2 k n)
      = if h : n.val < 768 then (U (Proc.devRef .tc main_v1) : Vec Ideal S2048x768 .f32) (ix2 k ⟨n.val, h⟩)
        else if h' : n.val - 768 < 128 then (U (Proc.devRef .tc main_v2) : Vec Ideal S2048x128 .f32) (ix2 k ⟨n.val - 768, h'⟩)
        else (U (Proc.devRef .tc main_v7) : Vec Ideal S2048x128 .f32) (ix2 k ⟨n.val - 768 - 128, by omega⟩) := by
  by_cases h : n.val < 768
  · rw [dif_pos h]
    after_reads_at
    refine (dif_pos h).trans ?_
    after_reads_at
  rw [dif_neg h]
  by_cases h' : n.val - 768 < 128
  · rw [dif_pos h']
    after_reads_at
    refine (dif_neg h).trans ((dif_pos h').trans ?_)
    after_reads_at
  · rw [dif_neg h']
    after_reads_at
    refine (dif_neg h).trans ((dif_neg h').trans ?_)
    after_reads_at

/-- The norms' weights, each as one row. -/
theorem norm_q (j : Fin 512) : StableHlo.after hostOps1 U (Proc.devRef .tc main_v43) (ix2 0 j)
    = (U (Proc.devRef .tc main_arg4) : Vec Ideal S512 .f32) (ix1 j) := by
  after_reads_at
theorem norm_k (j : Fin 256) : StableHlo.after hostOps1 U (Proc.devRef .tc main_v44) (ix2 0 j)
    = (U (Proc.devRef .tc main_arg5) : Vec Ideal S256 .f32) (ix1 j) := by
  after_reads_at

end Host

end Cert.HeadsIdeal.Val
end
-- ==== Proof.HeadsResult.lean ====
/- What the two calls of the latent attention's preparation leave, from the arguments: the queries, keys and values of
   the plain description, where the rows, the weights of the queries and the norm's weights are real numbers. -/
module

public import proofs.«01_k».proof.Proof.HeadsHost

@[expose] public section

set_option maxRecDepth 16384

noncomputable section

namespace Cert.HeadsIdeal.Val

open Cert.HeadsIdeal Cert.HeadsIdeal.Gen Idealize.ShloMosaic Idealize.ShloMosaic.TcCoe Idealize.SL.Sem Cert.Product Cert.HeadsSpec

variable (m : (ℓ : Loc nD τ sig) → Buf (Elt Ideal) ℓ) (ρ : Dev nD → PrngReg) (c : Dev nD)

/-! ## What the regions find -/

/-- The first region finds the rows, and the attention's columns of the weights in their three stretches. -/
theorem found_h : L0 c (V7 m ρ) = aH m c := W7_args m ρ c main_arg0 (by decide)
theorem kept_w : W7 m ρ c (Proc.devRef .tc main_v9) = W5 m ρ c (Proc.devRef .tc main_v9) :=
  (W7_of m ρ c main_v9 (by decide)).trans (W6_of m ρ c main_v9 (by decide))
theorem found_latent (k : Fin 2048) (n : Fin 1024) (h : n.val < 768) :
    R0 c (V7 m ρ) (ix2 k n) = entry (aW m c) k.val (3392 + n.val) := by
  refine (congrFun (kept_w m ρ c) _).trans ((stretches_w (W4 m ρ c) k n).trans ((dif_pos h).trans ?_))
  have e : W4 m ρ c (Proc.devRef .tc main_v1) = W1 m ρ c (Proc.devRef .tc main_v1) :=
    (W4_of m ρ c main_v1 (by decide)).trans ((W3_of m ρ c main_v1 (by decide)).trans (W2_of m ρ c main_v1 (by decide)))
  exact (congrFun e _).trans (latent_w (W0 m ρ c) k ⟨n.val, h⟩)
theorem found_placed (k : Fin 2048) (l : Fin 128) (n : Fin 1024) (h : n.val = 768 + l.val) :
    R0 c (V7 m ρ) (ix2 k n) = if 64 ≤ l.val ∧ l.val - 64 < 32 then entry (aW m c) k.val (4096 + l.val) else 0 := by
  have e : W4 m ρ c (Proc.devRef .tc main_v2) = W2 m ρ c (Proc.devRef .tc main_v2) :=
    (W4_of m ρ c main_v2 (by decide)).trans (W3_of m ρ c main_v2 (by decide))
  have el : (⟨n.val - 768, by omega⟩ : Fin 128) = l := Fin.ext (by dsimp only; omega)
  refine (congrFun (kept_w m ρ c) _).trans ((stretches_w (W4 m ρ c) k n).trans
    ((dif_neg (by omega)).trans ((dif_pos (by omega)).trans ?_)))
  rw [el]
  exact (congrFun e _).trans (placed_w (W0 m ρ c) k l)
theorem found_exchanged (k : Fin 2048) (l : Fin 128) (n : Fin 1024) (h : n.val = 896 + l.val) :
    R0 c (V7 m ρ) (ix2 k n) = if 64 ≤ l.val ∧ l.val - 64 < 32 then
        if l.val - 64 < 16 then -entry (aW m c) k.val (4096 + l.val + 16) else entry (aW m c) k.val (4096 + l.val - 16)
      else 0 := by
  have el : (⟨n.val - 768 - 128, by omega⟩ : Fin 128) = l := Fin.ext (by dsimp only; omega)
  refine (congrFun (kept_w m ρ c) _).trans ((stretches_w (W4 m ρ c) k n).trans
    ((dif_neg (by omega)).trans ((dif_neg (by omega)).trans ?_)))
  rw [el]
  exact exchanged_w (W0 m ρ c) k l

/-- The second region finds the first one's array, the tables, the norms' weights, and the heads' weights. -/
theorem found_p : P1 c (V9 m ρ) = rows c (V7 m ρ) :=
  (W9_of m ρ c main_v42 (by decide)).trans ((W8_arr m ρ c 2).trans (array0_at c (V7 m ρ)))
theorem found_cos (r : Fin 8448) (l : Fin 128) :
    Co c (V9 m ρ) (ix2 r l) = if r.val < 8192 ∧ 64 ≤ l.val ∧ l.val < 96 then entry (aC m c) r.val ((l.val - 64) % 16) else 1 := by
  have e : W9 m ρ c (Proc.devRef .tc main_v39) = W7 m ρ c (Proc.devRef .tc main_v39) :=
    (W9_of m ρ c main_v39 (by decide)).trans (W8_of m ρ c main_v39 (by decide))
  refine (congrFun e _).trans ((table_c (W6 m ρ c) r l).trans ?_)
  rw [W6_args m ρ c main_arg2 (by decide)]
theorem found_sin (r : Fin 8448) (l : Fin 128) :
    Si c (V9 m ρ) (ix2 r l) = if r.val < 8192 ∧ 64 ≤ l.val ∧ l.val < 96 then entry (aS m c) r.val ((l.val - 64) % 16) else 0 := by
  have e : W9 m ρ c (Proc.devRef .tc main_v41) = W7 m ρ c (Proc.devRef .tc main_v41) :=
    (W9_of m ρ c main_v41 (by decide)).trans (W8_of m ρ c main_v41 (by decide))
  refine (congrFun e _).trans ((table_s (W6 m ρ c) r l).trans ?_)
  rw [W6_args m ρ c main_arg3 (by decide)]
theorem found_gq (j : Fin 512) : Gq c (V9 m ρ) (ix2 0 j) = aQ m c (ix1 j) := by
  refine (norm_q (W8 m ρ c) j).trans ?_
  rw [W8_args m ρ c main_arg4 (by decide)]
theorem found_gk (j : Fin 256) : Gk c (V9 m ρ) (ix2 0 j) = aK m c (ix1 j) := by
  refine (norm_k (W8 m ρ c) j).trans ?_
  rw [W8_args m ρ c main_arg5 (by decide)]
theorem found_plain (k : Fin 512) (b : Fin 2048) :
    Wa c (V9 m ρ) (ix2 k b) = if b.val % 128 < 96 then entry (uQ m c) k.val (96 * (b.val / 128) + b.val % 128) else 0 := by
  have e : W9 m ρ c (Proc.devRef .tc main_v14) = W5 m ρ c (Proc.devRef .tc main_v14) :=
    (W9_of m ρ c main_v14 (by decide)).trans ((W8_of m ρ c main_v14 (by decide)).trans
      ((W7_of m ρ c main_v14 (by decide)).trans (W6_of m ρ c main_v14 (by decide))))
  refine (congrFun e _).trans ((plain_w (W4 m ρ c) k b).trans ?_)
  rw [W4_args m ρ c main_arg6 (by decide)]
theorem found_swapped (k : Fin 512) (b : Fin 2048) :
    Ws c (V9 m ρ) (ix2 k b) = if b.val % 128 < 64 then 0
      else if b.val % 128 - 64 < 32 then
        if b.val % 128 - 64 < 16 then -entry (uQ m c) k.val (96 * (b.val / 128) + b.val % 128 + 16)
        else entry (uQ m c) k.val (96 * (b.val / 128) + b.val % 128 - 16)
      else 0 := by
  have e : W9 m ρ c (Proc.devRef .tc main_v23) = W5 m ρ c (Proc.devRef .tc main_v23) :=
    (W9_of m ρ c main_v23 (by decide)).trans ((W8_of m ρ c main_v23 (by decide)).trans
      ((W7_of m ρ c main_v23 (by decide)).trans (W6_of m ρ c main_v23 (by decide))))
  refine (congrFun e _).trans ((swapped_w (W4 m ρ c) k b).trans ?_)
  rw [W4_args m ρ c main_arg6 (by decide)]
theorem found_keys (k : Fin 256) (b : Fin 2048) :
    Wk c (V9 m ρ) (ix2 k b) = if b.val % 128 < 64 then entry (uK m c) k.val b.val else 0 := by
  have e : W9 m ρ c (Proc.devRef .tc main_v28) = W7 m ρ c (Proc.devRef .tc main_v28) :=
    (W9_of m ρ c main_v28 (by decide)).trans (W8_of m ρ c main_v28 (by decide))
  refine (congrFun e _).trans ((keys_w (W4 m ρ c) k b).trans ?_)
  rw [W4_args m ρ c main_arg7 (by decide)]
theorem found_values (k : Fin 256) (b : Fin 1024) :
    Wv c (V9 m ρ) (ix2 k b) = entry (uK m c) k.val (128 * (b.val / 64) + 64 + b.val % 64) := by
  have e : W9 m ρ c (Proc.devRef .tc main_v31) = W7 m ρ c (Proc.devRef .tc main_v31) :=
    (W9_of m ρ c main_v31 (by decide)).trans (W8_of m ρ c main_v31 (by decide))
  refine (congrFun e _).trans ((values_w (W4 m ρ c) k b).trans ?_)
  rw [W4_args m ρ c main_arg7 (by decide)]

/-! ## The products -/

/-- The norms' weights by their number. -/
abbrev gQ (j : Fin 512) : EReal := aQ m c (ix1 j)
abbrev gK (j : Fin 256) : EReal := aK m c (ix1 j)

/-- The rows' products: with the latents' columns. -/
theorem rows_latent (a : Fin 16896) (n : Fin 1024) (h : n.val < 768) :
    P1 c (V9 m ρ) (ix2 a n) = proj (aH m c) (aW m c) a n.val := by
  rw [found_p]
  unfold rows proj mul
  rw [found_h]
  exact Finset.sum_congr rfl fun k _ => congrArg (aH m c (ix2 a k) * ·) (found_latent m ρ c k n h)

/-- With the rotary columns in their lanes. -/
theorem rows_placed (a : Fin 16896) (l : Fin 128) (n : Fin 1024) (h : n.val = 768 + l.val) :
    P1 c (V9 m ρ) (ix2 a n) = if 64 ≤ l.val ∧ l.val - 64 < 32 then proj (aH m c) (aW m c) a (768 + (l.val - 64)) else 0 := by
  rw [found_p]
  unfold rows
  rw [found_h]
  by_cases e : 64 ≤ l.val ∧ l.val - 64 < 32
  · rw [if_pos e]
    unfold proj mul
    refine Finset.sum_congr rfl fun k _ => congrArg (aH m c (ix2 a k) * ·) ?_
    refine (found_placed m ρ c k l n h).trans ((if_pos e).trans ?_)
    rw [show 3392 + (768 + (l.val - 64)) = 4096 + l.val from by omega]
  · rw [if_neg e]
    exact mul_zero_column fun k => (found_placed m ρ c k l n h).trans (if_neg e)

/-- With the exchanged columns: the change of sign leaves the sum, whose terms are real numbers. -/
theorem rows_exchanged (hH : ∀ i, IsReal (aH m c i)) (hW : ∀ i, IsReal (aW m c i)) (a : Fin 16896) (l : Fin 128) (n : Fin 1024)
    (h : n.val = 896 + l.val) :
    P1 c (V9 m ρ) (ix2 a n) = if 64 ≤ l.val ∧ l.val - 64 < 32 then
        if l.val - 64 < 16 then -proj (aH m c) (aW m c) a (768 + (l.val - 64 + 16))
        else proj (aH m c) (aW m c) a (768 + (l.val - 64 - 16))
      else 0 := by
  rw [found_p]
  unfold rows
  rw [found_h]
  by_cases e : 64 ≤ l.val ∧ l.val - 64 < 32
  · rw [if_pos e]
    by_cases e' : l.val - 64 < 16
    · rw [if_pos e']
      unfold proj
      rw [show 3392 + (768 + (l.val - 64 + 16)) = 4096 + l.val + 16 from by omega]
      refine Eq.trans ?_ (sum_mul_neg (fun k : Fin 2048 => hH (ix2 a k)) (fun k : Fin 2048 => entry_real hW k.val (4096 + l.val + 16)))
      exact Finset.sum_congr rfl fun k _ => congrArg (aH m c (ix2 a k) * ·)
        ((found_exchanged m ρ c k l n h).trans ((if_pos e).trans (if_pos e')))
    · rw [if_neg e']
      unfold proj
      rw [show 3392 + (768 + (l.val - 64 - 16)) = 4096 + l.val - 16 from by omega]
      exact Finset.sum_congr rfl fun k _ => congrArg (aH m c (ix2 a k) * ·)
        ((found_exchanged m ρ c k l n h).trans ((if_pos e).trans (if_neg e')))
  · rw [if_neg e]
    exact mul_zero_column fun k => (found_exchanged m ρ c k l n h).trans (if_neg e)

/-- The normed latents. -/
theorem lat_q_eq (a : Fin 16896) (k : Fin 512) : lat_q c (V9 m ρ) (ix2 a k) = latQ (aH m c) (aW m c) (gQ m c) a k :=
  congrArg₂ (fun x g => normed nq x g k) (funext fun j => rows_latent m ρ c a _ (by dsimp only; omega)) (funext fun j => found_gq m ρ c j)
theorem lat_k_eq (a : Fin 16896) (k : Fin 256) : lat_k c (V9 m ρ) (ix2 a k) = latK (aH m c) (aW m c) (gK m c) a k :=
  congrArg₂ (fun x g => normed nkv x g k) (funext fun j => rows_latent m ρ c a _ (by dsimp only; omega)) (funext fun j => found_gk m ρ c j)

/-- The heads' products: the queries' plain ones. -/
theorem plain_eq (a : Fin 16896) (b : Fin 2048) : mul (lat_q c (V9 m ρ)) (Wa c (V9 m ρ)) a b
    = if b.val % 128 < 96 then colQ (aH m c) (aW m c) (gQ m c) (uQ m c) a (96 * (b.val / 128) + b.val % 128) else 0 := by
  by_cases h : b.val % 128 < 96
  · rw [if_pos h]
    exact Finset.sum_congr rfl fun k _ => congrArg₂ (fun x y : EReal => x * y) (lat_q_eq m ρ c a k)
      ((found_plain m ρ c k b).trans (if_pos h))
  · rw [if_neg h]
    exact mul_zero_column fun k => (found_plain m ρ c k b).trans (if_neg h)

/-- The entries of the normed latents of real rows are real. -/
theorem latQ_real (hH : ∀ i, IsReal (aH m c i)) (hW : ∀ i, IsReal (aW m c i)) (hQ : ∀ i, IsReal (aQ m c i)) (a : Fin 16896) (k : Fin 512) :
    IsReal (latQ (aH m c) (aW m c) (gQ m c) a k) :=
  normed_real (fun _ => IsReal.sum fun k => (hH (ix2 a k)).mul (entry_real hW _ _)) (fun _ => hQ _) k

/-- The queries' exchanged ones. -/
theorem swapped_eq (hH : ∀ i, IsReal (aH m c i)) (hW : ∀ i, IsReal (aW m c i)) (hQ : ∀ i, IsReal (aQ m c i)) (hU : ∀ i, IsReal (uQ m c i))
    (a : Fin 16896) (b : Fin 2048) : mul (lat_q c (V9 m ρ)) (Ws c (V9 m ρ)) a b
    = if b.val % 128 < 64 then 0
      else if b.val % 128 - 64 < 32 then
        if b.val % 128 - 64 < 16 then -colQ (aH m c) (aW m c) (gQ m c) (uQ m c) a (96 * (b.val / 128) + b.val % 128 + 16)
        else colQ (aH m c) (aW m c) (gQ m c) (uQ m c) a (96 * (b.val / 128) + b.val % 128 - 16)
      else 0 := by
  by_cases h : b.val % 128 < 64
  · rw [if_pos h]
    exact mul_zero_column fun k => (found_swapped m ρ c k b).trans (if_pos h)
  rw [if_neg h]
  by_cases h' : b.val % 128 - 64 < 32
  · rw [if_pos h']
    by_cases h'' : b.val % 128 - 64 < 16
    · rw [if_pos h'']
      refine Eq.trans ?_ (sum_mul_neg (fun k : Fin 512 => latQ_real m c hH hW hQ a k)
        (fun k : Fin 512 => entry_real hU k.val (96 * (b.val / 128) + b.val % 128 + 16)))
      exact Finset.sum_congr rfl fun k _ => congrArg₂ (fun x y : EReal => x * y) (lat_q_eq m ρ c a k)
        ((found_swapped m ρ c k b).trans ((if_neg h).trans ((if_pos h').trans (if_pos h''))))
    · rw [if_neg h'']
      exact Finset.sum_congr rfl fun k _ => congrArg₂ (fun x y : EReal => x * y) (lat_q_eq m ρ c a k)
        ((found_swapped m ρ c k b).trans ((if_neg h).trans ((if_pos h').trans (if_neg h''))))
  · rw [if_neg h']
    exact mul_zero_column fun k => (found_swapped m ρ c k b).trans ((if_neg h).trans (if_neg h'))

/-- The keys' and the values'. -/
theorem keys_eq (a : Fin 16896) (b : Fin 2048) : mul (lat_k c (V9 m ρ)) (Wk c (V9 m ρ)) a b
    = if b.val % 128 < 64 then colK (aH m c) (aW m c) (gK m c) (uK m c) a b.val else 0 := by
  by_cases h : b.val % 128 < 64
  · rw [if_pos h]
    exact Finset.sum_congr rfl fun k _ => congrArg₂ (fun x y : EReal => x * y) (lat_k_eq m ρ c a k)
      ((found_keys m ρ c k b).trans (if_pos h))
  · rw [if_neg h]
    exact mul_zero_column fun k => (found_keys m ρ c k b).trans (if_neg h)
theorem values_eq (a : Fin 16896) (b : Fin 1024) : mul (lat_k c (V9 m ρ)) (Wv c (V9 m ρ)) a b
    = colK (aH m c) (aW m c) (gK m c) (uK m c) a (128 * (b.val / 64) + 64 + b.val % 64) :=
  Finset.sum_congr rfl fun k _ => congrArg₂ (fun x y : EReal => x * y) (lat_k_eq m ρ c a k) (found_values m ρ c k b)

/-! ## The rotation -/

/-- Outside the rotary lanes the tables leave a lane as it is. -/
theorem unturned (A : EReal) (r : Fin 8448) (l : Fin 128) (h : l.val < 64 ∨ 96 ≤ l.val) :
    A * Co c (V9 m ρ) (ix2 r l) + 0 * Si c (V9 m ρ) (ix2 r l) = A := by
  rw [found_cos, if_neg (by omega), mul_one, zero_mul, add_zero]

/-- In the rotary lanes a lane times the cosines and the exchanged lane times the sines make the rotation. -/
theorem turned (x : ℕ → EReal) (A B : EReal) (r : Fin 8448) (l : Fin 128) (h : 64 ≤ l.val) (h' : l.val < 96)
    (hA : A = x (l.val - 64)) (hB : B = if l.val - 64 < 16 then -x (l.val - 64 + 16) else x (l.val - 64 - 16)) :
    A * Co c (V9 m ρ) (ix2 r l) + B * Si c (V9 m ρ) (ix2 r l) = rot (aC m c) (aS m c) x r.val (l.val - 64) := by
  rw [found_cos, found_sin, hA, hB]
  unfold rot
  by_cases e : r.val < 8192
  · have E : r.val < 8192 ∧ 64 ≤ l.val ∧ l.val < 96 := ⟨e, h, h'⟩
    rw [if_pos E, if_pos E, if_pos e]
    by_cases f : l.val - 64 < 16
    · rw [if_pos f, if_pos f, show (l.val - 64) % 16 = l.val - 64 from by omega, EReal.neg_mul, sub_eq_add_neg]
    · rw [if_neg f, if_neg f, show (l.val - 64) % 16 = l.val - 64 - 16 from by omega, add_comm]
  · have E : ¬(r.val < 8192 ∧ 64 ≤ l.val ∧ l.val < 96) := fun E => e E.1
    rw [if_neg E, if_neg E, if_neg e, mul_one, mul_zero, add_zero]

/-! ## The results -/

/-- The queries, the keys and the values from the arguments. -/
def resultQ : Vec Ideal S16896x2048 .bf16 := fun i =>
  query (aH m c) (aW m c) (aC m c) (aS m c) (gQ m c) (uQ m c) (i 0) ((i 1).val / 128) ((i 1).val % 128)
def resultK : Vec Ideal S16896x2048 .bf16 := fun i =>
  key (aH m c) (aW m c) (aC m c) (aS m c) (gK m c) (uK m c) (i 0) ((i 1).val / 128) ((i 1).val % 128)
def resultV : Vec Ideal S16896x1024 .bf16 := fun i =>
  colK (aH m c) (aW m c) (gK m c) (uK m c) (i 0) (128 * ((i 1).val / 64) + 64 + (i 1).val % 64)

theorem queries_eq (hH : ∀ i, IsReal (aH m c i)) (hW : ∀ i, IsReal (aW m c i)) (hQ : ∀ i, IsReal (aQ m c i)) (hU : ∀ i, IsReal (uQ m c i)) :
    queries c (V9 m ρ) = resultQ m c := by
  funext i
  idx_vars i
  unfold queries resultQ query
  change (mul _ _ i0 i1 * _ + mul _ _ i0 i1 * _) * _ = _
  rw [plain_eq m ρ c, swapped_eq m ρ c hH hW hQ hU]
  change (_ * Co c (V9 m ρ) (ix2 (place i0) (lane i1)) + _ * Si c (V9 m ρ) (ix2 (place i0) (lane i1))) * _
    = if i1.val % 128 < 64 then _ else if i1.val % 128 < 96 then _ else _
  by_cases h : i1.val % 128 < 64
  · rw [if_pos h, if_pos h, if_pos (by omega)]
    exact congrArg (· * scale) (unturned m ρ c _ (place i0) (lane i1) (Or.inl h))
  rw [if_neg h, if_neg h]
  by_cases h' : i1.val % 128 < 96
  · rw [if_pos h', if_pos h', if_pos (by omega)]
    refine congrArg (· * scale) (turned m ρ c _ _ _ (place i0) (lane i1) (by change 64 ≤ i1.val % 128; omega) h' ?_ ?_)
    · exact congrArg (colQ _ _ _ _ i0) (by change _ = 96 * (i1.val / 128) + 64 + (i1.val % 128 - 64); omega)
    · by_cases f : i1.val % 128 - 64 < 16
      · rw [if_pos f, if_pos (show (lane i1).val - 64 < 16 from f)]
        exact congrArg (fun n => -colQ _ _ _ _ i0 n) (by change _ = 96 * (i1.val / 128) + 64 + (i1.val % 128 - 64 + 16); omega)
      · rw [if_neg f, if_neg (show ¬(lane i1).val - 64 < 16 from f)]
        exact congrArg (fun n => colQ _ _ _ _ i0 n) (by change _ = 96 * (i1.val / 128) + 64 + (i1.val % 128 - 64 - 16); omega)
  · rw [if_neg h', if_neg h', if_neg (by omega)]
    refine (congrArg (· * scale) (unturned m ρ c 0 (place i0) (lane i1) (Or.inr (by change 96 ≤ i1.val % 128; omega)))).trans ?_
    exact zero_mul _

theorem keys_result (hH : ∀ i, IsReal (aH m c i)) (hW : ∀ i, IsReal (aW m c i)) : keys c (V9 m ρ) = resultK m c := by
  funext i
  idx_vars i
  unfold keys resultK key
  change mul _ _ i0 i1 + (P1 c (V9 m ρ) (ix2 i0 ⟨768 + (lane i1).val, by have := (lane i1).isLt; omega⟩) * _
    + P1 c (V9 m ρ) (ix2 i0 ⟨896 + (lane i1).val, by have := (lane i1).isLt; omega⟩) * _) = _
  rw [keys_eq m ρ c, rows_placed m ρ c i0 (lane i1) _ rfl, rows_exchanged m ρ c hH hW i0 (lane i1) _ rfl]
  change (if i1.val % 128 < 64 then _ else _) + ((if 64 ≤ i1.val % 128 ∧ i1.val % 128 - 64 < 32 then _ else _) * Co c (V9 m ρ) (ix2 (place i0) (lane i1))
      + (if 64 ≤ i1.val % 128 ∧ i1.val % 128 - 64 < 32 then _ else _) * Si c (V9 m ρ) (ix2 (place i0) (lane i1)))
    = if i1.val % 128 < 64 then _ else if i1.val % 128 < 96 then _ else _
  by_cases h : i1.val % 128 < 64
  · rw [if_pos h, if_pos h, if_neg (by omega), if_neg (by omega)]
    refine (congrArg (_ + ·) (unturned m ρ c 0 (place i0) (lane i1) (Or.inl h))).trans ((add_zero _).trans ?_)
    exact congrArg (colK _ _ _ _ i0) (by change i1.val = 128 * (i1.val / 128) + i1.val % 128; omega)
  rw [if_neg h, if_neg h, zero_add]
  by_cases h' : i1.val % 128 < 96
  · rw [if_pos h', if_pos (by omega), if_pos (by omega)]
    exact turned m ρ c (fun n => proj _ _ i0 (768 + n)) _ _ (place i0) (lane i1) (by change 64 ≤ i1.val % 128; omega) h' rfl rfl
  · rw [if_neg h', if_neg (by omega), if_neg (by omega)]
    exact unturned m ρ c 0 (place i0) (lane i1) (Or.inr (by change 96 ≤ i1.val % 128; omega))

theorem values_result : values c (V9 m ρ) = resultV m c := by
  funext i
  exact values_eq m ρ c (i 0) (i 1)

/-- The three arrays at the end of the run. -/
theorem end_q (hH : ∀ i, IsReal (aH m c i)) (hW : ∀ i, IsReal (aW m c i)) (hQ : ∀ i, IsReal (aQ m c i)) (hU : ∀ i, IsReal (uQ m c i)) :
    W10 m ρ c (Pipeline.arrRef spec1 9) = resultQ m c :=
  (W10_arr m ρ c 9).trans ((array_queries c (V9 m ρ)).trans (queries_eq m ρ c hH hW hQ hU))
theorem end_k (hH : ∀ i, IsReal (aH m c i)) (hW : ∀ i, IsReal (aW m c i)) :
    W10 m ρ c (Pipeline.arrRef spec1 10) = resultK m c :=
  (W10_arr m ρ c 10).trans ((array_keys c (V9 m ρ)).trans (keys_result m ρ c hH hW))
theorem end_v : W10 m ρ c (Pipeline.arrRef spec1 11) = resultV m c :=
  (W10_arr m ρ c 11).trans ((array_values c (V9 m ρ)).trans (values_result m ρ c))

end Cert.HeadsIdeal.Val

end
-- ==== Proof.HeadsRef.lean ====
/- The reference of the latent attention's preparation, piece by piece, each read at an element: the results are those
   of the plain description. -/
module

public import proofs.«01_k».proof.Proof.HeadsSpec
public import proofs.«01_k».proof.Proof.Gen.HeadsRefIdeal.Run
public import Idealize.ShloMosaic.Lib.Pipeline.ValueKit
public import Idealize.ShloMosaic.Lib.StableHlo.ReadAt

@[expose] public section

set_option maxRecDepth 16384

noncomputable section

namespace Cert.HeadsRefIdeal.Val

open Cert.HeadsRefIdeal Cert.HeadsRefIdeal.Gen Idealize.ShloMosaic Idealize.ShloMosaic.TcCoe Idealize.SL.Sem Cert.HeadsSpec

/-- Row `r` of batch row `q` among all the rows. -/
abbrev row (q : Fin 2) (r : Fin 8448) : Fin 16896 := ⟨q.val * 8448 + r.val, by omega⟩

/-! ## The rows' products and the norms -/

/-- The rows' products with the attention's columns of the weights. -/
def cols (H : FVec Ideal S16896x2048 .bf16) (W : FVec Ideal S2048x8288 .f32) : FVec Ideal S2x8448x800 .f32 :=
  shapeCast _ (extractStridedSlice S16896x800 ![0, 3392]
    (Host.dotGeneral (φ₁ := .f32) (φ₂ := .f32) dot_S16896x2048_S2048x8288_S16896x8288_1_0_0_1_n_n none (extf .f32 H bitsLt_bf16_f32) W)
    slices_S16896x8288_S16896x800_0_3392) shapeCasts_S16896x800_S2x8448x800

theorem cols_at (H : FVec Ideal S16896x2048 .bf16) (W : FVec Ideal S2048x8288 .f32) (q : Fin 2) (r : Fin 8448) (n : Fin 800) :
    cols H W (ix3 q r n) = proj H W (row q r) n.val := by
  unfold cols proj
  pointwise
  exact Finset.sum_congr rfl fun k _ => congrArg (H (ix2 (row q r) k) * ·) (entry_eq W _ _ rfl rfl)

/-- The norm of rows of 512, and of 256. -/
def norm_q (X : FVec Ideal S2x8448x512 .f32) (g : FVec Ideal S512 .f32) : FVec Ideal S2x8448x512 .f32 :=
  mulf (mulf X (broadcastInDim S2x8448x512 ![0, 1, 2] bcast_S2x8448x1_S2x8448x512_0_1_2 (Host.rsqrt (addf (Host.divf
    (broadcastInDim S2x8448x1 ![0, 1] bcast_S2x8448_S2x8448x1_0_1 (Host.reduceAdd (mulf X X) (constant S_ .f32 0x00000000#32) reducesTo_S2x8448x512_S2x8448_d2 h_S_))
    (broadcastInDim S2x8448x1 ![] bcast_S_S2x8448x1 (constant S_ .f32 0x44000000#32)))
    (broadcastInDim S2x8448x1 ![] bcast_S_S2x8448x1 (constant S_ .f32 0x358637BD#32))))))
    (broadcastInDim S2x8448x512 ![0, 1, 2] bcast_S1x1x512_S2x8448x512_0_1_2 (broadcastInDim S1x1x512 ![2] bcast_S512_S1x1x512_2 g))
def norm_k (X : FVec Ideal S2x8448x256 .f32) (g : FVec Ideal S256 .f32) : FVec Ideal S2x8448x256 .f32 :=
  mulf (mulf X (broadcastInDim S2x8448x256 ![0, 1, 2] bcast_S2x8448x1_S2x8448x256_0_1_2 (Host.rsqrt (addf (Host.divf
    (broadcastInDim S2x8448x1 ![0, 1] bcast_S2x8448_S2x8448x1_0_1 (Host.reduceAdd (mulf X X) (constant S_ .f32 0x00000000#32) reducesTo_S2x8448x256_S2x8448_d2 h_S_))
    (broadcastInDim S2x8448x1 ![] bcast_S_S2x8448x1 (constant S_ .f32 0x43800000#32)))
    (broadcastInDim S2x8448x1 ![] bcast_S_S2x8448x1 (constant S_ .f32 0x358637BD#32))))))
    (broadcastInDim S2x8448x256 ![0, 1, 2] bcast_S1x1x256_S2x8448x256_0_1_2 (broadcastInDim S1x1x256 ![2] bcast_S256_S1x1x256_2 g))

theorem norm_q_at (X : FVec Ideal S2x8448x512 .f32) (g : FVec Ideal S512 .f32) (q : Fin 2) (r : Fin 8448) (k : Fin 512) :
    norm_q X g (ix3 q r k) = normed nq (fun j : Fin 512 => X (ix3 q r j)) (fun j => g (ix1 j)) k := by
  unfold norm_q normed
  pointwise
theorem norm_k_at (X : FVec Ideal S2x8448x256 .f32) (g : FVec Ideal S256 .f32) (q : Fin 2) (r : Fin 8448) (k : Fin 256) :
    norm_k X g (ix3 q r k) = normed nkv (fun j : Fin 256 => X (ix3 q r j)) (fun j => g (ix1 j)) k := by
  unfold norm_k normed
  pointwise

/-- The slices of the products that the norms take, and the keys' rotary columns. -/
def part_q (P : FVec Ideal S2x8448x800 .f32) : FVec Ideal S2x8448x512 .f32 :=
  extractStridedSlice S2x8448x512 ![0, 0, 0] P slices_S2x8448x800_S2x8448x512_0_0_0
def part_k (P : FVec Ideal S2x8448x800 .f32) : FVec Ideal S2x8448x256 .f32 :=
  extractStridedSlice S2x8448x256 ![0, 0, 512] P slices_S2x8448x800_S2x8448x256_0_0_512
def part_r (P : FVec Ideal S2x8448x800 .f32) : FVec Ideal S2x8448x32 .f32 :=
  extractStridedSlice S2x8448x32 ![0, 0, 768] P slices_S2x8448x800_S2x8448x32_0_0_768

theorem part_q_at (H : FVec Ideal S16896x2048 .bf16) (W : FVec Ideal S2048x8288 .f32) (q : Fin 2) (r : Fin 8448) (n : Fin 512) :
    part_q (cols H W) (ix3 q r n) = proj H W (row q r) n.val := by
  refine Eq.trans ?_ (cols_at H W q r ⟨n.val, by omega⟩)
  unfold part_q
  pointwise
theorem part_k_at (H : FVec Ideal S16896x2048 .bf16) (W : FVec Ideal S2048x8288 .f32) (q : Fin 2) (r : Fin 8448) (n : Fin 256) :
    part_k (cols H W) (ix3 q r n) = proj H W (row q r) (512 + n.val) := by
  refine Eq.trans ?_ (cols_at H W q r ⟨512 + n.val, by omega⟩)
  unfold part_k
  pointwise
theorem part_r_at (H : FVec Ideal S16896x2048 .bf16) (W : FVec Ideal S2048x8288 .f32) (q : Fin 2) (r : Fin 8448) (n : Fin 32) :
    part_r (cols H W) (ix3 q r n) = proj H W (row q r) (768 + n.val) := by
  refine Eq.trans ?_ (cols_at H W q r ⟨768 + n.val, by omega⟩)
  unfold part_r
  pointwise

/-! ## The heads' products -/

/-- The normed rows times the heads' weights: 96 columns per head for the queries, 128 for the keys and values. -/
def heads_q (N : FVec Ideal S2x8448x512 .f32) (U : FVec Ideal S512x1536 .f32) : FVec Ideal S2x8448x16x96 .f32 :=
  shapeCast _ (Host.dotGeneral (φ₁ := .f32) (φ₂ := .f32) dot_S2x8448x512_S512x1536_S2x8448x1536_2_0_01_1_n_n none N U)
    shapeCasts_S2x8448x1536_S2x8448x16x96
def heads_k (N : FVec Ideal S2x8448x256 .f32) (U : FVec Ideal S256x2048 .f32) : FVec Ideal S2x8448x16x128 .f32 :=
  shapeCast _ (Host.dotGeneral (φ₁ := .f32) (φ₂ := .f32) dot_S2x8448x256_S256x2048_S2x8448x2048_2_0_01_1_n_n none N U)
    shapeCasts_S2x8448x2048_S2x8448x16x128

theorem heads_q_at (N : FVec Ideal S2x8448x512 .f32) (U : FVec Ideal S512x1536 .f32) (q : Fin 2) (r : Fin 8448) (h : Fin 16) (l : Fin 96) :
    heads_q N U (ix4 q r h l) = ∑ k : Fin 512, N (ix3 q r k) * entry U k.val (96 * h.val + l.val) := by
  unfold heads_q
  pointwise
  exact Finset.sum_congr rfl fun k _ => congrArg (N (ix3 q r k) * ·) (entry_eq U _ _ rfl (by dsimp only; omega))
theorem heads_k_at (N : FVec Ideal S2x8448x256 .f32) (U : FVec Ideal S256x2048 .f32) (q : Fin 2) (r : Fin 8448) (h : Fin 16) (l : Fin 128) :
    heads_k N U (ix4 q r h l) = ∑ k : Fin 256, N (ix3 q r k) * entry U k.val (128 * h.val + l.val) := by
  unfold heads_k
  pointwise
  exact Finset.sum_congr rfl fun k _ => congrArg (N (ix3 q r k) * ·) (entry_eq U _ _ rfl (by dsimp only; omega))

/-- The queries' columns from the arguments, and the keys' and values'. -/
theorem col_q_at (H : FVec Ideal S16896x2048 .bf16) (W : FVec Ideal S2048x8288 .f32) (g : FVec Ideal S512 .f32) (U : FVec Ideal S512x1536 .f32)
    (q : Fin 2) (r : Fin 8448) (h : Fin 16) (l : Fin 96) :
    heads_q (norm_q (part_q (cols H W)) g) U (ix4 q r h l) = colQ H W (fun j => g (ix1 j)) U (row q r) (96 * h.val + l.val) := by
  rw [heads_q_at]
  refine Finset.sum_congr rfl fun k _ => congrArg (· * _) ((norm_q_at _ g q r k).trans ?_)
  exact congrArg (fun x => normed nq x _ k) (funext fun j => part_q_at H W q r j)
theorem col_k_at (H : FVec Ideal S16896x2048 .bf16) (W : FVec Ideal S2048x8288 .f32) (g : FVec Ideal S256 .f32) (U : FVec Ideal S256x2048 .f32)
    (q : Fin 2) (r : Fin 8448) (h : Fin 16) (l : Fin 128) :
    heads_k (norm_k (part_k (cols H W)) g) U (ix4 q r h l) = colK H W (fun j => g (ix1 j)) U (row q r) (128 * h.val + l.val) := by
  rw [heads_k_at]
  refine Finset.sum_congr rfl fun k _ => congrArg (· * _) ((norm_k_at _ g q r k).trans ?_)
  exact congrArg (fun x => normed nkv x _ k) (funext fun j => part_k_at H W q r j)

/-! ## The rotation -/

/-- The queries' tables, and the rotation of their rotary lanes. -/
def table_q (T : FVec Ideal S8192x16 .f32) : FVec Ideal S2x8192x16x16 .f32 :=
  broadcastInDim S2x8192x16x16 ![0, 1, 2, 3] bcast_S1x8192x1x16_S2x8192x16x16_0_1_2_3 (broadcastInDim S1x8192x1x16 ![1, 2, 3]
    bcast_S8192x1x16_S1x8192x1x16_1_2_3 (broadcastInDim S8192x1x16 ![0, 2] bcast_S8192x16_S8192x1x16_0_2 T))
def half_q (X : FVec Ideal S2x8192x16x32 .f32) : FVec Ideal S2x8192x16x16 .f32 :=
  extractStridedSlice S2x8192x16x16 ![0, 0, 0, 0] X slices_S2x8192x16x32_S2x8192x16x16_0_0_0_0
def half_q' (X : FVec Ideal S2x8192x16x32 .f32) : FVec Ideal S2x8192x16x16 .f32 :=
  extractStridedSlice S2x8192x16x16 ![0, 0, 0, 16] X slices_S2x8192x16x32_S2x8192x16x16_0_0_0_16
def turn_q (X : FVec Ideal S2x8192x16x32 .f32) (C S : FVec Ideal S8192x16 .f32) : FVec Ideal S2x8192x16x32 .f32 :=
  concatenate S2x8192x16x32 3 [⟨S2x8192x16x16, (subf (mulf (half_q X) (table_q C)) (mulf (half_q' X) (table_q S)))⟩,
    ⟨S2x8192x16x16, (addf (mulf (half_q X) (table_q S)) (mulf (half_q' X) (table_q C)))⟩] concatenates_S2x8192x16x16_S2x8192x16x16_S2x8192x16x32_d3
def rot_q (X : FVec Ideal S2x8448x16x32 .f32) (C S : FVec Ideal S8192x16 .f32) : FVec Ideal S2x8448x16x32 .f32 :=
  concatenate S2x8448x16x32 1 [⟨S2x8192x16x32, (turn_q (extractStridedSlice S2x8192x16x32 ![0, 0, 0, 0] X slices_S2x8448x16x32_S2x8192x16x32_0_0_0_0) C S)⟩,
    ⟨S2x256x16x32, (extractStridedSlice S2x256x16x32 ![0, 8192, 0, 0] X slices_S2x8448x16x32_S2x256x16x32_0_8192_0_0)⟩]
    concatenates_S2x8192x16x32_S2x256x16x32_S2x8448x16x32_d1

/-- They read at an element. -/
theorem turn_q_at (X : FVec Ideal S2x8192x16x32 .f32) (C S : FVec Ideal S8192x16 .f32) (q : Fin 2) (r : Fin 8192) (h : Fin 16) (l : Fin 32)
    (x : ℕ → EReal) (hx : ∀ n : Fin 32, X (ix4 q r h n) = x n.val) :
    turn_q X C S (ix4 q r h l) = if l.val < 16 then x l.val * entry C r.val l.val - x (l.val + 16) * entry S r.val l.val
      else x (l.val - 16) * entry S r.val (l.val - 16) + x l.val * entry C r.val (l.val - 16) := by
  unfold turn_q half_q half_q' table_q
  pointwise
  by_cases e : l.val < 16
  · rw [dif_pos e, if_pos e, hx, hx, entry_eq C r _ rfl rfl, entry_eq S r _ rfl rfl]
    dsimp only
    rw [add_comm 16 l.val]
  · rw [dif_neg e, if_neg e, hx, hx, entry_eq C r _ rfl rfl, entry_eq S r _ rfl rfl]
    dsimp only
    rw [show 16 + (l.val - 16) = l.val from by omega]
theorem rot_q_at (X : FVec Ideal S2x8448x16x32 .f32) (C S : FVec Ideal S8192x16 .f32) (q : Fin 2) (r : Fin 8448) (h : Fin 16) (l : Fin 32)
    (x : ℕ → EReal) (hx : ∀ n : Fin 32, X (ix4 q r h n) = x n.val) : rot_q X C S (ix4 q r h l) = rot C S x r.val l.val := by
  unfold rot_q rot
  pointwise
  by_cases e : r.val < 8192
  · rw [dif_pos e, if_pos e]
    refine turn_q_at _ C S q ⟨r.val, e⟩ h l x fun n => ?_
    refine Eq.trans ?_ (hx n)
    pointwise
  · rw [dif_neg e, if_neg e]
    refine Eq.trans ?_ (hx l)
    exact congrArg (fun r => X (ix4 q r h l)) (Fin.ext (by dsimp only; omega))

/-- The same of the keys, whose rotary lanes all heads share. -/
def table_k (T : FVec Ideal S8192x16 .f32) : FVec Ideal S2x8192x16 .f32 :=
  broadcastInDim S2x8192x16 ![0, 1, 2] bcast_S1x8192x16_S2x8192x16_0_1_2 (broadcastInDim S1x8192x16 ![1, 2] bcast_S8192x16_S1x8192x16_1_2 T)
def half_k (X : FVec Ideal S2x8192x32 .f32) : FVec Ideal S2x8192x16 .f32 :=
  extractStridedSlice S2x8192x16 ![0, 0, 0] X slices_S2x8192x32_S2x8192x16_0_0_0
def half_k' (X : FVec Ideal S2x8192x32 .f32) : FVec Ideal S2x8192x16 .f32 :=
  extractStridedSlice S2x8192x16 ![0, 0, 16] X slices_S2x8192x32_S2x8192x16_0_0_16
def turn_k (X : FVec Ideal S2x8192x32 .f32) (C S : FVec Ideal S8192x16 .f32) : FVec Ideal S2x8192x32 .f32 :=
  concatenate S2x8192x32 2 [⟨S2x8192x16, (subf (mulf (half_k X) (table_k C)) (mulf (half_k' X) (table_k S)))⟩,
    ⟨S2x8192x16, (addf (mulf (half_k X) (table_k S)) (mulf (half_k' X) (table_k C)))⟩] concatenates_S2x8192x16_S2x8192x16_S2x8192x32_d2
def rot_k (X : FVec Ideal S2x8448x32 .f32) (C S : FVec Ideal S8192x16 .f32) : FVec Ideal S2x8448x32 .f32 :=
  concatenate S2x8448x32 1 [⟨S2x8192x32, (turn_k (extractStridedSlice S2x8192x32 ![0, 0, 0] X slices_S2x8448x32_S2x8192x32_0_0_0) C S)⟩,
    ⟨S2x256x32, (extractStridedSlice S2x256x32 ![0, 8192, 0] X slices_S2x8448x32_S2x256x32_0_8192_0)⟩]
    concatenates_S2x8192x32_S2x256x32_S2x8448x32_d1

/-- They read at an element. -/
theorem turn_k_at (X : FVec Ideal S2x8192x32 .f32) (C S : FVec Ideal S8192x16 .f32) (q : Fin 2) (r : Fin 8192) (l : Fin 32)
    (x : ℕ → EReal) (hx : ∀ n : Fin 32, X (ix3 q r n) = x n.val) :
    turn_k X C S (ix3 q r l) = if l.val < 16 then x l.val * entry C r.val l.val - x (l.val + 16) * entry S r.val l.val
      else x (l.val - 16) * entry S r.val (l.val - 16) + x l.val * entry C r.val (l.val - 16) := by
  unfold turn_k half_k half_k' table_k
  pointwise
  by_cases e : l.val < 16
  · rw [dif_pos e, if_pos e, hx, hx, entry_eq C r _ rfl rfl, entry_eq S r _ rfl rfl]
    dsimp only
    rw [add_comm 16 l.val]
  · rw [dif_neg e, if_neg e, hx, hx, entry_eq C r _ rfl rfl, entry_eq S r _ rfl rfl]
    dsimp only
    rw [show 16 + (l.val - 16) = l.val from by omega]
theorem rot_k_at (X : FVec Ideal S2x8448x32 .f32) (C S : FVec Ideal S8192x16 .f32) (q : Fin 2) (r : Fin 8448) (l : Fin 32)
    (x : ℕ → EReal) (hx : ∀ n : Fin 32, X (ix3 q r n) = x n.val) : rot_k X C S (ix3 q r l) = rot C S x r.val l.val := by
  unfold rot_k rot
  pointwise
  by_cases e : r.val < 8192
  · rw [dif_pos e, if_pos e]
    refine turn_k_at _ C S q ⟨r.val, e⟩ l x fun n => ?_
    refine Eq.trans ?_ (hx n)
    pointwise
  · rw [dif_neg e, if_neg e]
    refine Eq.trans ?_ (hx l)
    exact congrArg (fun r => X (ix3 q r l)) (Fin.ext (by dsimp only; omega))

/-! ## The results -/

/-- Each head's 96 lanes padded to 128, and all laid flat. -/
def flat (X : FVec Ideal S2x8448x16x96 .f32) : FVec Ideal S16896x2048 .bf16 :=
  truncf .bf16 (shapeCast _ (pad S2x8448x16x128 ![0, 0, 0, 0] ![0, 0, 0, 32] ![0, 0, 0, 0] X (sitofp .f32 (constantI S_ 32 0#32))
    pads_S2x8448x16x96_S2x8448x16x128_000_000_000_0320 h_S_) shapeCasts_S2x8448x16x128_S16896x2048) bitsLt_bf16_f32

/-- The zero that pads is zero. -/
theorem zero_pad : FloatOps.sitofp (F := Ideal) .f32 0#32 = (0 : EReal) := by
  show (((0#32 : BitVec 32).toInt : ℝ) : EReal) = 0
  simp

/-- Its batch row, and its row in it, of a row; the head of a column. -/
abbrev part (a : Fin 16896) : Fin 2 := ⟨a.val / 8448, by omega⟩
abbrev within (a : Fin 16896) : Fin 8448 := ⟨a.val % 8448, by omega⟩
abbrev head (b : Fin 2048) : Fin 16 := ⟨b.val / 128, by omega⟩

theorem row_part (a : Fin 16896) : row (part a) (within a) = a := Fin.ext (by dsimp only; omega)

theorem flat_at (X : FVec Ideal S2x8448x16x96 .f32) (a : Fin 16896) (b : Fin 2048) :
    flat X (ix2 a b) = if e : b.val % 128 < 96 then X (ix4 (part a) (within a) (head b) ⟨b.val % 128, e⟩) else 0 := by
  unfold flat
  pointwise
  by_cases e : b.val % 128 < 96
  · refine Eq.trans ?_ (dif_pos e).symm
    exact dif_pos ⟨by omega, by omega, by omega, e⟩
  · refine Eq.trans ?_ (dif_neg e).symm
    exact (dif_neg fun h => e h.2.2.2).trans zero_pad

/-- The queries: the plain lanes and the rotated ones, times the factor. -/
def plain_q (Q : FVec Ideal S2x8448x16x96 .f32) : FVec Ideal S2x8448x16x64 .f32 :=
  extractStridedSlice S2x8448x16x64 ![0, 0, 0, 0] Q slices_S2x8448x16x96_S2x8448x16x64_0_0_0_0
def rotary_q (Q : FVec Ideal S2x8448x16x96 .f32) : FVec Ideal S2x8448x16x32 .f32 :=
  extractStridedSlice S2x8448x16x32 ![0, 0, 0, 64] Q slices_S2x8448x16x96_S2x8448x16x32_0_0_0_64
def lanes_q (Q : FVec Ideal S2x8448x16x96 .f32) (C S : FVec Ideal S8192x16 .f32) : FVec Ideal S2x8448x16x96 .f32 :=
  mulf (concatenate S2x8448x16x96 3 [⟨S2x8448x16x64, (plain_q Q)⟩, ⟨S2x8448x16x32, (rot_q (rotary_q Q) C S)⟩]
    concatenates_S2x8448x16x64_S2x8448x16x32_S2x8448x16x96_d3) (broadcastInDim S2x8448x16x96 ![] bcast_S_S2x8448x16x96 (constant S_ .f32 0x3DD105EC#32))

theorem lanes_q_at (Q : FVec Ideal S2x8448x16x96 .f32) (C S : FVec Ideal S8192x16 .f32) (q : Fin 2) (r : Fin 8448) (h : Fin 16) (l : Fin 96)
    (x : ℕ → EReal) (hx : ∀ n : Fin 96, Q (ix4 q r h n) = x n.val) :
    lanes_q Q C S (ix4 q r h l) = (if l.val < 64 then x l.val else rot C S (fun n => x (64 + n)) r.val (l.val - 64)) * scale := by
  unfold lanes_q
  pointwise
  refine congrArg (· * scale) ?_
  by_cases e : l.val < 64
  · refine (dif_pos e).trans ((?_ : _ = x l.val).trans (if_pos e).symm)
    refine Eq.trans ?_ (hx l)
    unfold plain_q
    pointwise
  · refine (dif_neg e).trans (Eq.trans ?_ (if_neg e).symm)
    refine rot_q_at _ C S q r h _ _ fun n => ?_
    refine Eq.trans ?_ (hx ⟨64 + n.val, by omega⟩)
    unfold rotary_q
    pointwise

/-- The keys: each head's plain lanes, and the rotated lanes that the heads share. -/
def plain_k (K : FVec Ideal S2x8448x16x128 .f32) : FVec Ideal S2x8448x16x64 .f32 :=
  extractStridedSlice S2x8448x16x64 ![0, 0, 0, 0] K slices_S2x8448x16x128_S2x8448x16x64_0_0_0_0
def shared (R : FVec Ideal S2x8448x32 .f32) : FVec Ideal S2x8448x16x32 .f32 :=
  broadcastInDim S2x8448x16x32 ![0, 1, 2, 3] bcast_S2x8448x1x32_S2x8448x16x32_0_1_2_3
    (broadcastInDim S2x8448x1x32 ![0, 1, 3] bcast_S2x8448x32_S2x8448x1x32_0_1_3 R)
def lanes_k (K : FVec Ideal S2x8448x16x128 .f32) (R : FVec Ideal S2x8448x32 .f32) : FVec Ideal S2x8448x16x96 .f32 :=
  concatenate S2x8448x16x96 3 [⟨S2x8448x16x64, (plain_k K)⟩, ⟨S2x8448x16x32, (shared R)⟩]
    concatenates_S2x8448x16x64_S2x8448x16x32_S2x8448x16x96_d3

theorem lanes_k_at (K : FVec Ideal S2x8448x16x128 .f32) (R : FVec Ideal S2x8448x32 .f32) (q : Fin 2) (r : Fin 8448) (h : Fin 16) (l : Fin 96) :
    lanes_k K R (ix4 q r h l) = if e : l.val < 64 then K (ix4 q r h ⟨l.val, by omega⟩) else R (ix3 q r ⟨l.val - 64, by omega⟩) := by
  unfold lanes_k plain_k shared
  pointwise

/-- The values: each head's last 64 lanes, laid flat. -/
def flat_v (K : FVec Ideal S2x8448x16x128 .f32) : FVec Ideal S16896x1024 .bf16 :=
  truncf .bf16 (shapeCast _ (extractStridedSlice S2x8448x16x64 ![0, 0, 0, 64] K slices_S2x8448x16x128_S2x8448x16x64_0_0_0_64)
    shapeCasts_S2x8448x16x64_S16896x1024) bitsLt_bf16_f32

theorem flat_v_at (K : FVec Ideal S2x8448x16x128 .f32) (a : Fin 16896) (b : Fin 1024) :
    flat_v K (ix2 a b) = K (ix4 (part a) (within a) ⟨b.val / 64, by omega⟩ ⟨64 + b.val % 64, by omega⟩) := by
  unfold flat_v
  pointwise

section Results

variable (H : FVec Ideal S16896x2048 .bf16) (W : FVec Ideal S2048x8288 .f32) (C S : FVec Ideal S8192x16 .f32)
  (gq : FVec Ideal S512 .f32) (gk : FVec Ideal S256 .f32) (UQ : FVec Ideal S512x1536 .f32) (UK : FVec Ideal S256x2048 .f32)

/-- The reference's three results from its arguments. -/
def ref_q : FVec Ideal S16896x2048 .bf16 := flat (lanes_q (heads_q (norm_q (part_q (cols H W)) gq) UQ) C S)
def ref_k : FVec Ideal S16896x2048 .bf16 := flat (lanes_k (heads_k (norm_k (part_k (cols H W)) gk) UK) (rot_k (part_r (cols H W)) C S))
def ref_v : FVec Ideal S16896x1024 .bf16 := flat_v (heads_k (norm_k (part_k (cols H W)) gk) UK)

/-- They are those of the plain description. -/
theorem ref_q_at (a : Fin 16896) (b : Fin 2048) :
    ref_q H W C S gq UQ (ix2 a b) = query H W C S (fun j => gq (ix1 j)) UQ a (b.val / 128) (b.val % 128) := by
  unfold ref_q query
  rw [flat_at]
  by_cases e : b.val % 128 < 96
  · rw [dif_pos e]
    refine (lanes_q_at _ C S (part a) (within a) (head b) ⟨b.val % 128, e⟩
      (fun n => colQ H W (fun j => gq (ix1 j)) UQ (row (part a) (within a)) (96 * (b.val / 128) + n)) (fun n => col_q_at H W gq UQ (part a) (within a) (head b) n)).trans ?_
    rw [row_part]
    by_cases e' : b.val % 128 < 64
    · rw [if_pos e', if_pos e']
    · rw [if_neg e', if_neg e', if_pos e]
      simp only [add_assoc]
  · rw [dif_neg e, if_neg (by omega), if_neg e]
theorem ref_k_at (a : Fin 16896) (b : Fin 2048) :
    ref_k H W C S gk UK (ix2 a b) = key H W C S (fun j => gk (ix1 j)) UK a (b.val / 128) (b.val % 128) := by
  unfold ref_k key
  rw [flat_at]
  by_cases e : b.val % 128 < 96
  · rw [dif_pos e, lanes_k_at]
    by_cases e' : b.val % 128 < 64
    · refine (dif_pos e').trans (Eq.trans ?_ (if_pos e').symm)
      refine (col_k_at H W gk UK (part a) (within a) (head b) _).trans ?_
      rw [row_part]
    · refine (dif_neg e').trans (Eq.trans ?_ ((if_neg e').trans (if_pos e)).symm)
      refine (rot_k_at _ C S (part a) (within a) _ (fun n => proj H W (row (part a) (within a)) (768 + n)) fun n => part_r_at H W (part a) (within a) n).trans ?_
      rw [row_part]
  · rw [dif_neg e, if_neg (by omega), if_neg e]
theorem ref_v_at (a : Fin 16896) (b : Fin 1024) :
    ref_v H W gk UK (ix2 a b) = colK H W (fun j => gk (ix1 j)) UK a (128 * (b.val / 64) + 64 + b.val % 64) := by
  unfold ref_v
  rw [flat_v_at]
  refine (col_k_at H W gk UK (part a) (within a) _ _).trans ?_
  rw [row_part, ← add_assoc]

end Results

variable (m : (ℓ : Loc nD τ sig) → Buf (Elt Ideal) ℓ) (c : Dev nD)

/-- The run's results are these. -/
theorem run_q : Cert.HeadsRefIdeal.Value.res_main_v90 m c = ref_q (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg6)) := by
  unfold Cert.HeadsRefIdeal.Value.res_main_v90
  rfl
theorem run_k : Cert.HeadsRefIdeal.Value.res_main_v93 m c = ref_k (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5))
    (m ((c.tc : Thread nD τ).loc main_arg7)) := by
  unfold Cert.HeadsRefIdeal.Value.res_main_v93
  rfl

end Cert.HeadsRefIdeal.Val

end
-- ==== Proof.HeadsFinite.lean ====
/- What the precondition of the latent attention's preparation says: the rows, the input weights, the queries' norm and
   the queries' weights are real numbers. -/
module

public import proofs.«01_k».proof.Pre_finite_heads
public import proofs.«01_k».proof.Proof.HeadsSpec
public import Idealize.ShloMosaic.PureOps.Ideal
public import Idealize.ShloMosaic.Lib.Pointwise
public import Idealize.ShloMosaic.Lib.ReduceAll

@[expose] public section

set_option maxRecDepth 16384

noncomputable section

namespace Cert.Pre_finite_heads.Val

open Idealize.ShloMosaic Cert.Pre_finite_heads Cert.HeadsSpec

/-- The precondition's side conditions. -/
instance facts : Cert.Pre_finite_heads.Facts where
  bitsLt_bf16_f32 := by decide
  bcast_S_S16896x2048 := by decide
  reducesTo_S16896x2048_S_d0_1 := by decide
  h_S_ := by decide
  bcast_S_S2048x8288 := by decide
  reducesTo_S2048x8288_S_d0_1 := by decide
  bcast_S_S512 := by decide
  reducesTo_S512_S_d0 := by decide
  bcast_S_S512x1536 := by decide
  reducesTo_S512x1536_S_d0_1 := by decide

/-- The word the absolute values are compared with reads as infinity. -/
theorem inf_eq : Ideal.ofBits .f32 0x7F800000#32 = (⊤ : EReal) := by simp [Ideal.ofBits, Ideal.ieee]

/-- There is one index of the shape without axes. -/
instance one_index : Subsingleton S_.Idx := ⟨fun _ _ => funext fun a => a.elim0⟩

/-- Two truth values whose conjunction is true are true. -/
theorem both {a b : BitVec 1} (h : IntOp.andi a b = 1#1) : a = 1#1 ∧ b = 1#1 := by
  revert h
  revert a b
  decide

/-- An extended real whose absolute value is below infinity is a real number. -/
theorem real_of_abs {x : EReal} (h : BitVec.ofBool (decide (max x (-x) < (⊤ : EReal))) = 1#1) : IsReal x := by
  have hb : ∀ a : Bool, BitVec.ofBool a = 1#1 → a = true := by decide
  have hx := of_decide_eq_true (hb _ h)
  rw [max_lt_iff] at hx
  refine real_of_ne (ne_of_lt hx.1) fun e => ?_
  rw [e] at hx
  exact absurd hx.2 (by simp)

/-- Where the precondition holds, the four arguments' entries are real numbers. -/
theorem real (H : FVec Ideal S16896x2048 .bf16) (W : FVec Ideal S2048x8288 .f32) (C S : FVec Ideal S8192x16 .f32) (gq : FVec Ideal S512 .f32)
    (gk : FVec Ideal S256 .f32) (UQ : FVec Ideal S512x1536 .f32) (UK : FVec Ideal S256x2048 .f32)
    (h : fn (F := Ideal) H W C S gq gk UQ UK = fun _ => 1#1) :
    (∀ i, IsReal (H i)) ∧ (∀ i, IsReal (W i)) ∧ (∀ i, IsReal (gq i)) ∧ (∀ i, IsReal (UQ i)) := by
  have hi := congrFun h (fun a => a.elim0)
  unfold fn fn_part1 at hi
  obtain ⟨h3, hU⟩ := both hi
  obtain ⟨h2, hQ⟩ := both h3
  obtain ⟨hH, hW⟩ := both h2
  refine ⟨fun i => ?_, fun i => ?_, fun i => ?_, fun i => ?_⟩
  · have := Host.reduce_andi_all _ _ _ _ _ hH i
    simp only [pointwise] at this
    rw [inf_eq] at this
    exact real_of_abs this
  · have := Host.reduce_andi_all _ _ _ _ _ hW i
    simp only [pointwise] at this
    rw [inf_eq] at this
    exact real_of_abs this
  · have := Host.reduce_andi_all _ _ _ _ _ hQ i
    simp only [pointwise] at this
    rw [inf_eq] at this
    exact real_of_abs this
  · have := Host.reduce_andi_all _ _ _ _ _ hU i
    simp only [pointwise] at this
    rw [inf_eq] at this
    exact real_of_abs this

end Cert.Pre_finite_heads.Val

end
-- ==== Proof.Heads.lean ====
/- The preparation of the latent attention: the rows' products with the attention's columns of the weights, the norms of
   the latents, the heads' queries, keys and values, and the rotation of the rotary lanes. -/
module

public import proofs.«01_k».proof.Defs
public import proofs.«01_k».proof.Proof.HeadsResult
public import proofs.«01_k».proof.Proof.HeadsRef
public import proofs.«01_k».proof.Proof.HeadsFinite
public import proofs.«01_k».proof.Proof.Gen.Heads.Frame
public import Idealize.ShloMosaic.Lib.Quiescent
public import Idealize.ShloMosaic.Lib.Pipeline.RegionsLoop
public import Idealize.ShloMosaic.Lib.Ring
public import Idealize.ShloMosaic.Lib.Tactic

@[expose] public section

set_option maxRecDepth 16384

noncomputable section

namespace Cert.HeadsIdeal.Val

open Cert.HeadsIdeal Cert.HeadsIdeal.Gen Idealize.ShloMosaic Idealize.ShloMosaic.TcCoe Idealize.SL.Sem Cert.Product Cert.HeadsSpec

variable (m : (ℓ : Loc nD τ sig) → Buf (Elt Ideal) ℓ) (ρ : Dev nD → PrngReg)

section Launch

open Idealize.ShloMosaic.Tactic Idealize.SL Idealize.SL.RA Idealize.SL.BI Idealize.SL.BI.BIBase Idealize.SL.BI.Laws
  Idealize.SL.ProofMode Idealize.ShloMosaic.Rounds
open scoped Idealize.SL.BI

/-- The assertions about the machine's state. -/
abbrev Assertion : Type _ := sProp (MT nD τ sig Unit (Elt Ideal) ℕ (UR sig nD τ) ℕ)

/-- What the pipelines start from. -/
abbrev start : UR sig nD τ := initOf (Pipeline.cells cfgs cellOf_inj) (Pipeline.launchToks cfgs cellOf_inj)

set_option backward.isDefEq.respectTransparency.types false in
/-- The run of the two regions with the stretches of host operations before each: the queries, keys and values are what
    the second region leaves, and the arguments are unchanged. -/
theorem run (hH : ∀ c i, IsReal (aH m c i)) (hW : ∀ c i, IsReal (aW m c i)) (hQ : ∀ c i, IsReal (aQ m c i)) (hU : ∀ c i, IsReal (uQ m c i)) :
    θ_run defs (onTc (τ := τ) (main (F := Ideal))) ⟨m, fun _ => 0, ρ⟩ fun r => ∀ c : Dev nD,
      r.2.mem ((c.tc : Thread nD τ).loc main_v45_0) = resultQ m c
      ∧ r.2.mem ((c.tc : Thread nD τ).loc main_v45_1) = resultK m c
      ∧ r.2.mem ((c.tc : Thread nD τ).loc main_v45_2) = resultV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := start)
    (hu₀ := by
      iintro Hu; imodintro
      isplitl [Hu]
      · iapply (show (ownU start : Assertion) ⊢ BI.own (emb₁ start) from .rfl)
        iexact Hu
      iapply (show (BI.emp : Assertion) ⊢ bigSep Finset.univ (fun _ : Dev nD => (BI.emp : Assertion)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨(h c _ (mem_uc main_v45_0 (by decide))).trans (end_q m ρ c (hH c) (hW c) (hQ c) (hU c)),
       (h c _ (mem_uc main_v45_1 (by decide))).trans (end_k m ρ c (hH c) (hW c)),
       (h c _ (mem_uc main_v45_2 (by decide))).trans (end_v m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Launch

end Cert.HeadsIdeal.Val

namespace Cert.Heads

open Idealize.ShloMosaic Idealize.ShloMosaic.TcCoe Idealize.SL.Sem

/-- The kernel runs to the end with its arguments unchanged. -/
theorem frame_kernel : Cert.quiescent_Heads := fun m ρ _ => Cert.Heads.Gen.frame m ρ

/-- So does its ideal program, and so it does where the precondition holds. -/
theorem frame_ideal : Cert.quiescent_HeadsIdeal := fun m ρ _ => Cert.HeadsIdeal.Gen.frame m ρ
theorem frame_ideal_finite : Cert.quiescent_HeadsIdeal_pre_finite_heads (hPre_finite_heads := Cert.Pre_finite_heads.Val.facts) :=
  fun m ρ _ => Cert.HeadsIdeal.Gen.frame m ρ

/-- So does the reference, and so it does where the precondition holds. -/
theorem frame_reference : Cert.quiescent_HeadsRefIdeal := fun m ρ _ =>
  (θ_run _ _ _).mono (fun r h => ⟨fun c => (h c).2.2.2, sem_eq_zero_of_no_sems rfl r.2⟩) (Cert.HeadsRefIdeal.Value.run m ρ)
theorem frame_reference_finite : Cert.quiescent_HeadsRefIdeal_pre_finite_heads (hPre_finite_heads := Cert.Pre_finite_heads.Val.facts) :=
  fun m ρ _ => frame_reference m ρ trivial

/-- Where the rows, the input weights, the queries' norm and the queries' weights are real numbers, the kernel's queries,
    keys and values are the reference's. -/
theorem algebraic : Cert.algebraic_HeadsIdeal_HeadsRefIdeal_pre_finite_heads (hPre_finite_heads := Cert.Pre_finite_heads.Val.facts) := by
  intro m g m' g' hpre hagree
  have hf := fun c => Cert.Pre_finite_heads.Val.real _ _ _ _ _ _ _ _ (hpre c)
  refine ⟨fun c => Cert.HeadsIdeal.Val.resultQ m c, fun c => Cert.HeadsIdeal.Val.resultK m c, fun c => Cert.HeadsIdeal.Val.resultV m c,
    Cert.HeadsIdeal.Val.run m g (fun c => (hf c).1) (fun c => (hf c).2.1) (fun c => (hf c).2.2.1) (fun c => (hf c).2.2.2), ?_⟩
  refine (θ_run _ _ _).mono (fun r h c => ?_) (Cert.HeadsRefIdeal.Value.run m' g')
  obtain ⟨a0, a1, a2, a3, a4, a5, a6, a7⟩ := hagree c
  refine ⟨(h c).1.trans ((Cert.HeadsRefIdeal.Val.run_q m' c).trans ?_), (h c).2.1.trans ((Cert.HeadsRefIdeal.Val.run_k m' c).trans ?_),
    (h c).2.2.1.trans ?_, (h c).2.2.2⟩
  · rw [a0, a1, a2, a3, a4, a6]
    funext i
    idx_vars i
    exact Cert.HeadsRefIdeal.Val.ref_q_at _ _ _ _ _ _ i0 i1
  · rw [a0, a1, a2, a3, a5, a7]
    funext i
    idx_vars i
    exact Cert.HeadsRefIdeal.Val.ref_k_at _ _ _ _ _ _ i0 i1
  · rw [a0, a1, a5, a7]
    funext i
    idx_vars i
    exact Cert.HeadsRefIdeal.Val.ref_v_at _ _ _ _ i0 i1

end Cert.Heads

end
-- ==== Proof.CtxPoint.lean ====
/- The context's attention at one point: the body reads all 256 context keys at once, so its running maximum and sum make
   one step, from minus infinity and zero, and the block it writes is the attention of the point's 256 context queries. -/
module

public import proofs.«01_k».proof.Proof.Gen.CtxIdeal.Value
public import proofs.«01_k».proof.Proof.Block
public import Idealize.ShloMosaic.Lib.Pointwise
public import Idealize.ShloMosaic.Lib.Pipeline.ValueKit
public import Idealize.ShloMosaic.Lib.Pipeline.ReadBack

@[expose] public section

set_option maxRecDepth 16384

noncomputable section

namespace Cert.CtxIdeal.Val

open Cert.CtxIdeal Cert.CtxIdeal.Gen Idealize.ShloMosaic Idealize.ShloMosaic.TcCoe Idealize.SL.Sem
open Cert.KernelIdeal.Val (neg_inf select_low select_high ix3_eq score)

/-- The scores of the 256 keys of a block against query row `r`. -/
def sc (q k : Vec Ideal S1x256x128 .bf16) (r l : Fin 256) : EReal :=
  ∑ d : Fin 128, q (ix3 0 r d) * k (ix3 0 l d)

/-- Both heads' scores. -/
theorem pay8_at (q k : Vec Ideal S1x256x128 .bf16) (r l : Fin 256) : k0_pay8 q k (ix2 r l) = sc q k r l := by
  unfold sc
  pointwise [k0_pay8]
theorem pay12_at (q k : Vec Ideal S1x256x128 .bf16) (r l : Fin 256) : k0_pay12 q k (ix2 r l) = sc q k r l :=
  pay8_at q k r l

/-- Both heads' maxima. -/
theorem pay9_at (q k : Vec Ideal S1x256x128 .bf16) (a : Vec Ideal S256x1 .f32) (r : Fin 256) :
    k0_pay9 q k a (ix2 r 0) = Online.mx (a (ix2 r 0)) (sc q k r) := by
  unfold Online.mx
  pointwise [k0_pay9, pay8_at]
  rw [neg_inf]
theorem pay13_at (q k : Vec Ideal S1x256x128 .bf16) (a : Vec Ideal S256x1 .f32) (r : Fin 256) :
    k0_pay13 q k a (ix2 r 0) = Online.mx (a (ix2 r 0)) (sc q k r) :=
  pay9_at q k a r

/-- The first head's sum: its weights are the values in the lanes below 64 and one in the others. -/
theorem pay10_at (v q k : Vec Ideal S1x256x128 .bf16) (a : Vec Ideal S256x1 .f32) (x : Vec Ideal S256x128 .f32) (r : Fin 256)
    (j : Fin 128) :
    k0_pay10 v q k a x (ix2 r j)
      = Online.ac (a (ix2 r 0)) (x (ix2 r j)) (sc q k r) (fun l => if j.val < 64 then v (ix3 0 l j) else 1) := by
  unfold Online.ac
  pointwise [k0_pay10, pay8_at, pay9_at, k0_pay6, k0_pay7]
  simp only [select_low]

/-- The second head's sum: its weights are one in the lanes below 64 and the values in the others. -/
theorem pay14_at (v q k : Vec Ideal S1x256x128 .bf16) (a : Vec Ideal S256x1 .f32) (x : Vec Ideal S256x128 .f32) (r : Fin 256)
    (j : Fin 128) :
    k0_pay14 (k0_pay6 v) (iota Kind.tc S256x128 32 [1] iota_S256x128_d1_w32) k0_pay7 q k a x (ix2 r j)
      = Online.ac (a (ix2 r 0)) (x (ix2 r j)) (sc q k r) (fun l => if j.val < 64 then 1 else v (ix3 0 l j)) := by
  unfold Online.ac
  pointwise [k0_pay14, pay12_at, pay13_at, k0_pay6, k0_pay7]
  simp only [select_high]

/-- The lane 64 away. -/
abbrev far (j : Fin 128) : Fin 128 := ⟨(j.val + 128 - 64) % 128, Nat.mod_lt _ (by decide)⟩

/-- What is written: below lane 64 the first head's sum over its sum of ones, from lane 64 on the second head's. -/
theorem pay1_at (a b : Vec Ideal S256x128 .f32) (r : Fin 256) (j : Fin 128) :
    k0_pay1 a b (ix3 0 r j)
      = if j.val < 64 then Ideal.div (a (ix2 r j)) (a (ix2 r (far j))) else Ideal.div (b (ix2 r j)) (b (ix2 r (far j))) := by
  pointwise [k0_pay1]
  rw [select_low]

/-- The maxima begin at minus infinity and the sums at zero. -/
theorem pay2_at (r : Fin 256) : k0_pay2 (F := Ideal) (ix2 r 0) = (⊥ : EReal) := by
  pointwise [k0_pay2]; rw [neg_inf]
theorem pay4_at (r : Fin 256) : k0_pay4 (F := Ideal) (ix2 r 0) = (⊥ : EReal) := pay2_at r
theorem pay3_at (r : Fin 256) (j : Fin 128) : k0_pay3 (F := Ideal) (ix2 r j) = (0 : EReal) := by
  pointwise [k0_pay3]
theorem pay5_at (r : Fin 256) (j : Fin 128) : k0_pay5 (F := Ideal) (ix2 r j) = (0 : EReal) := pay3_at r j

/-- One step from minus infinity and zero, divided, is the attention. -/
theorem one_step (s w : Fin 256 → EReal) :
    Ideal.div (Online.ac ⊥ 0 s w) (Online.ac ⊥ 0 s fun _ => 1) = Online.attn s w := by
  have h : Online.mx ⊥ s = Finset.univ.fold max ⊥ s := max_eq_right bot_le
  unfold Online.ac Online.attn
  rw [h]
  simp only [mul_zero, zero_add]

variable (m : (ℓ : Loc nD τ sig) → Buf (Elt Ideal) ℓ) (c : Dev nD)

/-- The block that each window is at, at point `t`: batch row `t / 8`, rows from 8192 on, head pair `t % 8`. -/
theorem index0 : ∀ t : Fin cfg0.N,
    ((cfg0.win 0).index t 0 = t.val / 8 ∧ (cfg0.win 0).index t 1 = 32 ∧ (cfg0.win 0).index t 2 = t.val % 8)
    ∧ ((cfg0.win 1).index t 0 = t.val / 8 ∧ (cfg0.win 1).index t 1 = 32 ∧ (cfg0.win 1).index t 2 = t.val % 8)
    ∧ ((cfg0.win 2).index t 0 = t.val / 8 ∧ (cfg0.win 2).index t 1 = 32 ∧ (cfg0.win 2).index t 2 = t.val % 8)
    ∧ ((cfg0.win 3).index t 0 = t.val / 8 ∧ (cfg0.win 3).index t 1 = 32 ∧ (cfg0.win 3).index t 2 = t.val % 8) := by
  decide +kernel

/-- A point's batch row is below 2. -/
theorem row_lt (t : Fin cfg0.N) : t.val / 8 < 2 := by
  have := t.isLt; have : cfg0.N = 16 := N_0; omega

/-- The arguments: queries, keys, values, and the array whose other rows are kept. -/
abbrev aQ : Vec Ideal S2x8448x2048 .bf16 := m ((c.tc : Thread nD τ).loc main_arg0)
abbrev aK : Vec Ideal S2x8448x2048 .bf16 := m ((c.tc : Thread nD τ).loc main_arg1)
abbrev aV : Vec Ideal S2x8448x1024 .bf16 := m ((c.tc : Thread nD τ).loc main_arg2)
abbrev aY : Vec Ideal S2x8448x1024 .bf16 := m ((c.tc : Thread nD τ).loc main_arg3)

/-- The blocks at a point are rectangles of the queries … -/
theorem q_at (t : Fin cfg0.N) (r : Fin 256) (j : Fin 256) :
    iblk m c 0 t (ix3 0 r j) = aQ m c (ix3 ⟨t.val / 8, row_lt t⟩ ⟨8192 + r, by omega⟩ ⟨256 * (t.val % 8) + j, by omega⟩) := by
  obtain ⟨⟨e0, e1, e2⟩, -⟩ := index0 t
  blk_ext [iblk, V, e0, e1, e2]

/-- … of the keys … -/
theorem k_at (t : Fin cfg0.N) (r : Fin 256) (j : Fin 256) :
    iblk m c 1 t (ix3 0 r j) = aK m c (ix3 ⟨t.val / 8, row_lt t⟩ ⟨8192 + r, by omega⟩ ⟨256 * (t.val % 8) + j, by omega⟩) := by
  obtain ⟨-, ⟨e0, e1, e2⟩, -⟩ := index0 t
  blk_ext [iblk, V, e0, e1, e2]

/-- … and of the values. -/
theorem v_at (t : Fin cfg0.N) (r : Fin 256) (j : Fin 128) :
    iblk m c 2 t (ix3 0 r j) = aV m c (ix3 ⟨t.val / 8, row_lt t⟩ ⟨8192 + r, by omega⟩ ⟨128 * (t.val % 8) + j, by omega⟩) := by
  obtain ⟨-, -, ⟨e0, e1, e2⟩, -⟩ := index0 t
  blk_ext [iblk, V, e0, e1, e2]

/-- The context's attention: query row `q` of the context and column `x` (head `x / 64`) of the values, over the 256
    context keys. -/
def ctxAt (Q K : Vec Ideal S2x8448x2048 .bf16) (W : Vec Ideal S2x8448x1024 .bf16) (b : Fin 2) (q : Fin 8448) (x : Fin 1024) : EReal :=
  Online.attn (fun k : Fin 256 => score Q K b ⟨x / 64, by omega⟩ q ⟨8192 + k, by omega⟩)
    fun k : Fin 256 => W (ix3 b ⟨8192 + k, by omega⟩ x)

/-- The lanes of the point's first and second head. -/
abbrev head0 (y : Vec Ideal S1x256x256 .bf16) : Vec Ideal S1x256x128 .bf16 :=
  View.ld y (Rect.unit ![0, 0, 0] ![1, 256, 128] inb_S1x256x256_S1x256x128_0_0_0)
abbrev head1 (y : Vec Ideal S1x256x256 .bf16) : Vec Ideal S1x256x128 .bf16 :=
  View.ld y (Rect.unit ![0, 0, 128] ![1, 256, 128] inb_S1x256x256_S1x256x128_0_0_128)

theorem head0_at (y : Vec Ideal S1x256x256 .bf16) (r : Fin 256) (d : Fin 128) :
    head0 y (ix3 0 r d) = y (ix3 0 r ⟨d.val, by omega⟩) := by
  refine congrArg y ?_; funext a; fin_cases a <;> exact Fin.ext (by simp [Rect.idx_unit_val])
theorem head1_at (y : Vec Ideal S1x256x256 .bf16) (r : Fin 256) (d : Fin 128) :
    head1 y (ix3 0 r d) = y (ix3 0 r ⟨128 + d.val, by omega⟩) := by
  refine congrArg y ?_; funext a; fin_cases a <;> exact Fin.ext (by simp [Rect.idx_unit_val])

/-- The first head's scores are scores of head `2 (t % 8)` … -/
theorem sc0_at (t : Fin cfg0.N) (r l : Fin 256) {b : Fin 2} {h : Fin 16} {q : Fin 8448} (hb : b.val = t.val / 8)
    (hh : h.val = 2 * (t.val % 8)) (hq : q.val = 8192 + r.val) :
    sc (head0 (iblk m c 0 t)) (head0 (iblk m c 1 t)) r l = score (aQ m c) (aK m c) b h q ⟨8192 + l, by omega⟩ := by
  unfold sc score
  refine Finset.sum_congr rfl fun d _ => ?_
  rw [head0_at, head0_at, q_at, k_at]
  congr 2 <;> refine ix3_eq ?_ ?_ ?_ <;> first | omega | (dsimp only; omega)

/-- … and the second head's of head `2 (t % 8) + 1`. -/
theorem sc1_at (t : Fin cfg0.N) (r l : Fin 256) {b : Fin 2} {h : Fin 16} {q : Fin 8448} (hb : b.val = t.val / 8)
    (hh : h.val = 2 * (t.val % 8) + 1) (hq : q.val = 8192 + r.val) :
    sc (head1 (iblk m c 0 t)) (head1 (iblk m c 1 t)) r l = score (aQ m c) (aK m c) b h q ⟨8192 + l, by omega⟩ := by
  unfold sc score
  refine Finset.sum_congr rfl fun d _ => ?_
  rw [head1_at, head1_at, q_at, k_at]
  congr 2 <;> refine ix3_eq ?_ ?_ ?_ <;> first | omega | (dsimp only; omega)

/-- What the point writes: in a lane below 64 the attention of the first head, in the others of the second. -/
theorem out_at (t : Fin cfg0.N) (r : Fin 256) (j : Fin 128) :
    (outsAt0 m c t) (ix3 0 r j)
      = if j.val < 64 then
          Online.attn (sc (head0 (iblk m c 0 t)) (head0 (iblk m c 1 t)) r) fun l => iblk m c 2 t (ix3 0 l j)
        else Online.attn (sc (head1 (iblk m c 0 t)) (head1 (iblk m c 1 t)) r) fun l => iblk m c 2 t (ix3 0 l j) := by
  unfold outsAt0
  frame_out
  rw [pay1_at, pay10_at, pay10_at, pay14_at, pay14_at, pay2_at, pay3_at, pay3_at, pay4_at, pay5_at, pay5_at]
  split
  · rename_i h
    rw [← one_step]
    have h' : ¬(far j).val < 64 := by dsimp only [far]; omega
    simp only [if_pos h, if_neg h']
  · rename_i h
    rw [← one_step]
    have h' : (far j).val < 64 := by dsimp only [far]; omega
    simp only [if_neg h, if_pos h']

/-- THE BLOCK: what a point writes is the attention of its context queries. -/
theorem block_at (t : Fin cfg0.N) (r : Fin 256) (j : Fin 128) {b : Fin 2} {q : Fin 8448} {x : Fin 1024}
    (hb : b.val = t.val / 8) (hq : q.val = 8192 + r.val) (hx : x.val = 128 * (t.val % 8) + j.val) :
    (outsAt0 m c t) (ix3 0 r j) = ctxAt (aQ m c) (aK m c) (aV m c) b q x := by
  have hv : ∀ l : Fin 256, iblk m c 2 t (ix3 0 l j) = aV m c (ix3 b ⟨8192 + l, by omega⟩ x) := fun l => by
    rw [v_at]; refine congrArg _ (ix3_eq ?_ ?_ ?_) <;> first | omega | (dsimp only; omega)
  rw [out_at]
  unfold ctxAt
  simp only [hv]
  split
  · rename_i h
    refine congrArg (fun s => Online.attn s _) (funext fun l => sc0_at m c t r l hb ?_ hq)
    dsimp only; omega
  · rename_i h
    refine congrArg (fun s => Online.attn s _) (funext fun l => sc1_at m c t r l hb ?_ hq)
    dsimp only; omega

/-- What the program returns: the context's attention in the rows from 8192 on, the given rows below. -/
def result : Vec Ideal S2x8448x1024 .bf16 := fun i =>
  if 32 ≤ (i 1).val / 256 then ctxAt (aQ m c) (aK m c) (aV m c) (i 0) (i 1) (i 2) else aY m c i

/-- THE ARRAY after the run. -/
theorem array_at : (dats m 0 c).arrAt 3 cfg0.N = result m c := by
  have h : (dats m 0 c).arrAt 3 cfg0.N
      = fun i => if 32 ≤ (i 1).val / 256 then ctxAt (aQ m c) (aK m c) (aV m c) (i 0) (i 1) (i 2) else (dats m 0 c).A 3 i := by
    refine (dats m 0 c).arrAt_eq_of_coversWhere 3 _ (fun β => 32 ≤ β 1) (by decide +kernel) (fun t hf y => ?_) (fun j => Iff.rfl)
    blk_simp
    rw [after0_3]
    obtain ⟨-, -, -, e0, e1, e2⟩ := index0 t
    have l0 : (y 0).val < 1 := ((cfg0.win 3).xinj (cfg0.grid.coords t) y 0).isLt
    have l1 : (y 1).val < 256 := ((cfg0.win 3).xinj (cfg0.grid.coords t) y 1).isLt
    have l2 : (y 2).val < 128 := ((cfg0.win 3).xinj (cfg0.grid.coords t) y 2).isLt
    have h0 := (cfg0.win 3).rect_emb_val t y 0
    have h1 := (cfg0.win 3).rect_emb_val t y 1
    have h2 := (cfg0.win 3).rect_emb_val t y 2
    rw [e0] at h0
    rw [e1] at h1
    rw [e2] at h2
    have hx : (cfg0.win 3).xinj (cfg0.grid.coords t) y = ix3 0 ⟨(y 1).val, l1⟩ ⟨(y 2).val, l2⟩ := by
      funext a
      refine Fin.ext ?_
      match a with
      | ⟨0, _⟩ => exact Nat.lt_one_iff.mp l0
      | ⟨1, _⟩ => rfl
      | ⟨2, _⟩ => rfl
    refine (congrArg (outsAt0 m c t) hx).trans ?_
    refine block_at m c t _ _ ?_ ?_ ?_
    · refine h0.trans ?_
      rw [Nat.lt_one_iff.mp l0]
      exact Nat.mul_one _
    · exact h1
    · exact h2.trans (congrArg (· + (y 2).val) (Nat.mul_comm _ _))
  rw [h]
  funext i
  unfold result
  rw [A_eq]
  refine congrArg (fun z => if 32 ≤ (i 1).val / 256 then _ else z) ?_
  refine congrFun (?_ : V m c (Pipeline.arrRef spec0 3) = aY m c) i
  simp only [V, hostOps0]
  after_results
  rfl

end Cert.CtxIdeal.Val

end
-- ==== Proof.CtxRef.lean ====
/- The context's attention as its reference computes it, at an index. -/
module

public import proofs.«01_k».proof.Proof.Gen.CtxRefIdeal.Run
public import proofs.«01_k».proof.Proof.CtxPoint
public import proofs.«01_k».proof.Proof.Agree
public import proofs.«01_k».proof.Pre_finite_ctx

@[expose] public section

set_option maxRecDepth 16384

noncomputable section

namespace Cert.Pre_finite_ctx.Val

open Idealize.ShloMosaic Cert.Pre_finite_ctx

/-- The precondition's side conditions. -/
instance facts : Cert.Pre_finite_ctx.Facts where
  slices_S2x8448x2048_S2x256x2048_0_8192_0 := by decide
  bcast_S_S2x256x2048 := by decide

/-- Where the precondition holds, the entries of the context's queries and keys are real numbers. -/
theorem real (Q K : FVec Ideal S2x8448x2048 .bf16) (W Y : FVec Ideal S2x8448x1024 .bf16)
    (h : fn (F := Ideal) Q K W Y = fun _ => 1#1) (b : Fin 2) (r : Fin 256) (j : Fin 2048) :
    (Q (ix3 b ⟨8192 + r, by omega⟩ j) ≠ ⊤ ∧ Q (ix3 b ⟨8192 + r, by omega⟩ j) ≠ ⊥)
    ∧ (K (ix3 b ⟨8192 + r, by omega⟩ j) ≠ ⊤ ∧ K (ix3 b ⟨8192 + r, by omega⟩ j) ≠ ⊥) := by
  have hi := congrFun h (ix3 b r j)
  unfold fn at hi
  simp only [pointwise] at hi
  rw [Cert.Pre_finite.Val.inf_eq] at hi
  obtain ⟨hq, hk⟩ := Cert.Pre_finite.Val.real_of (x := Q (ix3 ⟨0 + b.val, by omega⟩ ⟨8192 + r.val, by omega⟩ ⟨0 + j.val, by omega⟩))
    (y := K (ix3 ⟨0 + b.val, by omega⟩ ⟨8192 + r.val, by omega⟩ ⟨0 + j.val, by omega⟩)) hi
  simp only [Nat.zero_add, Fin.eta] at hq hk
  exact ⟨hq, hk⟩

end Cert.Pre_finite_ctx.Val

namespace Cert.CtxRefIdeal.Val

open Cert.CtxRefIdeal Cert.CtxRefIdeal.Gen Idealize.ShloMosaic Idealize.ShloMosaic.TcCoe Idealize.SL.Sem
open Cert.ReferenceIdeal.Val (rowMax_at neg_inf)

variable (Q K : Vec Ideal S2x8448x2048 .bf16) (W Y : Vec Ideal S2x8448x1024 .bf16)

/-- The context rows of the queries or keys, a head's lanes apart. -/
def rows (Z : Vec Ideal S2x8448x2048 .bf16) : FVec Ideal S2x256x16x128 .f32 :=
  shapeCast _ (extractStridedSlice S2x256x2048 ![0, 8192, 0] (extf .f32 Z bitsLt_bf16_f32)
    slices_S2x8448x2048_S2x256x2048_0_8192_0) shapeCasts_S2x256x2048_S2x256x16x128

/-- The scores of the context's queries against its keys. -/
def scores : FVec Ideal S2x16x256x256 .f32 :=
  Host.dotGeneral dot_S2x256x16x128_S2x256x16x128_S2x16x256x256_3_3_1_1_02_02 none (rows Q) (rows K)

/-- The scores' row maxima. -/
def tops (s : FVec Ideal S2x16x256x256 .f32) : FVec Ideal S2x16x256 .f32 :=
  Host.reduce FloatOps.maximumf s (constant S_ .f32 0xFF800000#32) reducesTo_S2x16x256x256_S2x16x256_d3 h_S_

/-- The scores' exponentials, relative to the row's maximum. -/
def weights (s : FVec Ideal S2x16x256x256 .f32) (r : FVec Ideal S2x16x256 .f32) : FVec Ideal S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (maximumf (broadcastInDim S2x16x256 ![] bcast_S_S2x16x256 (constant S_ .f32 0xFF800000#32)) r))))

/-- The exponentials over their row's sum. -/
def shares (e : FVec Ideal S2x16x256x256 .f32) : FVec Ideal S2x16x256x256 .f32 :=
  Host.divf e (broadcastInDim S2x16x256x256 ![0, 1, 2, 3] bcast_S2x16x256x1_S2x16x256x256_0_1_2_3
    (broadcastInDim S2x16x256x1 ![0, 1, 2] bcast_S2x16x256_S2x16x256x1_0_1_2
      (Host.reduceAdd e (constant S_ .f32 0x00000000#32) reducesTo_S2x16x256x256_S2x16x256_d3 h_S_)))

/-- The weighted sums of the context's values. -/
def sums (p : FVec Ideal S2x16x256x256 .f32) : FVec Ideal S2x256x1024 .bf16 :=
  truncf .bf16 (shapeCast _ (transpose S2x256x16x64 [0, 3, 1, 2]
    (Host.dotGeneral dot_S2x256x16x64_S2x16x256x256_S2x16x64x256_1_3_3_2_02_01 none
      (shapeCast _ (extractStridedSlice S2x256x1024 ![0, 8192, 0] (extf .f32 W bitsLt_bf16_f32)
        slices_S2x8448x1024_S2x256x1024_0_8192_0) shapeCasts_S2x256x1024_S2x256x16x64) p)
    transposes_S2x16x64x256_S2x256x16x64_0_3_1_2) shapeCasts_S2x256x16x64_S2x256x1024) bitsLt_bf16_f32

/-- The given rows, then the context's. -/
def out (z : FVec Ideal S2x256x1024 .bf16) : FVec Ideal S2x8448x1024 .bf16 :=
  concatenate S2x8448x1024 1 [⟨S2x8192x1024, extractStridedSlice S2x8192x1024 ![0, 0, 0] Y slices_S2x8448x1024_S2x8192x1024_0_0_0⟩,
    ⟨S2x256x1024, z⟩] concatenates_S2x8192x1024_S2x256x1024_S2x8448x1024_d1

/-- A score: the inner product of 128 lanes of a query and of a key. -/
theorem scores_at (b : Fin 2) (h : Fin 16) (q k : Fin 256) :
    scores Q K (ix4 b h q k) = Cert.KernelIdeal.Val.score Q K b h ⟨8192 + q, by omega⟩ ⟨8192 + k, by omega⟩ := by
  unfold scores rows Cert.KernelIdeal.Val.score
  pointwise
  exact Finset.sum_congr rfl fun d _ => by simp only [Nat.mul_comm h.val 128]

/-- A row's maximum. -/
theorem tops_at (s : FVec Ideal S2x16x256x256 .f32) (b : Fin 2) (h : Fin 16) (q : Fin 256) :
    tops s (ix3 b h q) = Finset.univ.fold max ⊥ fun l : Fin 256 => s (ix4 b h q l) :=
  (rowMax_at s (constant S_ .f32 0xFF800000#32) reducesTo_S2x16x256x256_S2x16x256_d3 h_S_ b h q).trans
    (congrArg (fun z => Finset.univ.fold max z fun l : Fin 256 => s (ix4 b h q l)) neg_inf)

/-- An exponential, relative to the row's maximum. -/
theorem weights_at (s : FVec Ideal S2x16x256x256 .f32) (r : FVec Ideal S2x16x256 .f32) (b : Fin 2) (h : Fin 16) (q k : Fin 256) :
    weights s r (ix4 b h q k) = Ideal.exp (s (ix4 b h q k) - r (ix3 b h q)) := by
  unfold weights
  pointwise
  rw [neg_inf, max_eq_right bot_le]

/-- An exponential over its row's sum. -/
theorem shares_at (e : FVec Ideal S2x16x256x256 .f32) (b : Fin 2) (h : Fin 16) (q k : Fin 256) :
    shares e (ix4 b h q k) = Ideal.div (e (ix4 b h q k)) (∑ l : Fin 256, e (ix4 b h q l)) := by
  unfold shares
  pointwise

/-- A column of the values weighted by its head's shares. -/
theorem sums_at (p : FVec Ideal S2x16x256x256 .f32) (b : Fin 2) (q : Fin 256) (x : Fin 1024) :
    sums W p (ix3 b q x) = ∑ k : Fin 256, W (ix3 b ⟨8192 + k, by omega⟩ x) * p (ix4 b ⟨x / 64, by omega⟩ q k) := by
  unfold sums
  pointwise

/-- A row of the result. -/
theorem out_at (z : FVec Ideal S2x256x1024 .bf16) (b : Fin 2) (q : Fin 8448) (x : Fin 1024) :
    out Y z (ix3 b q x) = if h : q.val < 8192 then Y (ix3 b q x) else z (ix3 b ⟨q.val - 8192, by omega⟩ x) := by
  unfold out
  pointwise

/-- THE REFERENCE, where its queries and keys are real numbers: the context's attention below the given rows. -/
theorem out_eq (h : Cert.Pre_finite_ctx.fn (F := Ideal) Q K W Y = fun _ => 1#1) (b : Fin 2) (q : Fin 8448) (x : Fin 1024) :
    out Y (sums W (shares (weights (scores Q K) (tops (scores Q K))))) (ix3 b q x)
      = if 32 ≤ q.val / 256 then Cert.CtxIdeal.Val.ctxAt Q K W b q x else Y (ix3 b q x) := by
  rw [out_at]
  by_cases hq8 : q.val < 8192
  · rw [dif_pos hq8, if_neg (by omega)]
  · rw [dif_neg hq8, if_pos (by omega), sums_at]
    have hq : (⟨8192 + (q.val - 8192), by omega⟩ : Fin 8448) = q := Fin.ext (by dsimp only; omega)
    simp only [shares_at, weights_at, tops_at, scores_at, hq]
    have hr := Cert.Pre_finite_ctx.Val.real Q K W Y h b
    refine Cert.Agree.attn_eq (by norm_num) _ _ fun k => Cert.Agree.sum_real _ _ (fun d => ?_) fun d => (hr _ _).2
    exact hq ▸ (hr ⟨q.val - 8192, by omega⟩ _).1

end Cert.CtxRefIdeal.Val

end
-- ==== Proof.Ctx.lean ====
/- The claims of the context's attention: the frames of its three programs, and its kernel's result against its
   reference's. -/
module

public import proofs.«01_k».proof.Defs
public import proofs.«01_k».proof.Proof.CtxRef
public import proofs.«01_k».proof.Proof.Gen.Ctx.Frame
public import proofs.«01_k».proof.Proof.Gen.CtxIdeal.Value
public import proofs.«01_k».proof.Proof.Gen.CtxRefIdeal.Run
public import Idealize.ShloMosaic.Lib.Claim
public import Idealize.ShloMosaic.Lib.Quiescent

@[expose] public section

set_option maxRecDepth 16384

noncomputable section

namespace Cert.Ctx

open Idealize.ShloMosaic Idealize.SL.Sem

/-- The kernel runs, ends quiescent and leaves its arguments. -/
theorem frame_kernel : Cert.quiescent_Ctx := fun m ρ _ => Cert.Ctx.Gen.frame m ρ

/-- The same of its idealization. -/
theorem frame_ideal : Cert.quiescent_CtxIdeal := fun m ρ _ => Cert.CtxIdeal.Gen.frame m ρ

/-- The same where the context's queries and keys are real numbers. -/
theorem frame_ideal_finite : Cert.quiescent_CtxIdeal_pre_finite_ctx (hPre_finite_ctx := Cert.Pre_finite_ctx.Val.facts) :=
  fun m ρ _ => Cert.CtxIdeal.Gen.frame m ρ

/-- The reference runs, has no semaphore to leave set, and leaves its arguments. -/
theorem frame_reference : Cert.quiescent_CtxRefIdeal := fun m ρ _ =>
  (θ_run _ _ _).mono (fun r h => ⟨fun c => (h c).2, sem_eq_zero_of_no_sems rfl r.2⟩) (Cert.CtxRefIdeal.Value.run m ρ)

/-- The same where the context's queries and keys are real numbers. -/
theorem frame_reference_finite : Cert.quiescent_CtxRefIdeal_pre_finite_ctx (hPre_finite_ctx := Cert.Pre_finite_ctx.Val.facts) :=
  fun m ρ _ => frame_reference m ρ trivial

/-- The context's attention: where its queries and keys are real numbers the kernel's result is the reference's. -/
theorem algebraic : Cert.algebraic_CtxIdeal_CtxRefIdeal_pre_finite_ctx (hPre_finite_ctx := Cert.Pre_finite_ctx.Val.facts) := by
  intro m g m' g' hpre hagree
  refine ⟨fun c => Cert.CtxIdeal.Val.result m c, ?_, ?_⟩
  · exact (θ_run _ _ _).mono (fun r h c => ⟨(h c).1.trans (Cert.CtxIdeal.Val.array_at m c), (h c).2⟩)
      (Cert.CtxIdeal.Value.run_blocks m g)
  refine (θ_run _ _ _).mono (fun r h c => ⟨(h c).1.trans ?_, (h c).2⟩) (Cert.CtxRefIdeal.Value.run m' g')
  obtain ⟨a0, a1, a2, a3⟩ := hagree c
  rw [a0, a1, a2, a3]
  funext i
  idx_vars i
  exact Cert.CtxRefIdeal.Val.out_eq _ _ _ _ (hpre c) _ _ _

end Cert.Ctx

end
-- ==== Proof.Mods.lean ====
/- The modulations of a layer: the conditioning vectors under x · σ(x), times the layer's weights, and a bias. -/
module

public import proofs.«01_k».proof.Defs
public import proofs.«01_k».proof.Proof.Product
public import proofs.«01_k».proof.Proof.Gen.Mods.Frame
public import proofs.«01_k».proof.Proof.Gen.ModsIdeal.Value
public import proofs.«01_k».proof.Proof.Gen.ModsRefIdeal.Run
public import Idealize.ShloMosaic.Lib.Pipeline.ValueKit
public import Idealize.ShloMosaic.Lib.Quiescent
public import Idealize.ShloMosaic.Lib.Routing.OpsSet

@[expose] public section

set_option maxRecDepth 16384

noncomputable section

namespace Cert.ModsIdeal.Val

open Cert.ModsIdeal Cert.ModsIdeal.Gen Idealize.ShloMosaic Idealize.ShloMosaic.TcCoe Idealize.SL.Sem Cert.Product Idealize.ShloMosaic.Routing

variable (m : (ℓ : Loc nD τ sig) → Buf (Elt Ideal) ℓ) (c : Dev nD)

/-- The block that each window is at, at point `t`: the conditioning vectors whole, and column tile `t` of the weights, the bias
    and the result. -/
theorem index0 : ∀ t : Fin cfg0.N,
    ((cfg0.win 0).index t 0 = 0 ∧ (cfg0.win 0).index t 1 = 0)
    ∧ ((cfg0.win 1).index t 0 = 0 ∧ (cfg0.win 1).index t 1 = t.val)
    ∧ ((cfg0.win 2).index t 0 = 0 ∧ (cfg0.win 2).index t 1 = t.val)
    ∧ ((cfg0.win 3).index t 0 = 0 ∧ (cfg0.win 3).index t 1 = t.val) := by
  decide +kernel

/-- The batch rows' conditioning vectors, the context's, the weights and the bias, arguments. -/
abbrev aC : Vec Ideal S2x2048 .f32 := m ((c.tc : Thread nD τ).loc main_arg0)
abbrev aX : Vec Ideal S2048 .f32 := m ((c.tc : Thread nD τ).loc main_arg1)
abbrev aW : Vec Ideal S2048x12288 .f32 := m ((c.tc : Thread nD τ).loc main_arg2)
abbrev aB : Vec Ideal S12288 .f32 := m ((c.tc : Thread nD τ).loc main_arg3)

/-- x · σ(x). -/
def silu (x : EReal) : EReal := x * Ideal.div 1 (1 + Ideal.exp (-x))

/-- Row `r` of the eight rows that the product takes: the batch rows', the context's, and zeros. -/
def cond (r : Fin 8) (k : Fin 2048) : EReal :=
  if h : r.val < 2 then silu (aC m c (ix2 ⟨r.val, h⟩ k)) else if r.val = 2 then silu (aX m c (ix1 k)) else 0

/-- Rows set from a literal row on: update `(p, q)` of the two batch rows lands at `(p, q)`. -/
theorem lands_batch (idx : IVec S1 32) (h : (idx (ix1 0)).toInt = 0) (p : Fin 2) (q : Fin 2048) (r : Fin 8) (k : Fin 2048) :
    scatter_S8x2048_S1_S2x2048_01_n_0_0.resultIdx? (ix2 p q) idx = some (ix2 r k) ↔ p.val = r.val ∧ q = k := by
  have s0 : scatter_S8x2048_S1_S2x2048_01_n_0_0.start (ix2 p q) idx 0 = 0 := (congrArg (fun i => (idx i).toInt) (funext fun b => by
    match b with
    | ⟨0, _⟩ => exact Subsingleton.elim (α := Fin 1) _ _)).trans h
  have s1 : scatter_S8x2048_S1_S2x2048_01_n_0_0.start (ix2 p q) idx 1 = 0 := rfl
  have w0 : scatter_S8x2048_S1_S2x2048_01_n_0_0.window (ix2 p q) 0 = p.val := rfl
  have w1 : scatter_S8x2048_S1_S2x2048_01_n_0_0.window (ix2 p q) 1 = q.val := rfl
  refine (resultIdx?_ix2 _ _ _ r k).trans ?_
  rw [s0, s1, w0, w1, Fin.ext_iff]
  omega

/-- Update `q` of the context's row lands at `(2, q)`. -/
theorem lands_context (idx : IVec S1 32) (h : (idx (ix1 0)).toInt = 2) (q : Fin 2048) (r : Fin 8) (k : Fin 2048) :
    scatter_S8x2048_S1_S2048_0_0_0_0.resultIdx? (ix1 q) idx = some (ix2 r k) ↔ r.val = 2 ∧ q = k := by
  have s0 : scatter_S8x2048_S1_S2048_0_0_0_0.start (ix1 q) idx 0 = 2 := (congrArg (fun i => (idx i).toInt) (funext fun b => by
    match b with
    | ⟨0, _⟩ => exact Subsingleton.elim (α := Fin 1) _ _)).trans h
  have s1 : scatter_S8x2048_S1_S2048_0_0_0_0.start (ix1 q) idx 1 = 0 := rfl
  have w0 : scatter_S8x2048_S1_S2048_0_0_0_0.window (ix1 q) 0 = 0 := rfl
  have w1 : scatter_S8x2048_S1_S2048_0_0_0_0.window (ix1 q) 1 = q.val := rfl
  refine (resultIdx?_ix2 _ _ _ r k).trans ?_
  rw [s0, s1, w0, w1, Fin.ext_iff]
  omega

/-- The batch rows set into an array of eight rows, read at an element. -/
theorem set_batch (x : Vec Ideal S8x2048 .f32) (idx : IVec S1 32) (h : (idx (ix1 0)).toInt = 0) (u : Vec Ideal S2x2048 .f32)
    (r : Fin 8) (k : Fin 2048) : Host.scatter scatter_S8x2048_S1_S2x2048_01_n_0_0 (fun _ b => b) x idx u (ix2 r k)
      = if h : r.val < 2 then u (ix2 ⟨r.val, h⟩ k) else x (ix2 r k) := by
  by_cases hr : r.val < 2
  · rw [dif_pos hr]
    refine scatter_set_hit _ x idx u _ _ (fun j hj => ?_) (ix2 ⟨r.val, hr⟩ k) ((lands_batch idx h _ _ r k).2 ⟨rfl, rfl⟩)
    idx_vars j
    obtain ⟨h0, rfl⟩ := (lands_batch idx h j0 j1 r k).1 hj
    exact congrArg (fun p => u (ix2 p j1)) (Fin.ext h0)
  · rw [dif_neg hr]
    refine scatter_set_miss _ x idx u _ fun j hj => ?_
    idx_vars j
    have := ((lands_batch idx h j0 j1 r k).1 hj).1
    omega

/-- The context's row set into it, read at an element. -/
theorem set_context (x : Vec Ideal S8x2048 .f32) (idx : IVec S1 32) (h : (idx (ix1 0)).toInt = 2) (u : Vec Ideal S2048 .f32)
    (r : Fin 8) (k : Fin 2048) : Host.scatter scatter_S8x2048_S1_S2048_0_0_0_0 (fun _ b => b) x idx u (ix2 r k)
      = if r.val = 2 then u (ix1 k) else x (ix2 r k) := by
  by_cases hr : r.val = 2
  · rw [if_pos hr]
    refine scatter_set_hit _ x idx u _ _ (fun j hj => ?_) (ix1 k) ((lands_context idx h _ r k).2 ⟨hr, rfl⟩)
    idx_vars j
    obtain ⟨-, rfl⟩ := (lands_context idx h j0 r k).1 hj
    rfl
  · rw [if_neg hr]
    refine scatter_set_miss _ x idx u _ fun j hj => hr ?_
    idx_vars j
    exact ((lands_context idx h j0 r k).1 hj).1

/-- The region finds the eight rows in the product's left factor. -/
theorem found_cond (r : Fin 8) (k : Fin 2048) : V m c main_v6 (ix2 r k) = cond m c r k := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.nullary, StableHlo.TRef.toBuf,
    StableHlo.TRef.ofBuf, cast_eq]
  after_results
  refine (set_context _ _ (by rfl) _ r k).trans ?_
  unfold cond
  by_cases h : r.val < 2
  · rw [if_neg (by omega), dif_pos h]
    refine ((set_batch _ _ (by rfl) _ r k).trans (dif_pos h)).trans ?_
    unfold silu
    pointwise
  · rw [dif_neg h]
    refine congrArg₂ (fun a b => if r.val = 2 then a else b) ?_ (((set_batch _ _ (by rfl) _ r k).trans (dif_neg h)).trans ?_)
    · unfold silu
      pointwise
    · pointwise

/-- And the bias as one row. -/
theorem found_bias (j : Fin 12288) : V m c main_v7 (ix2 0 j) = aB m c (ix1 j) := by
  simp only [V, hostOps0, hostOps0_1, hostOps0_2, hostOps0_3, hostOps0_4, List.flatten_cons, List.flatten_nil, List.append_nil,
    List.cons_append, List.nil_append, StableHlo.TRef.unary, StableHlo.TRef.binary, StableHlo.TRef.nullary, StableHlo.TRef.toBuf,
    StableHlo.TRef.ofBuf, cast_eq]
  after_results
  pointwise

/-- The modulations, entry by entry. -/
def result : Vec Ideal S8x12288 .f32 := fun i =>
  mul (fun i => cond m c (i 0) (i 1) : Vec Ideal S8x2048 .f32) (aW m c) (i 0) (i 1) + aB m c (ix1 (i 1))

/-- The body's value at a point: the product of its two blocks and the bias's block. -/
theorem pay_at (x : Vec Ideal S8x2048 .f32) (y : Vec Ideal S2048x768 .f32) (z : Vec Ideal S1x768 .f32) (r : Fin 8) (j : Fin 768) :
    k0_pay1 x y z (ix2 r j) = mul x y r j + z (ix2 0 j) := by
  unfold mul
  pointwise [k0_pay1]

/-- The left block at a point is the eight rows. -/
theorem left_at (t : Fin cfg0.N) (r : Fin 8) (k : Fin 2048) : iblk m c 0 t (ix2 r k) = cond m c r k := by
  obtain ⟨⟨e0, e1⟩, -⟩ := index0 t
  rw [← found_cond m c]
  blk_ext [iblk, e0, e1]

/-- The right block at a point is a tile of columns of the weights. -/
theorem right_at (t : Fin cfg0.N) (k : Fin 2048) (j : Fin 768) {b : Fin 12288} (hb : b.val = t.val * 768 + j.val) :
    iblk m c 1 t (ix2 k j) = aW m c (ix2 k b) := by
  obtain ⟨-, ⟨e0, e1⟩, -⟩ := index0 t
  refine Eq.trans ?_ (congrFun (V_main_arg2 m c) (ix2 k b))
  blk_ext [iblk, e0, e1, hb]

/-- The bias's block at a point is a tile of it. -/
theorem bias_at (t : Fin cfg0.N) (j : Fin 768) {b : Fin 12288} (hb : b.val = t.val * 768 + j.val) :
    iblk m c 2 t (ix2 0 j) = aB m c (ix1 b) := by
  obtain ⟨-, -, ⟨e0, e1⟩, -⟩ := index0 t
  rw [← found_bias m c]
  blk_ext [iblk, e0, e1, hb]

/-- THE BLOCK: what a point writes is a tile of columns of the modulations. -/
theorem block_at (t : Fin cfg0.N) (y : S8x768.Idx) (i : S8x12288.Idx)
    (h0 : (i 0).val = 0 * 8 + (y 0).val) (h1 : (i 1).val = t.val * 768 + (y 1).val) :
    out0_3 (iblk m c 0 t) (iblk m c 1 t) (iblk m c 2 t) y = result m c i := by
  idx_vars y
  idx_vars i
  change i0.val = 0 * 8 + y0.val at h0
  obtain rfl : i0 = y0 := Fin.ext (by omega)
  unfold out0_3
  frame_out
  rw [pay_at, bias_at m c t _ h1]
  exact congrArg (· + _) (mul_eq (fun k => left_at m c t _ k) fun k => right_at m c t k _ h1)

/-- The output array after the run: the modulations. -/
theorem array_at : (dats m 0 c).arrAt 3 cfg0.N = result m c := by
  have h : (dats m 0 c).arrAt 3 cfg0.N = fun i => if (i 1).val / 768 < 16 then result m c i else (dats m 0 c).A 3 i := by
    refine (dats m 0 c).arrAt_eq_of_coversWhere 3 _ (fun β => β 1 < 16) (by decide +kernel) (fun t _ y => ?_) (fun j => Iff.rfl)
    blk_simp
    rw [after0_3]
    obtain ⟨-, -, -, e0, e1⟩ := index0 t
    exact block_at m c t _ _ (((cfg0.win 3).rect_emb_val t y 0).trans (by rw [e0]; rfl))
      (((cfg0.win 3).rect_emb_val t y 1).trans (by rw [e1]; rfl))
  rw [h]
  funext i
  exact if_pos (by have := (i 1).isLt; change (i 1).val < 12288 at this; omega)

end Cert.ModsIdeal.Val

namespace Cert.Mods

open Idealize.ShloMosaic Idealize.SL.Sem

/-- The kernel runs, ends quiescent and leaves its arguments. -/
theorem frame_kernel : Cert.quiescent_Mods := fun m ρ _ => Cert.Mods.Gen.frame m ρ

/-- The same of its idealization. -/
theorem frame_ideal : Cert.quiescent_ModsIdeal := fun m ρ _ => Cert.ModsIdeal.Gen.frame m ρ

/-- The reference runs, has no semaphore to leave set, and leaves its arguments. -/
theorem frame_reference : Cert.quiescent_ModsRefIdeal := fun m ρ _ =>
  (θ_run _ _ _).mono (fun r h => ⟨fun c => (h c).2, sem_eq_zero_of_no_sems rfl r.2⟩) (Cert.ModsRefIdeal.Value.run m ρ)

/-- The kernel's modulations are the reference's. -/
theorem algebraic : Cert.algebraic_ModsIdeal_ModsRefIdeal := by
  intro m g m' g' _ hagree
  refine ⟨fun c => Cert.ModsIdeal.Val.result m c,
    (θ_run _ _ _).mono (fun r h c => ⟨(h c).1.trans (Cert.ModsIdeal.Val.array_at m c), (h c).2⟩) (Cert.ModsIdeal.Value.run_blocks m g), ?_⟩
  refine (θ_run _ _ _).mono (fun r h c => ⟨(h c).1.trans ?_, (h c).2⟩) (Cert.ModsRefIdeal.Value.run m' g')
  obtain ⟨a0, a1, a2, a3⟩ := hagree c
  rw [a0, a1, a2, a3]
  funext i
  idx_vars i
  pointwise
  refine congrArg (· + _) (Finset.sum_congr rfl fun k _ => congrArg (· * _) ?_)
  change _ = Cert.ModsIdeal.Val.cond m c i0 k
  unfold Cert.ModsIdeal.Val.cond Cert.ModsIdeal.Val.silu
  by_cases h : i0.val < 2
  · simp only [dif_pos h]
  · by_cases h2 : i0.val = 2
    · simp only [dif_neg h, dif_pos (show i0.val - 2 < 1 by omega), if_pos h2]
    · simp only [dif_neg h, dif_neg (show ¬ i0.val - 2 < 1 by omega), if_neg h2, zero_mul]

end Cert.Mods

end
-- ==== Proof.Norm.lean ====
/- The normed and modulated rows that the token mixing reads: the root mean square norm, scaled and shifted by the
   modulations of the row's batch row. -/
module

public import proofs.«01_k».proof.Defs
public import proofs.«01_k».proof.Proof.HeadsSpec
public import proofs.«01_k».proof.Proof.Gen.Norm.Frame
public import proofs.«01_k».proof.Proof.Gen.NormIdeal.Value
public import proofs.«01_k».proof.Proof.Gen.NormRefIdeal.Run
public import Idealize.ShloMosaic.Lib.Pipeline.ValueKit
public import Idealize.ShloMosaic.Lib.Quiescent

@[expose] public section

set_option maxRecDepth 16384

noncomputable section

namespace Cert.NormIdeal.Val

open Cert.NormIdeal Cert.NormIdeal.Gen Idealize.ShloMosaic Idealize.ShloMosaic.TcCoe Idealize.SL.Sem Cert.HeadsSpec

variable (m : (ℓ : Loc nD τ sig) → Buf (Elt Ideal) ℓ) (c : Dev nD)

/-- The number of entries of a row. -/
abbrev nd : EReal := Ideal.ofBits .f32 0x45000000#32

/-- The row of the modulations that holds part `p` of row `a`: a latent row takes its batch row's, a context row the third's. -/
def modRow (p a : ℕ) : ℕ := if a % 8448 < 8192 then a / 8448 * 6 + p else 12 + p

/-- It is one of the 18 rows. -/
theorem modRow_lt {p a : ℕ} (hp : p < 6) (h : a < 16896) : modRow p a < 18 := by
  unfold modRow; split <;> omega

/-- All rows of a tile have the modulations of its block. -/
theorem modRow_tile {p a t r : ℕ} (hr : r < 256) (ha : a = t * 256 + r) :
    modRow p a = if t % 33 = 32 then 12 + p else t / 33 * 6 + p := by
  unfold modRow; split <;> split <;> omega

/-- The block that each window is at, at point `t`: row tile `t` of the rows and the result, the weights whole, and the
    tile's modulations. -/
theorem index0 : ∀ t : Fin cfg0.N,
    ((cfg0.win 0).index t 0 = t.val ∧ (cfg0.win 0).index t 1 = 0)
    ∧ ((cfg0.win 1).index t 0 = 0 ∧ (cfg0.win 1).index t 1 = 0)
    ∧ ((cfg0.win 2).index t 0 = (if t.val % 33 = 32 then 12 + 0 else t.val / 33 * 6 + 0) ∧ (cfg0.win 2).index t 1 = 0
      ∧ (cfg0.win 2).index t 2 = 0)
    ∧ ((cfg0.win 3).index t 0 = (if t.val % 33 = 32 then 12 + 1 else t.val / 33 * 6 + 1) ∧ (cfg0.win 3).index t 1 = 0
      ∧ (cfg0.win 3).index t 2 = 0)
    ∧ ((cfg0.win 4).index t 0 = t.val ∧ (cfg0.win 4).index t 1 = 0) := by
  decide +kernel

/-- The rows, the norm's weights and the modulations, arguments. -/
abbrev aX : Vec Ideal S16896x2048 .f32 := m ((c.tc : Thread nD τ).loc main_arg0)
abbrev aG : Vec Ideal S2048 .f32 := m ((c.tc : Thread nD τ).loc main_arg1)
abbrev aM : Vec Ideal S18x1x2048 .f32 := m ((c.tc : Thread nD τ).loc main_arg2)

/-- The region finds the norm's weights as one row. -/
theorem weights_at (j : Fin 2048) : V m c main_v0 (ix2 0 j) = aG m c (ix1 j) := by
  unfold V
  after_results
  pointwise

/-- The normed row, scaled and shifted, entry by entry. -/
def result : Vec Ideal S16896x2048 .bf16 := fun i =>
  normed nd (fun j : Fin 2048 => aX m c (ix2 (i 0) j)) (fun j => aG m c (ix1 j)) (i 1)
      * (Ideal.ofBits .f32 0x3F800000#32 + aM m c (ix3 ⟨modRow 1 (i 0).val, modRow_lt (by omega) (i 0).isLt⟩ 0 (i 1)))
    + aM m c (ix3 ⟨modRow 0 (i 0).val, modRow_lt (by omega) (i 0).isLt⟩ 0 (i 1))

/-- The body's value at a point. -/
theorem pay_at (x : Vec Ideal S256x2048 .f32) (g : Vec Ideal S1x2048 .f32) (s b : Vec Ideal S1x1x2048 .f32) (r : Fin 256) (j : Fin 2048) :
    k0_pay1 x g s b (ix2 r j) = normed nd (fun k : Fin 2048 => x (ix2 r k)) (fun k => g (ix2 0 k)) j
      * (Ideal.ofBits .f32 0x3F800000#32 + s (ix3 0 0 j)) + b (ix3 0 0 j) := by
  unfold normed nd
  pointwise [k0_pay1]

/-- The rows' block at a point is a tile of the rows. -/
theorem rows_at (t : Fin cfg0.N) (r : Fin 256) (j : Fin 2048) {a : Fin 16896} (ha : a.val = t.val * 256 + r.val) :
    iblk m c 0 t (ix2 r j) = aX m c (ix2 a j) := by
  obtain ⟨⟨e0, e1⟩, -⟩ := index0 t
  blk_ext [iblk, V, e0, e1, ha]

/-- The weights' block is the weights. -/
theorem weight_at (t : Fin cfg0.N) (j : Fin 2048) : iblk m c 1 t (ix2 0 j) = aG m c (ix1 j) := by
  obtain ⟨-, ⟨e0, e1⟩, -⟩ := index0 t
  rw [← weights_at m c]
  blk_ext [iblk, e0, e1]

/-- The blocks of the modulations at a point are those of the tile's rows. -/
theorem shift_at (t : Fin cfg0.N) (r : Fin 256) (j : Fin 2048) {a : Fin 16896} (ha : a.val = t.val * 256 + r.val) :
    iblk m c 2 t (ix3 0 0 j) = aM m c (ix3 ⟨modRow 0 a.val, modRow_lt (by omega) a.isLt⟩ 0 j) := by
  obtain ⟨-, -, ⟨e0, e1, e2⟩, -⟩ := index0 t
  rw [← modRow_tile r.isLt ha] at e0
  blk_ext [iblk, V, e0, e1, e2]
theorem scale_at (t : Fin cfg0.N) (r : Fin 256) (j : Fin 2048) {a : Fin 16896} (ha : a.val = t.val * 256 + r.val) :
    iblk m c 3 t (ix3 0 0 j) = aM m c (ix3 ⟨modRow 1 a.val, modRow_lt (by omega) a.isLt⟩ 0 j) := by
  obtain ⟨-, -, -, ⟨e0, e1, e2⟩, -⟩ := index0 t
  rw [← modRow_tile r.isLt ha] at e0
  blk_ext [iblk, V, e0, e1, e2]

/-- THE BLOCK: what a point writes is a tile of rows of the result. -/
theorem block_at (t : Fin cfg0.N) (y : S256x2048.Idx) (i : S16896x2048.Idx)
    (h0 : (i 0).val = t.val * 256 + (y 0).val) (h1 : (i 1).val = 0 * 2048 + (y 1).val) :
    out0_4 (iblk m c 0 t) (iblk m c 1 t) (iblk m c 2 t) (iblk m c 3 t) y = result m c i := by
  idx_vars y
  idx_vars i
  change i1.val = 0 * 2048 + y1.val at h1
  obtain rfl : i1 = y1 := Fin.ext (by omega)
  unfold out0_4
  frame_out
  rw [pay_at, shift_at m c t _ _ h0, scale_at m c t _ _ h0, funext fun k => rows_at m c t y0 k h0, funext fun k => weight_at m c t k]
  rfl

/-- The output array after the run. -/
theorem array_at : (dats m 0 c).arrAt 4 cfg0.N = result m c := by
  have h : (dats m 0 c).arrAt 4 cfg0.N = fun i => if (i 1).val / 2048 < 1 then result m c i else (dats m 0 c).A 4 i := by
    refine (dats m 0 c).arrAt_eq_of_coversWhere 4 _ (fun β => β 1 < 1) (by decide +kernel) (fun t _ y => ?_) (fun j => Iff.rfl)
    blk_simp
    rw [after0_4]
    obtain ⟨-, -, -, -, e0, e1⟩ := index0 t
    exact block_at m c t _ _ (((cfg0.win 4).rect_emb_val t y 0).trans (by rw [e0]; rfl))
      (((cfg0.win 4).rect_emb_val t y 1).trans (by rw [e1]; rfl))
  rw [h]
  funext i
  exact if_pos (by have := (i 1).isLt; change (i 1).val < 2048 at this; omega)

end Cert.NormIdeal.Val

namespace Cert.NormRefIdeal.Val

open Cert.NormRefIdeal Cert.NormRefIdeal.Gen Idealize.ShloMosaic Cert.HeadsSpec Cert.NormIdeal.Val

/-- The reference's normed rows. -/
def norm (X : FVec Ideal S16896x2048 .f32) (g : FVec Ideal S2048 .f32) : FVec Ideal S16896x2048 .f32 :=
  mulf (mulf X (broadcastInDim S16896x2048 ![0, 1] bcast_S16896x1_S16896x2048_0_1 (Host.rsqrt (addf (Host.divf
    (broadcastInDim S16896x1 ![0] bcast_S16896_S16896x1_0 (Host.reduceAdd (mulf X X) (constant S_ .f32 0x00000000#32)
      reducesTo_S16896x2048_S16896_d1 h_S_))
    (broadcastInDim S16896x1 ![] bcast_S_S16896x1 (constant S_ .f32 0x45000000#32)))
    (broadcastInDim S16896x1 ![] bcast_S_S16896x1 (constant S_ .f32 0x358637BD#32))))))
    (broadcastInDim S16896x2048 ![0, 1] bcast_S1x2048_S16896x2048_0_1 (broadcastInDim S1x2048 ![1] bcast_S2048_S1x2048_1 g))

/-- They read at an element. -/
theorem norm_at (X : FVec Ideal S16896x2048 .f32) (g : FVec Ideal S2048 .f32) (a : Fin 16896) (k : Fin 2048) :
    norm X g (ix2 a k) = normed nd (fun j : Fin 2048 => X (ix2 a j)) (fun j => g (ix1 j)) k := by
  unfold norm normed nd
  pointwise

/-- One part of the modulations, laid out for the rows: rows below 8192 take their batch row's, the others the third. -/
def part (p : ℕ) (hs : S3x6x2048.Slices ![0, p, 0] S3x1x2048) (M : FVec Ideal S18x1x2048 .f32) : FVec Ideal S2x8448x2048 .f32 :=
  concatenate S2x8448x2048 1 [⟨S2x8192x2048, (broadcastInDim S2x8192x2048 ![0, 1, 2] bcast_S2x1x2048_S2x8192x2048_0_1_2
      (broadcastInDim S2x1x2048 ![0, 2] bcast_S2x2048_S2x1x2048_0_2 (extractStridedSlice S2x2048 ![0, 0] (shapeCast _
        (extractStridedSlice S3x1x2048 ![0, p, 0] (shapeCast _ M shapeCasts_S18x1x2048_S3x6x2048) hs) shapeCasts_S3x1x2048_S3x2048)
        slices_S3x2048_S2x2048_0_0)))⟩,
    ⟨S2x256x2048, (broadcastInDim S2x256x2048 ![2] bcast_S2048_S2x256x2048_2 (shapeCast _ (extractStridedSlice S1x2048 ![2, 0]
      (shapeCast _ (extractStridedSlice S3x1x2048 ![0, p, 0] (shapeCast _ M shapeCasts_S18x1x2048_S3x6x2048) hs)
        shapeCasts_S3x1x2048_S3x2048) slices_S3x2048_S1x2048_2_0) shapeCasts_S1x2048_S2048))⟩]
    concatenates_S2x8192x2048_S2x256x2048_S2x8448x2048_d1

/-- It read at an element. -/
theorem part_at (p : Fin 6) (hs : S3x6x2048.Slices ![0, p.val, 0] S3x1x2048) (M : FVec Ideal S18x1x2048 .f32) (b : Fin 2) (s : Fin 8448)
    (j : Fin 2048) :
    part p.val hs M (ix3 b s j) = M (ix3 ⟨if s.val < 8192 then b.val * 6 + p.val else 12 + p.val, by split <;> omega⟩ 0 j) := by
  unfold part
  pointwise
  by_cases h : s.val < 8192
  · refine (dif_pos h).trans (congrArg (fun r => M (ix3 r 0 j)) (Fin.ext ?_))
    exact (if_pos h).symm
  · refine (dif_neg h).trans (congrArg (fun r => M (ix3 r 0 j)) (Fin.ext ?_))
    exact (if_neg h).symm

/-- The reference's result from the normed rows `N`, the scales `S` and the shifts `T`. -/
def joined (N : FVec Ideal S16896x2048 .f32) (S T : FVec Ideal S2x8448x2048 .f32) : FVec Ideal S16896x2048 .bf16 :=
  truncf .bf16 (shapeCast _ (addf (mulf (shapeCast S2x8448x2048 N shapeCasts_S16896x2048_S2x8448x2048)
    (addf (broadcastInDim S2x8448x2048 ![] bcast_S_S2x8448x2048 (constant S_ .f32 0x3F800000#32)) S)) T)
    shapeCasts_S2x8448x2048_S16896x2048) bitsLt_bf16_f32

/-- It read at an element. -/
theorem joined_at (N : FVec Ideal S16896x2048 .f32) (S T : FVec Ideal S2x8448x2048 .f32) (a : Fin 16896) (j : Fin 2048) :
    joined N S T (ix2 a j) = N (ix2 a j) * (Ideal.ofBits .f32 0x3F800000#32 + S (ix3 ⟨a.val / 8448, by omega⟩ ⟨a.val % 8448, by omega⟩ j))
      + T (ix3 ⟨a.val / 8448, by omega⟩ ⟨a.val % 8448, by omega⟩ j) := by
  unfold joined
  pointwise

end Cert.NormRefIdeal.Val

namespace Cert.Norm

open Idealize.ShloMosaic Idealize.SL.Sem Cert.NormRefIdeal.Val

/-- The kernel runs to its end and leaves its arguments and semaphores as they were. -/
theorem frame_kernel : Cert.quiescent_Norm := fun m ρ _ => Cert.Norm.Gen.frame m ρ

/-- So does its idealization. -/
theorem frame_ideal : Cert.quiescent_NormIdeal := fun m ρ _ => Cert.NormIdeal.Gen.frame m ρ

/-- So does the reference, which has no semaphores. -/
theorem frame_reference : Cert.quiescent_NormRefIdeal := fun m ρ _ =>
  (θ_run _ _ _).mono (fun r h => ⟨fun c => (h c).2, sem_eq_zero_of_no_sems rfl r.2⟩) (Cert.NormRefIdeal.Value.run m ρ)

/-- The kernel's normed and modulated rows are the reference's. -/
theorem algebraic : Cert.algebraic_NormIdeal_NormRefIdeal := by
  intro m g m' g' _ hagree
  refine ⟨fun c => Cert.NormIdeal.Val.result m c,
    (θ_run _ _ _).mono (fun r h c => ⟨(h c).1.trans (Cert.NormIdeal.Val.array_at m c), (h c).2⟩) (Cert.NormIdeal.Value.run_blocks m g), ?_⟩
  refine (θ_run _ _ _).mono (fun r h c => ⟨(h c).1.trans ?_, (h c).2⟩) (Cert.NormRefIdeal.Value.run m' g')
  obtain ⟨a0, a1, a2⟩ := hagree c
  rw [a0, a1, a2]
  funext i
  idx_vars i
  refine (joined_at (norm _ _) (part 1 Cert.NormRefIdeal.Gen.slices_S3x6x2048_S3x1x2048_0_1_0 _)
    (part 0 Cert.NormRefIdeal.Gen.slices_S3x6x2048_S3x1x2048_0_0_0 _) i0 i1).trans ?_
  rw [norm_at]
  exact congrArg₂ (· + ·) (congrArg (fun x => _ * (_ + x)) (part_at 1 _ _ _ _ _)) (part_at 0 _ _ _ _ _)

end Cert.Norm

end
-- ==== Proof.Resid.lean ====
/- The rows with their gated residual, and those rows normed and modulated: what each half of a layer reads. -/
module

public import proofs.«01_k».proof.Defs
public import proofs.«01_k».proof.Proof.Norm
public import proofs.«01_k».proof.Proof.Gen.Resid.Frame
public import proofs.«01_k».proof.Proof.Gen.ResidIdeal.Value
public import proofs.«01_k».proof.Proof.Gen.ResidRefIdeal.Run
public import Idealize.ShloMosaic.Lib.Pipeline.ValueKit
public import Idealize.ShloMosaic.Lib.Quiescent

@[expose] public section

set_option maxRecDepth 16384

noncomputable section

namespace Cert.ResidIdeal.Val

open Cert.ResidIdeal Cert.ResidIdeal.Gen Idealize.ShloMosaic Idealize.ShloMosaic.TcCoe Idealize.SL.Sem Cert.HeadsSpec
open Cert.NormIdeal.Val (nd modRow modRow_lt modRow_tile)

variable (m : (ℓ : Loc nD τ sig) → Buf (Elt Ideal) ℓ) (c : Dev nD)

/-- The block that each window is at, at point `t`: row tile `t` of the rows, of what is added to them and of both results, the
    weights whole, and the tile's modulations: the gate, the shift and the scale. -/
theorem index0 : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = (if t.val % 33 = 32 then 12 + 5 else t.val / 33 * 6 + 5) ∧ (cfg0.win 2).index t 1 = 0
      ∧ (cfg0.win 2).index t 2 = 0)
    ∧ ((cfg0.win 3).index t 0 = 0 ∧ (cfg0.win 3).index t 1 = 0)
    ∧ ((cfg0.win 4).index t 0 = (if t.val % 33 = 32 then 12 + 0 else t.val / 33 * 6 + 0) ∧ (cfg0.win 4).index t 1 = 0
      ∧ (cfg0.win 4).index t 2 = 0)
    ∧ ((cfg0.win 5).index t 0 = (if t.val % 33 = 32 then 12 + 1 else t.val / 33 * 6 + 1) ∧ (cfg0.win 5).index t 1 = 0
      ∧ (cfg0.win 5).index t 2 = 0)
    ∧ ((cfg0.win 6).index t 0 = t.val ∧ (cfg0.win 6).index t 1 = 0)
    ∧ ((cfg0.win 7).index t 0 = t.val ∧ (cfg0.win 7).index t 1 = 0) := by
  decide +kernel

/-- The rows, what is added to them, the gate's modulations, the norm's weights and the norm's modulations, arguments. -/
abbrev aX : Vec Ideal S16896x2048 .f32 := m ((c.tc : Thread nD τ).loc main_arg0)
abbrev aD : Vec Ideal S16896x2048 .f32 := m ((c.tc : Thread nD τ).loc main_arg1)
abbrev aP : Vec Ideal S18x1x2048 .f32 := m ((c.tc : Thread nD τ).loc main_arg2)
abbrev aG : Vec Ideal S2048 .f32 := m ((c.tc : Thread nD τ).loc main_arg3)
abbrev aM : Vec Ideal S18x1x2048 .f32 := m ((c.tc : Thread nD τ).loc main_arg4)

/-- The region finds the norm's weights as one row. -/
theorem weights_at (j : Fin 2048) : V m c main_v0 (ix2 0 j) = aG m c (ix1 j) := by
  unfold V
  after_results
  pointwise

/-- A row with its gated residual. -/
def row (a : Fin 16896) (j : Fin 2048) : EReal :=
  aX m c (ix2 a j) + aP m c (ix3 ⟨modRow 5 a.val, modRow_lt (by omega) a.isLt⟩ 0 j) * aD m c (ix2 a j)

/-- The two results: those rows, and those rows normed, scaled and shifted. -/
def resultX : Vec Ideal S16896x2048 .f32 := fun i => row m c (i 0) (i 1)
def resultH : Vec Ideal S16896x2048 .bf16 := fun i =>
  normed nd (row m c (i 0)) (fun j : Fin 2048 => aG m c (ix1 j)) (i 1)
      * (Ideal.ofBits .f32 0x3F800000#32 + aM m c (ix3 ⟨modRow 1 (i 0).val, modRow_lt (by omega) (i 0).isLt⟩ 0 (i 1)))
    + aM m c (ix3 ⟨modRow 0 (i 0).val, modRow_lt (by omega) (i 0).isLt⟩ 0 (i 1))

/-- The body's two values at a point. -/
theorem payX_at (x : Vec Ideal S256x2048 .f32) (t : Vec Ideal S1x1x2048 .f32) (d : Vec Ideal S256x2048 .f32) (r : Fin 256) (j : Fin 2048) :
    k0_pay1 x t d (ix2 r j) = x (ix2 r j) + t (ix3 0 0 j) * d (ix2 r j) := by
  pointwise [k0_pay1]
theorem payH_at (x : Vec Ideal S256x2048 .f32) (t : Vec Ideal S1x1x2048 .f32) (d : Vec Ideal S256x2048 .f32) (g : Vec Ideal S1x2048 .f32)
    (s b : Vec Ideal S1x1x2048 .f32) (r : Fin 256) (j : Fin 2048) :
    k0_pay2 x t d g s b (ix2 r j)
      = normed nd (fun k : Fin 2048 => k0_pay1 x t d (ix2 r k)) (fun k => g (ix2 0 k)) j
        * (Ideal.ofBits .f32 0x3F800000#32 + s (ix3 0 0 j)) + b (ix3 0 0 j) := by
  unfold normed nd
  pointwise [k0_pay2]

/-- The blocks at a point of the rows and of what is added to them are tiles of them. -/
theorem rows_at (t : Fin cfg0.N) (r : Fin 256) (j : Fin 2048) {a : Fin 16896} (ha : a.val = t.val * 256 + r.val) :
    iblk m c 0 t (ix2 r j) = aX m c (ix2 a j) := by
  obtain ⟨⟨e0, e1⟩, -⟩ := index0 t
  blk_ext [iblk, V, e0, e1, ha]
theorem added_at (t : Fin cfg0.N) (r : Fin 256) (j : Fin 2048) {a : Fin 16896} (ha : a.val = t.val * 256 + r.val) :
    iblk m c 1 t (ix2 r j) = aD m c (ix2 a j) := by
  obtain ⟨-, ⟨e0, e1⟩, -⟩ := index0 t
  blk_ext [iblk, V, e0, e1, ha]

/-- The weights' block is the weights. -/
theorem weight_at (t : Fin cfg0.N) (j : Fin 2048) : iblk m c 3 t (ix2 0 j) = aG m c (ix1 j) := by
  obtain ⟨-, -, -, ⟨e0, e1⟩, -⟩ := index0 t
  rw [← weights_at m c]
  blk_ext [iblk, e0, e1]

/-- The blocks of the modulations at a point are those of the tile's rows: the gate, the shift and the scale. -/
theorem gate_at (t : Fin cfg0.N) (r : Fin 256) (j : Fin 2048) {a : Fin 16896} (ha : a.val = t.val * 256 + r.val) :
    iblk m c 2 t (ix3 0 0 j) = aP m c (ix3 ⟨modRow 5 a.val, modRow_lt (by omega) a.isLt⟩ 0 j) := by
  obtain ⟨-, -, ⟨e0, e1, e2⟩, -⟩ := index0 t
  rw [← modRow_tile r.isLt ha] at e0
  blk_ext [iblk, V, e0, e1, e2]
theorem shift_at (t : Fin cfg0.N) (r : Fin 256) (j : Fin 2048) {a : Fin 16896} (ha : a.val = t.val * 256 + r.val) :
    iblk m c 4 t (ix3 0 0 j) = aM m c (ix3 ⟨modRow 0 a.val, modRow_lt (by omega) a.isLt⟩ 0 j) := by
  obtain ⟨-, -, -, -, ⟨e0, e1, e2⟩, -⟩ := index0 t
  rw [← modRow_tile r.isLt ha] at e0
  blk_ext [iblk, V, e0, e1, e2]
theorem scale_at (t : Fin cfg0.N) (r : Fin 256) (j : Fin 2048) {a : Fin 16896} (ha : a.val = t.val * 256 + r.val) :
    iblk m c 5 t (ix3 0 0 j) = aM m c (ix3 ⟨modRow 1 a.val, modRow_lt (by omega) a.isLt⟩ 0 j) := by
  obtain ⟨-, -, -, -, -, ⟨e0, e1, e2⟩, -⟩ := index0 t
  rw [← modRow_tile r.isLt ha] at e0
  blk_ext [iblk, V, e0, e1, e2]

/-- The sum that the body forms is the tile's row with its gated residual. -/
theorem sum_at (t : Fin cfg0.N) (r : Fin 256) (k : Fin 2048) {a : Fin 16896} (ha : a.val = t.val * 256 + r.val) :
    k0_pay1 (iblk m c 0 t) (iblk m c 2 t) (iblk m c 1 t) (ix2 r k) = row m c a k := by
  rw [payX_at, rows_at m c t r k ha, added_at m c t r k ha, gate_at m c t r k ha]
  rfl

/-- THE BLOCKS: what a point writes is a tile of rows of each result. -/
theorem blockX_at (t : Fin cfg0.N) (y : S256x2048.Idx) (i : S16896x2048.Idx)
    (h0 : (i 0).val = t.val * 256 + (y 0).val) (h1 : (i 1).val = 0 * 2048 + (y 1).val) :
    out0_6 (iblk m c 0 t) (iblk m c 1 t) (iblk m c 2 t) (iblk m c 3 t) (iblk m c 4 t) (iblk m c 5 t) y = resultX m c i := by
  idx_vars y
  idx_vars i
  change i1.val = 0 * 2048 + y1.val at h1
  obtain rfl : i1 = y1 := Fin.ext (by omega)
  unfold out0_6
  frame_out
  exact sum_at m c t y0 i1 h0
theorem blockH_at (t : Fin cfg0.N) (y : S256x2048.Idx) (i : S16896x2048.Idx)
    (h0 : (i 0).val = t.val * 256 + (y 0).val) (h1 : (i 1).val = 0 * 2048 + (y 1).val) :
    out0_7 (iblk m c 0 t) (iblk m c 1 t) (iblk m c 2 t) (iblk m c 3 t) (iblk m c 4 t) (iblk m c 5 t) y = resultH m c i := by
  idx_vars y
  idx_vars i
  change i1.val = 0 * 2048 + y1.val at h1
  obtain rfl : i1 = y1 := Fin.ext (by omega)
  unfold out0_7
  frame_out
  rw [payH_at, shift_at m c t _ _ h0, scale_at m c t _ _ h0, funext fun k => sum_at m c t y0 k h0, funext fun k => weight_at m c t k]
  rfl

/-- The first output array after the run. -/
theorem arrayX_at : (dats m 0 c).arrAt 6 cfg0.N = resultX m c := by
  have h : (dats m 0 c).arrAt 6 cfg0.N = fun i => if (i 1).val / 2048 < 1 then resultX m c i else (dats m 0 c).A 6 i := by
    refine (dats m 0 c).arrAt_eq_of_coversWhere 6 _ (fun β => β 1 < 1) (by decide +kernel) (fun t _ y => ?_) (fun j => Iff.rfl)
    blk_simp
    rw [after0_6]
    obtain ⟨-, -, -, -, -, -, ⟨e0, e1⟩, -⟩ := index0 t
    exact blockX_at m c t _ _ (((cfg0.win 6).rect_emb_val t y 0).trans (by rw [e0]; rfl))
      (((cfg0.win 6).rect_emb_val t y 1).trans (by rw [e1]; rfl))
  rw [h]
  funext i
  exact if_pos (by have := (i 1).isLt; change (i 1).val < 2048 at this; omega)

/-- The second output array after the run. -/
theorem arrayH_at : (dats m 0 c).arrAt 7 cfg0.N = resultH m c := by
  have h : (dats m 0 c).arrAt 7 cfg0.N = fun i => if (i 1).val / 2048 < 1 then resultH m c i else (dats m 0 c).A 7 i := by
    refine (dats m 0 c).arrAt_eq_of_coversWhere 7 _ (fun β => β 1 < 1) (by decide +kernel) (fun t _ y => ?_) (fun j => Iff.rfl)
    blk_simp
    rw [after0_7]
    obtain ⟨-, -, -, -, -, -, -, e0, e1⟩ := index0 t
    exact blockH_at m c t _ _ (((cfg0.win 7).rect_emb_val t y 0).trans (by rw [e0]; rfl))
      (((cfg0.win 7).rect_emb_val t y 1).trans (by rw [e1]; rfl))
  rw [h]
  funext i
  exact if_pos (by have := (i 1).isLt; change (i 1).val < 2048 at this; omega)

end Cert.ResidIdeal.Val

namespace Cert.ResidRefIdeal.Val

open Cert.ResidRefIdeal Cert.ResidRefIdeal.Gen Idealize.ShloMosaic Cert.HeadsSpec

/-- The reference's rows with their residual, from the gate's part `T` of the modulations. -/
def sum (X D : FVec Ideal S16896x2048 .f32) (T : FVec Ideal S2x8448x2048 .f32) : FVec Ideal S16896x2048 .f32 :=
  addf X (shapeCast _ (mulf T (shapeCast _ D shapeCasts_S16896x2048_S2x8448x2048)) shapeCasts_S2x8448x2048_S16896x2048)

/-- They read at an element. -/
theorem sum_at (X D : FVec Ideal S16896x2048 .f32) (T : FVec Ideal S2x8448x2048 .f32) (a : Fin 16896) (j : Fin 2048) :
    sum X D T (ix2 a j) = X (ix2 a j) + T (ix3 ⟨a.val / 8448, by omega⟩ ⟨a.val % 8448, by omega⟩ j) * D (ix2 a j) := by
  unfold sum
  pointwise

end Cert.ResidRefIdeal.Val

namespace Cert.Resid

open Idealize.ShloMosaic Idealize.SL.Sem Cert.NormRefIdeal.Val Cert.ResidRefIdeal.Val

/-- The kernel runs to its end and leaves its arguments and semaphores as they were. -/
theorem frame_kernel : Cert.quiescent_Resid := fun m ρ _ => Cert.Resid.Gen.frame m ρ

/-- So does its idealization. -/
theorem frame_ideal : Cert.quiescent_ResidIdeal := fun m ρ _ => Cert.ResidIdeal.Gen.frame m ρ

/-- So does the reference, which has no semaphores. -/
theorem frame_reference : Cert.quiescent_ResidRefIdeal := fun m ρ _ =>
  (θ_run _ _ _).mono (fun r h => ⟨fun c => (h c).2.2, sem_eq_zero_of_no_sems rfl r.2⟩) (Cert.ResidRefIdeal.Value.run m ρ)

/-- The kernel's two results are the reference's. -/
theorem algebraic : Cert.algebraic_ResidIdeal_ResidRefIdeal := by
  intro m g m' g' _ hagree
  refine ⟨fun c => Cert.ResidIdeal.Val.resultX m c, fun c => Cert.ResidIdeal.Val.resultH m c,
    (θ_run _ _ _).mono (fun r h c => ⟨(h c).1.trans (Cert.ResidIdeal.Val.arrayX_at m c),
      (h c).2.1.trans (Cert.ResidIdeal.Val.arrayH_at m c), (h c).2.2⟩) (Cert.ResidIdeal.Value.run_blocks m g), ?_⟩
  refine (θ_run _ _ _).mono (fun r h c => ⟨(h c).1.trans ?_, (h c).2.1.trans ?_, (h c).2.2⟩) (Cert.ResidRefIdeal.Value.run m' g')
  all_goals obtain ⟨a0, a1, a2, a3, a4⟩ := hagree c
  · rw [a0, a1, a2]
    funext i
    idx_vars i
    refine (sum_at _ _ (part 5 Cert.ResidRefIdeal.Gen.slices_S3x6x2048_S3x1x2048_0_5_0 _) i0 i1).trans ?_
    exact congrArg (fun x : EReal => (_ : EReal) + x * (_ : EReal)) (part_at 5 _ _ _ _ _)
  · unfold Cert.ResidRefIdeal.Value.res_main_v52
    rw [a0, a1, a2, a3, a4]
    funext i
    idx_vars i
    refine (joined_at (norm (sum _ _ (part 5 Cert.ResidRefIdeal.Gen.slices_S3x6x2048_S3x1x2048_0_5_0 _)) _)
      (part 1 Cert.ResidRefIdeal.Gen.slices_S3x6x2048_S3x1x2048_0_1_0 _)
      (part 0 Cert.ResidRefIdeal.Gen.slices_S3x6x2048_S3x1x2048_0_0_0 _) i0 i1).trans ?_
    rw [norm_at]
    refine congrArg₂ (· + ·) (congrArg₂ (fun n x => n * (_ + x))
      (congrArg (fun x => HeadsSpec.normed Cert.NormIdeal.Val.nd x _ i1) (funext fun k => ?_)) (part_at 1 _ _ _ _ _)) (part_at 0 _ _ _ _ _)
    exact (sum_at _ _ _ i0 k).trans (congrArg (fun x : EReal => (_ : EReal) + x * (_ : EReal)) (part_at 5 _ _ _ _ _))

end Cert.Resid

end
-- ==== Proof.Final.lean ====
/- The layers' result: the latent rows with their last residual, gated, under the final norm. -/
module

public import proofs.«01_k».proof.Defs
public import proofs.«01_k».proof.Proof.Norm
public import proofs.«01_k».proof.Proof.Gen.Final.Frame
public import proofs.«01_k».proof.Proof.Gen.FinalIdeal.Value
public import proofs.«01_k».proof.Proof.Gen.FinalRefIdeal.Run
public import Idealize.ShloMosaic.Lib.Pipeline.ValueKit
public import Idealize.ShloMosaic.Lib.Quiescent

@[expose] public section

set_option maxRecDepth 16384

noncomputable section

namespace Cert.FinalIdeal.Val

open Cert.FinalIdeal Cert.FinalIdeal.Gen Idealize.ShloMosaic Idealize.ShloMosaic.TcCoe Idealize.SL.Sem Cert.HeadsSpec
open Cert.NormIdeal.Val (nd)

variable (m : (ℓ : Loc nD τ sig) → Buf (Elt Ideal) ℓ) (c : Dev nD)

/-- The block that each window is at, at point `t`: tile `t % 32` of batch row `t / 32` for the rows, what is added to them and
    the result, the last gate of the batch row, and the weights whole. -/
theorem index0 : ∀ t : Fin cfg0.N,
    ((cfg0.win 0).index t 0 = t.val / 32 ∧ (cfg0.win 0).index t 1 = t.val % 32 ∧ (cfg0.win 0).index t 2 = 0)
    ∧ ((cfg0.win 1).index t 0 = t.val / 32 ∧ (cfg0.win 1).index t 1 = t.val % 32 ∧ (cfg0.win 1).index t 2 = 0)
    ∧ ((cfg0.win 2).index t 0 = t.val / 32 * 6 + 5 ∧ (cfg0.win 2).index t 1 = 0 ∧ (cfg0.win 2).index t 2 = 0)
    ∧ ((cfg0.win 3).index t 0 = 0 ∧ (cfg0.win 3).index t 1 = 0)
    ∧ ((cfg0.win 4).index t 0 = t.val / 32 ∧ (cfg0.win 4).index t 1 = t.val % 32 ∧ (cfg0.win 4).index t 2 = 0) := by
  decide +kernel

/-- The rows, what is added to them, the modulations and the norm's weights, arguments. -/
abbrev aX : Vec Ideal S2x8448x2048 .f32 := m ((c.tc : Thread nD τ).loc main_arg0)
abbrev aD : Vec Ideal S2x8448x2048 .f32 := m ((c.tc : Thread nD τ).loc main_arg1)
abbrev aM : Vec Ideal S18x1x2048 .f32 := m ((c.tc : Thread nD τ).loc main_arg2)
abbrev aG : Vec Ideal S2048 .f32 := m ((c.tc : Thread nD τ).loc main_arg3)

/-- The region finds the norm's weights as one row. -/
theorem weights_at (j : Fin 2048) : V m c main_v0 (ix2 0 j) = aG m c (ix1 j) := by
  unfold V
  after_results
  pointwise

/-- A latent row with its gated residual. -/
def row (b : Fin 2) (s : Fin 8192) (j : Fin 2048) : EReal :=
  aX m c (ix3 b ⟨s.val, by omega⟩ j) + aM m c (ix3 ⟨b.val * 6 + 5, by omega⟩ 0 j) * aD m c (ix3 b ⟨s.val, by omega⟩ j)

/-- That row under the norm. -/
def result : Vec Ideal S2x8192x2048 .f32 := fun i => normed nd (row m c (i 0) (i 1)) (fun j : Fin 2048 => aG m c (ix1 j)) (i 2)

/-- The body's value at a point. -/
theorem pay_at (x : Vec Ideal S1x256x2048 .f32) (t : Vec Ideal S1x1x2048 .f32) (d : Vec Ideal S1x256x2048 .f32) (g : Vec Ideal S1x2048 .f32)
    (z : Fin 1) (r : Fin 256) (j : Fin 2048) :
    k0_pay1 x t d g (ix3 z r j)
      = normed nd (fun k : Fin 2048 => x (ix3 0 r k) + t (ix3 0 0 k) * d (ix3 0 r k)) (fun k => g (ix2 0 k)) j := by
  unfold normed nd
  pointwise [k0_pay1]

/-- The blocks at a point of the rows and of what is added to them: a tile of a batch row's latent rows. -/
theorem rows_at (t : Fin cfg0.N) (r : Fin 256) (j : Fin 2048) {b : Fin 2} {s : Fin 8192} (hb : b.val = t.val / 32 * 1 + 0)
    (hs : s.val = t.val % 32 * 256 + r.val) : iblk m c 0 t (ix3 0 r j) = aX m c (ix3 b ⟨s.val, by omega⟩ j) := by
  obtain ⟨⟨e0, e1, e2⟩, -⟩ := index0 t
  blk_ext [iblk, V, e0, e1, e2, hb, hs]
theorem added_at (t : Fin cfg0.N) (r : Fin 256) (j : Fin 2048) {b : Fin 2} {s : Fin 8192} (hb : b.val = t.val / 32 * 1 + 0)
    (hs : s.val = t.val % 32 * 256 + r.val) : iblk m c 1 t (ix3 0 r j) = aD m c (ix3 b ⟨s.val, by omega⟩ j) := by
  obtain ⟨-, ⟨e0, e1, e2⟩, -⟩ := index0 t
  blk_ext [iblk, V, e0, e1, e2, hb, hs]

/-- The gate's block is the batch row's last part of the modulations. -/
theorem gate_at (t : Fin cfg0.N) (j : Fin 2048) {b : Fin 2} (hb : b.val = t.val / 32 * 1 + 0) :
    iblk m c 2 t (ix3 0 0 j) = aM m c (ix3 ⟨b.val * 6 + 5, by omega⟩ 0 j) := by
  obtain ⟨-, -, ⟨e0, e1, e2⟩, -⟩ := index0 t
  blk_ext [iblk, V, e0, e1, e2, hb]

/-- The weights' block is the weights. -/
theorem weight_at (t : Fin cfg0.N) (j : Fin 2048) : iblk m c 3 t (ix2 0 j) = aG m c (ix1 j) := by
  obtain ⟨-, -, -, ⟨e0, e1⟩, -⟩ := index0 t
  rw [← weights_at m c]
  blk_ext [iblk, e0, e1]

/-- THE BLOCK: what a point writes is a tile of the result. -/
theorem block_at (t : Fin cfg0.N) (y : S1x256x2048.Idx) (i : S2x8192x2048.Idx) (h0 : (i 0).val = t.val / 32 * 1 + (y 0).val)
    (h1 : (i 1).val = t.val % 32 * 256 + (y 1).val) (h2 : (i 2).val = 0 * 2048 + (y 2).val) :
    out0_4 (iblk m c 0 t) (iblk m c 1 t) (iblk m c 2 t) (iblk m c 3 t) y = result m c i := by
  idx_vars y
  idx_vars i
  change i2.val = 0 * 2048 + y2.val at h2
  change i0.val = t.val / 32 * 1 + y0.val at h0
  obtain rfl : i2 = y2 := Fin.ext (by omega)
  have hb : i0.val = t.val / 32 * 1 + 0 := by omega
  unfold out0_4
  frame_out
  rw [pay_at, funext fun k => weight_at m c t k]
  refine congrArg (fun x => normed nd x _ i2) (funext fun k => ?_)
  rw [rows_at m c t y1 k hb h1, added_at m c t y1 k hb h1, gate_at m c t k hb]
  rfl

/-- The output array after the run. -/
theorem array_at : (dats m 0 c).arrAt 4 cfg0.N = result m c := by
  have h : (dats m 0 c).arrAt 4 cfg0.N = fun i => if (i 2).val / 2048 < 1 then result m c i else (dats m 0 c).A 4 i := by
    refine (dats m 0 c).arrAt_eq_of_coversWhere 4 _ (fun β => β 2 < 1) (by decide +kernel) (fun t _ y => ?_) (fun j => Iff.rfl)
    blk_simp
    rw [after0_4]
    obtain ⟨-, -, -, -, e0, e1, e2⟩ := index0 t
    exact block_at m c t _ _ (((cfg0.win 4).rect_emb_val t y 0).trans (by rw [e0]; rfl))
      (((cfg0.win 4).rect_emb_val t y 1).trans (by rw [e1]; rfl)) (((cfg0.win 4).rect_emb_val t y 2).trans (by rw [e2]; rfl))
  rw [h]
  funext i
  exact if_pos (by have := (i 2).isLt; change (i 2).val < 2048 at this; omega)

end Cert.FinalIdeal.Val

namespace Cert.FinalRefIdeal.Val

open Cert.FinalRefIdeal Cert.FinalRefIdeal.Gen Idealize.ShloMosaic Cert.HeadsSpec
open Cert.NormIdeal.Val (nd)

/-- The reference's latent rows with their gated residual. -/
def sum (X D : FVec Ideal S2x8448x2048 .f32) (M : FVec Ideal S18x1x2048 .f32) : FVec Ideal S2x8192x2048 .f32 :=
  addf (extractStridedSlice S2x8192x2048 ![0, 0, 0] X slices_S2x8448x2048_S2x8192x2048_0_0_0)
    (mulf (broadcastInDim S2x8192x2048 ![0, 1, 2] bcast_S2x1x2048_S2x8192x2048_0_1_2 (broadcastInDim S2x1x2048 ![0, 2]
      bcast_S2x2048_S2x1x2048_0_2 (shapeCast _ (extractStridedSlice S2x1x2048 ![0, 5, 0] (shapeCast _ M shapeCasts_S18x1x2048_S3x6x2048)
        slices_S3x6x2048_S2x1x2048_0_5_0) shapeCasts_S2x1x2048_S2x2048)))
      (extractStridedSlice S2x8192x2048 ![0, 0, 0] D slices_S2x8448x2048_S2x8192x2048_0_0_0))

/-- They read at an element. -/
theorem sum_at (X D : FVec Ideal S2x8448x2048 .f32) (M : FVec Ideal S18x1x2048 .f32) (b : Fin 2) (s : Fin 8192) (j : Fin 2048) :
    sum X D M (ix3 b s j)
      = X (ix3 b ⟨s.val, by omega⟩ j) + M (ix3 ⟨b.val * 6 + 5, by omega⟩ 0 j) * D (ix3 b ⟨s.val, by omega⟩ j) := by
  unfold sum
  pointwise

/-- The reference's norm. -/
def norm (X : FVec Ideal S2x8192x2048 .f32) (g : FVec Ideal S2048 .f32) : FVec Ideal S2x8192x2048 .f32 :=
  mulf (mulf X (broadcastInDim S2x8192x2048 ![0, 1, 2] bcast_S2x8192x1_S2x8192x2048_0_1_2 (Host.rsqrt (addf (Host.divf
    (broadcastInDim S2x8192x1 ![0, 1] bcast_S2x8192_S2x8192x1_0_1 (Host.reduceAdd (mulf X X) (constant S_ .f32 0x00000000#32)
      reducesTo_S2x8192x2048_S2x8192_d2 h_S_))
    (broadcastInDim S2x8192x1 ![] bcast_S_S2x8192x1 (constant S_ .f32 0x45000000#32)))
    (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g))

/-- It read at an element. -/
theorem norm_at (X : FVec Ideal S2x8192x2048 .f32) (g : FVec Ideal S2048 .f32) (b : Fin 2) (s : Fin 8192) (k : Fin 2048) :
    norm X g (ix3 b s k) = normed nd (fun j : Fin 2048 => X (ix3 b s j)) (fun j => g (ix1 j)) k := by
  unfold norm normed nd
  pointwise

end Cert.FinalRefIdeal.Val

namespace Cert.Final

open Idealize.ShloMosaic Idealize.SL.Sem Cert.FinalRefIdeal.Val

/-- The kernel runs to its end and leaves its arguments and semaphores as they were. -/
theorem frame_kernel : Cert.quiescent_Final := fun m ρ _ => Cert.Final.Gen.frame m ρ

/-- So does its idealization. -/
theorem frame_ideal : Cert.quiescent_FinalIdeal := fun m ρ _ => Cert.FinalIdeal.Gen.frame m ρ

/-- So does the reference, which has no semaphores. -/
theorem frame_reference : Cert.quiescent_FinalRefIdeal := fun m ρ _ =>
  (θ_run _ _ _).mono (fun r h => ⟨fun c => (h c).2, sem_eq_zero_of_no_sems rfl r.2⟩) (Cert.FinalRefIdeal.Value.run m ρ)

/-- The kernel's final rows are the reference's. -/
theorem algebraic : Cert.algebraic_FinalIdeal_FinalRefIdeal := by
  intro m g m' g' _ hagree
  refine ⟨fun c => Cert.FinalIdeal.Val.result m c,
    (θ_run _ _ _).mono (fun r h c => ⟨(h c).1.trans (Cert.FinalIdeal.Val.array_at m c), (h c).2⟩) (Cert.FinalIdeal.Value.run_blocks m g), ?_⟩
  refine (θ_run _ _ _).mono (fun r h c => ⟨(h c).1.trans ?_, (h c).2⟩) (Cert.FinalRefIdeal.Value.run m' g')
  obtain ⟨a0, a1, a2, a3⟩ := hagree c
  rw [a0, a1, a2, a3]
  funext i
  idx_vars i
  refine (norm_at (sum _ _ _) _ i0 i1 i2).trans ?_
  exact congrArg (fun x => HeadsSpec.normed Cert.NormIdeal.Val.nd x _ i2) (funext fun k => sum_at _ _ _ i0 i1 k)

end Cert.Final

end
-- ==== Proof.Readout.lean ====
/- The readout of the time mixing: per direction the normed heads with their scale, shift and bonus, gated, and the sum of the two. -/
module

public import proofs.«01_k».proof.Defs
public import proofs.«01_k».proof.Proof.Gen.Readout.Frame
public import proofs.«01_k».proof.Proof.Gen.ReadoutIdeal.Value
public import proofs.«01_k».proof.Proof.Gen.ReadoutRefIdeal.Run
public import Idealize.ShloMosaic.Lib.Pipeline.ValueKit
public import Idealize.ShloMosaic.Lib.Quiescent

@[expose] public section

set_option maxRecDepth 16384

noncomputable section

namespace Cert.ReadoutIdeal.Val

open Cert.ReadoutIdeal Cert.ReadoutIdeal.Gen Idealize.ShloMosaic Idealize.ShloMosaic.TcCoe Idealize.SL.Sem

variable (m : (ℓ : Loc nD τ sig) → Buf (Elt Ideal) ℓ) (c : Dev nD)

/-- The block that each window is at, at point `t`: tile `t` of the rows and the result, and the weights whole. -/
theorem index0 : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = t.val ∧ (cfg0.win 2).index t 1 = 0)
    ∧ ((cfg0.win 3).index t 0 = t.val ∧ (cfg0.win 3).index t 1 = 0)
    ∧ ((cfg0.win 4).index t 0 = t.val ∧ (cfg0.win 4).index t 1 = 0)
    ∧ ((cfg0.win 5).index t 0 = t.val ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = t.val ∧ (cfg0.win 8).index t 1 = 0) := by
  decide +kernel

/-- Per direction the normed heads, the bonus and the gate, and the two rows of weights: arguments. -/
abbrev aY0 : Vec Ideal S16896x1024 .f32 := m ((c.tc : Thread nD τ).loc main_arg0)
abbrev aY1 : Vec Ideal S16896x1024 .f32 := m ((c.tc : Thread nD τ).loc main_arg1)
abbrev aB0 : Vec Ideal S16896x1024 .f32 := m ((c.tc : Thread nD τ).loc main_arg2)
abbrev aB1 : Vec Ideal S16896x1024 .f32 := m ((c.tc : Thread nD τ).loc main_arg3)
abbrev aG0 : Vec Ideal S16896x1024 .f32 := m ((c.tc : Thread nD τ).loc main_arg4)
abbrev aG1 : Vec Ideal S16896x1024 .f32 := m ((c.tc : Thread nD τ).loc main_arg5)
abbrev aW : Vec Ideal S1024 .f32 := m ((c.tc : Thread nD τ).loc main_arg6)
abbrev aS : Vec Ideal S1024 .f32 := m ((c.tc : Thread nD τ).loc main_arg7)

/-- The region finds the weights as rows. -/
theorem scales_at (j : Fin 1024) : V m c main_v0 (ix2 0 j) = aW m c (ix1 j) := by
  unfold V
  after_results
  pointwise
theorem shifts_at (j : Fin 1024) : V m c main_v1 (ix2 0 j) = aS m c (ix1 j) := by
  unfold V
  after_results
  pointwise

/-- One direction's readout at an entry, from its normed entry, its weights, its bonus and its gate. -/
def read (y w s b g : EReal) : EReal := (y * w + s + b) * g

/-- The sum of the two directions', entry by entry. -/
def result : Vec Ideal S16896x1024 .bf16 := fun i =>
  read (aY0 m c i) (aW m c (ix1 (i 1))) (aS m c (ix1 (i 1))) (aB0 m c i) (aG0 m c i)
    + read (aY1 m c i) (aW m c (ix1 (i 1))) (aS m c (ix1 (i 1))) (aB1 m c i) (aG1 m c i)

/-- The body's value at a point. -/
theorem pay_at (w s : Vec Ideal S1x1024 .f32) (y b g y' b' g' : Vec Ideal S256x1024 .f32) (r : Fin 256) (j : Fin 1024) :
    k0_pay1 w s y b g y' b' g' (ix2 r j)
      = read (y (ix2 r j)) (w (ix2 0 j)) (s (ix2 0 j)) (b (ix2 r j)) (g (ix2 r j))
        + read (y' (ix2 r j)) (w (ix2 0 j)) (s (ix2 0 j)) (b' (ix2 r j)) (g' (ix2 r j)) := by
  unfold read
  pointwise [k0_pay1]

section Tile

variable (t : Fin cfg0.N) (r : Fin 256) (j : Fin 1024) {a : Fin 16896} (ha : a.val = t.val * 256 + r.val)
include ha

/-- The blocks at a point of the six arrays of rows are tiles of their rows. -/
theorem y0_at : iblk m c 0 t (ix2 r j) = aY0 m c (ix2 a j) := by
  obtain ⟨⟨e0, e1⟩, -⟩ := index0 t
  blk_ext [iblk, V, e0, e1, ha]
theorem y1_at : iblk m c 1 t (ix2 r j) = aY1 m c (ix2 a j) := by
  obtain ⟨-, ⟨e0, e1⟩, -⟩ := index0 t
  blk_ext [iblk, V, e0, e1, ha]
theorem b0_at : iblk m c 2 t (ix2 r j) = aB0 m c (ix2 a j) := by
  obtain ⟨-, -, ⟨e0, e1⟩, -⟩ := index0 t
  blk_ext [iblk, V, e0, e1, ha]
theorem b1_at : iblk m c 3 t (ix2 r j) = aB1 m c (ix2 a j) := by
  obtain ⟨-, -, -, ⟨e0, e1⟩, -⟩ := index0 t
  blk_ext [iblk, V, e0, e1, ha]
theorem g0_at : iblk m c 4 t (ix2 r j) = aG0 m c (ix2 a j) := by
  obtain ⟨-, -, -, -, ⟨e0, e1⟩, -⟩ := index0 t
  blk_ext [iblk, V, e0, e1, ha]
theorem g1_at : iblk m c 5 t (ix2 r j) = aG1 m c (ix2 a j) := by
  obtain ⟨-, -, -, -, -, ⟨e0, e1⟩, -⟩ := index0 t
  blk_ext [iblk, V, e0, e1, ha]

end Tile

/-- The weights' blocks are the weights. -/
theorem scale_at (t : Fin cfg0.N) (j : Fin 1024) : iblk m c 6 t (ix2 0 j) = aW m c (ix1 j) := by
  obtain ⟨-, -, -, -, -, -, ⟨e0, e1⟩, -⟩ := index0 t
  rw [← scales_at m c]
  blk_ext [iblk, e0, e1]
theorem shift_at (t : Fin cfg0.N) (j : Fin 1024) : iblk m c 7 t (ix2 0 j) = aS m c (ix1 j) := by
  obtain ⟨-, -, -, -, -, -, -, ⟨e0, e1⟩, -⟩ := index0 t
  rw [← shifts_at m c]
  blk_ext [iblk, e0, e1]

/-- THE BLOCK: what a point writes is a tile of rows of the result. -/
theorem block_at (t : Fin cfg0.N) (y : S256x1024.Idx) (i : S16896x1024.Idx)
    (h0 : (i 0).val = t.val * 256 + (y 0).val) (h1 : (i 1).val = 0 * 1024 + (y 1).val) :
    out0_8 (iblk m c 0 t) (iblk m c 1 t) (iblk m c 2 t) (iblk m c 3 t) (iblk m c 4 t) (iblk m c 5 t) (iblk m c 6 t) (iblk m c 7 t) y
      = result m c i := by
  idx_vars y
  idx_vars i
  change i1.val = 0 * 1024 + y1.val at h1
  obtain rfl : i1 = y1 := Fin.ext (by omega)
  unfold out0_8
  frame_out
  rw [pay_at, y0_at m c t _ _ h0, y1_at m c t _ _ h0, b0_at m c t _ _ h0, b1_at m c t _ _ h0, g0_at m c t _ _ h0, g1_at m c t _ _ h0,
    scale_at, shift_at]
  rfl

/-- The output array after the run. -/
theorem array_at : (dats m 0 c).arrAt 8 cfg0.N = result m c := by
  have h : (dats m 0 c).arrAt 8 cfg0.N = fun i => if (i 1).val / 1024 < 1 then result m c i else (dats m 0 c).A 8 i := by
    refine (dats m 0 c).arrAt_eq_of_coversWhere 8 _ (fun β => β 1 < 1) (by decide +kernel) (fun t _ y => ?_) (fun j => Iff.rfl)
    blk_simp
    rw [after0_8]
    obtain ⟨-, -, -, -, -, -, -, -, e0, e1⟩ := index0 t
    exact block_at m c t _ _ (((cfg0.win 8).rect_emb_val t y 0).trans (by rw [e0]; rfl))
      (((cfg0.win 8).rect_emb_val t y 1).trans (by rw [e1]; rfl))
  rw [h]
  funext i
  exact if_pos (by have := (i 1).isLt; change (i 1).val < 1024 at this; omega)

end Cert.ReadoutIdeal.Val

namespace Cert.Readout

open Idealize.ShloMosaic Idealize.SL.Sem

/-- The kernel runs to its end and leaves its arguments and semaphores as they were. -/
theorem frame_kernel : Cert.quiescent_Readout := fun m ρ _ => Cert.Readout.Gen.frame m ρ

/-- So does its idealization. -/
theorem frame_ideal : Cert.quiescent_ReadoutIdeal := fun m ρ _ => Cert.ReadoutIdeal.Gen.frame m ρ

/-- So does the reference, which has no semaphores. -/
theorem frame_reference : Cert.quiescent_ReadoutRefIdeal := fun m ρ _ =>
  (θ_run _ _ _).mono (fun r h => ⟨fun c => (h c).2, sem_eq_zero_of_no_sems rfl r.2⟩) (Cert.ReadoutRefIdeal.Value.run m ρ)

/-- The kernel's readout is the reference's. -/
theorem algebraic : Cert.algebraic_ReadoutIdeal_ReadoutRefIdeal := by
  intro m g m' g' _ hagree
  refine ⟨fun c => Cert.ReadoutIdeal.Val.result m c,
    (θ_run _ _ _).mono (fun r h c => ⟨(h c).1.trans (Cert.ReadoutIdeal.Val.array_at m c), (h c).2⟩) (Cert.ReadoutIdeal.Value.run_blocks m g), ?_⟩
  refine (θ_run _ _ _).mono (fun r h c => ⟨(h c).1.trans ?_, (h c).2⟩) (Cert.ReadoutRefIdeal.Value.run m' g')
  obtain ⟨a0, a1, a2, a3, a4, a5, a6, a7⟩ := hagree c
  rw [a0, a1, a2, a3, a4, a5, a6, a7]
  funext i
  idx_vars i
  pointwise
  rfl

end Cert.Readout

end
-- ==== Proof.lean ====
/- The proof of every claim of this certificate: one module for each call. -/
module

public import proofs.«01_k».proof.Defs
public import proofs.«01_k».proof.Proof.Flash
public import proofs.«01_k».proof.Proof.Rw
public import proofs.«01_k».proof.Proof.Gate
public import proofs.«01_k».proof.Proof.Merge
public import proofs.«01_k».proof.Proof.Out
public import proofs.«01_k».proof.Proof.Query
public import proofs.«01_k».proof.Proof.Heads
public import proofs.«01_k».proof.Proof.Ctx
public import proofs.«01_k».proof.Proof.Mods
public import proofs.«01_k».proof.Proof.Resid
public import proofs.«01_k».proof.Proof.Norm
public import proofs.«01_k».proof.Proof.Final
public import proofs.«01_k».proof.Proof.Readout
public import proofs.«01_k».proof.Proof.Gen.Rw.Frame
public import proofs.«01_k».proof.Proof.Gen.RwIdeal.Frame
public import proofs.«01_k».proof.Proof.Gen.RwRefIdeal.Run
public import proofs.«01_k».proof.Proof.Gen.Gate.Frame
public import proofs.«01_k».proof.Proof.Gen.GateIdeal.Frame
public import proofs.«01_k».proof.Proof.Gen.GateRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.Query.Frame
public import proofs.«01_k».proof.Proof.Gen.QueryIdeal.Frame
public import proofs.«01_k».proof.Proof.Gen.QueryRefIdeal.Run
public import proofs.«01_k».proof.Proof.Gen.Heads.Frame
public import proofs.«01_k».proof.Proof.Gen.HeadsIdeal.Frame
public import proofs.«01_k».proof.Proof.Gen.HeadsRefIdeal.Run
public import proofs.«01_k».proof.Proof.Gen.Ctx.Frame
public import proofs.«01_k».proof.Proof.Gen.CtxIdeal.Frame
public import proofs.«01_k».proof.Proof.Gen.CtxRefIdeal.Run
public import proofs.«01_k».proof.Proof.Gen.Mods.Frame
public import proofs.«01_k».proof.Proof.Gen.ModsIdeal.Frame
public import proofs.«01_k».proof.Proof.Gen.ModsRefIdeal.Run
public import proofs.«01_k».proof.Proof.Gen.Resid.Frame
public import proofs.«01_k».proof.Proof.Gen.ResidIdeal.Frame
public import proofs.«01_k».proof.Proof.Gen.ResidRefIdeal.Run
public import proofs.«01_k».proof.Proof.Gen.Readout.Frame
public import proofs.«01_k».proof.Proof.Gen.ReadoutIdeal.Frame
public import proofs.«01_k».proof.Proof.Gen.ReadoutRefIdeal.Run
public import proofs.«01_k».proof.Proof.Gen.Final.Frame
public import proofs.«01_k».proof.Proof.Gen.FinalIdeal.Frame
public import proofs.«01_k».proof.Proof.Gen.FinalRefIdeal.Run
public import proofs.«01_k».proof.Proof.Gen.Norm.Frame
public import proofs.«01_k».proof.Proof.Gen.NormIdeal.Frame
public import proofs.«01_k».proof.Proof.Gen.NormRefIdeal.Run

@[expose] public section

noncomputable section

namespace Cert.Proof

/-- All claims, from the modules that prove them. -/
theorem claim : Cert.Claim := ⟨Cert.Kernel.Gen.facts, Cert.KernelIdeal.Gen.facts, Cert.ReferenceIdeal.Gen.facts,
  Cert.Rw.Gen.facts, Cert.RwIdeal.Gen.facts, Cert.RwRefIdeal.Gen.facts,
  Cert.Gate.Gen.facts, Cert.GateIdeal.Gen.facts, Cert.GateRefIdeal.Gen.facts,
  Cert.Merge.Gen.facts, Cert.MergeIdeal.Gen.facts, Cert.MergeRefIdeal.Gen.facts,
  Cert.Out.Gen.facts, Cert.OutIdeal.Gen.facts, Cert.OutRefIdeal.Gen.facts,
  Cert.Query.Gen.facts, Cert.QueryIdeal.Gen.facts, Cert.QueryRefIdeal.Gen.facts,
  Cert.Mods.Gen.facts, Cert.ModsIdeal.Gen.facts, Cert.ModsRefIdeal.Gen.facts,
  Cert.Norm.Gen.facts, Cert.NormIdeal.Gen.facts, Cert.NormRefIdeal.Gen.facts,
  Cert.Resid.Gen.facts, Cert.ResidIdeal.Gen.facts, Cert.ResidRefIdeal.Gen.facts,
  Cert.Readout.Gen.facts, Cert.ReadoutIdeal.Gen.facts, Cert.ReadoutRefIdeal.Gen.facts,
  Cert.Final.Gen.facts, Cert.FinalIdeal.Gen.facts, Cert.FinalRefIdeal.Gen.facts,
  Cert.Ctx.Gen.facts, Cert.CtxIdeal.Gen.facts, Cert.CtxRefIdeal.Gen.facts,
  Cert.Heads.Gen.facts, Cert.HeadsIdeal.Gen.facts, Cert.HeadsRefIdeal.Gen.facts,
  Cert.Pre_finite.Val.facts, Cert.Pre_finite_ctx.Val.facts, Cert.Pre_finite_heads.Val.facts,
  Cert.Flash.frame_kernel, Cert.Flash.frame_ideal, Cert.Flash.frame_ideal_finite,
  Cert.Flash.frame_reference, Cert.Flash.frame_reference_finite,
  Cert.Rw.frame_kernel, Cert.Rw.frame_ideal, Cert.Rw.frame_reference,
  Cert.Gate.frame_kernel, Cert.Gate.frame_ideal, Cert.Gate.frame_reference,
  Cert.Merge.frame_kernel, Cert.Merge.frame_ideal, Cert.Merge.frame_reference,
  Cert.Out.frame_kernel, Cert.Out.frame_ideal, Cert.Out.frame_reference,
  Cert.Query.frame_kernel, Cert.Query.frame_ideal, Cert.Query.frame_reference,
  Cert.Mods.frame_kernel, Cert.Mods.frame_ideal, Cert.Mods.frame_reference,
  Cert.Norm.frame_kernel, Cert.Norm.frame_ideal, Cert.Norm.frame_reference,
  Cert.Resid.frame_kernel, Cert.Resid.frame_ideal, Cert.Resid.frame_reference,
  Cert.Readout.frame_kernel, Cert.Readout.frame_ideal, Cert.Readout.frame_reference,
  Cert.Final.frame_kernel, Cert.Final.frame_ideal, Cert.Final.frame_reference,
  Cert.Ctx.frame_kernel, Cert.Ctx.frame_ideal, Cert.Ctx.frame_ideal_finite, Cert.Ctx.frame_reference,
  Cert.Ctx.frame_reference_finite,
  Cert.Heads.frame_kernel, Cert.Heads.frame_ideal, Cert.Heads.frame_ideal_finite, Cert.Heads.frame_reference,
  Cert.Heads.frame_reference_finite,
  trivial, Cert.Flash.algebraic,
  trivial, Cert.Rw.algebraic,
  trivial, Cert.Gate.algebraic,
  trivial, Cert.Merge.algebraic,
  trivial, Cert.Out.algebraic,
  trivial, Cert.Query.algebraic,
  trivial, Cert.Mods.algebraic,
  trivial, Cert.Norm.algebraic,
  trivial, Cert.Resid.algebraic,
  trivial, Cert.Readout.algebraic,
  trivial, Cert.Final.algebraic,
  trivial, Cert.Ctx.algebraic,
  trivial, Cert.Heads.algebraic⟩

end Cert.Proof

end
